-- ==== Defs.lean ====
def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_FoxProjKernel (m : (ℓ : Loc Cert.FoxProjKernel.nD Cert.FoxProjKernel.τ Cert.FoxProjKernel.sig) → Buf (Elt Bits) ℓ) : Prop :=
  True

def Pre_FoxProjKernelIdeal (m : (ℓ : Loc Cert.FoxProjKernelIdeal.nD Cert.FoxProjKernelIdeal.τ Cert.FoxProjKernelIdeal.sig) → Buf (Elt Ideal) ℓ) : Prop :=
  True

def Pre_FoxProjReferenceIdeal (m : (ℓ : Loc Cert.FoxProjReferenceIdeal.nD Cert.FoxProjReferenceIdeal.τ Cert.FoxProjReferenceIdeal.sig) → Buf (Elt Ideal) ℓ) : Prop :=
  True

def Pre_ConvProjKernel (m : (ℓ : Loc Cert.ConvProjKernel.nD Cert.ConvProjKernel.τ Cert.ConvProjKernel.sig) → Buf (Elt Bits) ℓ) : Prop :=
  True

def Pre_ConvProjKernelIdeal (m : (ℓ : Loc Cert.ConvProjKernelIdeal.nD Cert.ConvProjKernelIdeal.τ Cert.ConvProjKernelIdeal.sig) → Buf (Elt Ideal) ℓ) : Prop :=
  True

def Pre_ConvProjReferenceIdeal (m : (ℓ : Loc Cert.ConvProjReferenceIdeal.nD Cert.ConvProjReferenceIdeal.τ Cert.ConvProjReferenceIdeal.sig) → Buf (Elt Ideal) ℓ) : Prop :=
  True

def Pre_MemProjKernel (m : (ℓ : Loc Cert.MemProjKernel.nD Cert.MemProjKernel.τ Cert.MemProjKernel.sig) → Buf (Elt Bits) ℓ) : Prop :=
  True

def Pre_MemProjKernelIdeal (m : (ℓ : Loc Cert.MemProjKernelIdeal.nD Cert.MemProjKernelIdeal.τ Cert.MemProjKernelIdeal.sig) → Buf (Elt Ideal) ℓ) : Prop :=
  True

def Pre_MemProjReferenceIdeal (m : (ℓ : Loc Cert.MemProjReferenceIdeal.nD Cert.MemProjReferenceIdeal.τ Cert.MemProjReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ConvOutKernel (m : (ℓ : Loc Cert.ConvOutKernel.nD Cert.ConvOutKernel.τ Cert.ConvOutKernel.sig) → Buf (Elt Bits) ℓ) : Prop :=
  True

def Pre_ConvOutKernelIdeal (m : (ℓ : Loc Cert.ConvOutKernelIdeal.nD Cert.ConvOutKernelIdeal.τ Cert.ConvOutKernelIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_FoxProjKernel [hFoxProjKernel : Cert.FoxProjKernel.Facts] : Prop :=
  ∀ (m : (ℓ : Loc Cert.FoxProjKernel.nD Cert.FoxProjKernel.τ Cert.FoxProjKernel.sig) → Buf (Elt Bits) ℓ) (g : Dev Cert.FoxProjKernel.nD → PrngReg), Pre_FoxProjKernel m →
    θ_run (Cert.FoxProjKernel.defs (F := Bits)) (onTc (τ := Cert.FoxProjKernel.τ) (Cert.FoxProjKernel.main (F := Bits))) ⟨m, fun _ => 0, g⟩ (fun r => (∀ c : Dev Cert.FoxProjKernel.nD,
      r.2.mem ((c.tc : Thread Cert.FoxProjKernel.nD Cert.FoxProjKernel.τ).loc Cert.FoxProjKernel.main_arg0) = m ((c.tc : Thread Cert.FoxProjKernel.nD Cert.FoxProjKernel.τ).loc Cert.FoxProjKernel.main_arg0)
      ∧ r.2.mem ((c.tc : Thread Cert.FoxProjKernel.nD Cert.FoxProjKernel.τ).loc Cert.FoxProjKernel.main_arg1) = m ((c.tc : Thread Cert.FoxProjKernel.nD Cert.FoxProjKernel.τ).loc Cert.FoxProjKernel.main_arg1)
      ∧ r.2.mem ((c.tc : Thread Cert.FoxProjKernel.nD Cert.FoxProjKernel.τ).loc Cert.FoxProjKernel.main_arg2) = m ((c.tc : Thread Cert.FoxProjKernel.nD Cert.FoxProjKernel.τ).loc Cert.FoxProjKernel.main_arg2))
      ∧ r.2.sem = fun _ => 0)

def quiescent_FoxProjKernelIdeal [hFoxProjKernelIdeal : Cert.FoxProjKernelIdeal.Facts] : Prop :=
  ∀ (m : (ℓ : Loc Cert.FoxProjKernelIdeal.nD Cert.FoxProjKernelIdeal.τ Cert.FoxProjKernelIdeal.sig) → Buf (Elt Ideal) ℓ) (g : Dev Cert.FoxProjKernelIdeal.nD → PrngReg), Pre_FoxProjKernelIdeal m →
    θ_run (Cert.FoxProjKernelIdeal.defs (F := Ideal)) (onTc (τ := Cert.FoxProjKernelIdeal.τ) (Cert.FoxProjKernelIdeal.main (F := Ideal))) ⟨m, fun _ => 0, g⟩ (fun r => (∀ c : Dev Cert.FoxProjKernelIdeal.nD,
      r.2.mem ((c.tc : Thread Cert.FoxProjKernelIdeal.nD Cert.FoxProjKernelIdeal.τ).loc Cert.FoxProjKernelIdeal.main_arg0) = m ((c.tc : Thread Cert.FoxProjKernelIdeal.nD Cert.FoxProjKernelIdeal.τ).loc Cert.FoxProjKernelIdeal.main_arg0)
      ∧ r.2.mem ((c.tc : Thread Cert.FoxProjKernelIdeal.nD Cert.FoxProjKernelIdeal.τ).loc Cert.FoxProjKernelIdeal.main_arg1) = m ((c.tc : Thread Cert.FoxProjKernelIdeal.nD Cert.FoxProjKernelIdeal.τ).loc Cert.FoxProjKernelIdeal.main_arg1)
      ∧ r.2.mem ((c.tc : Thread Cert.FoxProjKernelIdeal.nD Cert.FoxProjKernelIdeal.τ).loc Cert.FoxProjKernelIdeal.main_arg2) = m ((c.tc : Thread Cert.FoxProjKernelIdeal.nD Cert.FoxProjKernelIdeal.τ).loc Cert.FoxProjKernelIdeal.main_arg2))
      ∧ r.2.sem = fun _ => 0)

def quiescent_FoxProjReferenceIdeal [hFoxProjReferenceIdeal : Cert.FoxProjReferenceIdeal.Facts] : Prop :=
  ∀ (m : (ℓ : Loc Cert.FoxProjReferenceIdeal.nD Cert.FoxProjReferenceIdeal.τ Cert.FoxProjReferenceIdeal.sig) → Buf (Elt Ideal) ℓ) (g : Dev Cert.FoxProjReferenceIdeal.nD → PrngReg), Pre_FoxProjReferenceIdeal m →
    θ_run (Cert.FoxProjReferenceIdeal.defs (F := Ideal)) (onTc (τ := Cert.FoxProjReferenceIdeal.τ) (Cert.FoxProjReferenceIdeal.main (F := Ideal))) ⟨m, fun _ => 0, g⟩ (fun r => (∀ c : Dev Cert.FoxProjReferenceIdeal.nD,
      r.2.mem ((c.tc : Thread Cert.FoxProjReferenceIdeal.nD Cert.FoxProjReferenceIdeal.τ).loc Cert.FoxProjReferenceIdeal.main_arg0) = m ((c.tc : Thread Cert.FoxProjReferenceIdeal.nD Cert.FoxProjReferenceIdeal.τ).loc Cert.FoxProjReferenceIdeal.main_arg0)
      ∧ r.2.mem ((c.tc : Thread Cert.FoxProjReferenceIdeal.nD Cert.FoxProjReferenceIdeal.τ).loc Cert.FoxProjReferenceIdeal.main_arg1) = m ((c.tc : Thread Cert.FoxProjReferenceIdeal.nD Cert.FoxProjReferenceIdeal.τ).loc Cert.FoxProjReferenceIdeal.main_arg1)
      ∧ r.2.mem ((c.tc : Thread Cert.FoxProjReferenceIdeal.nD Cert.FoxProjReferenceIdeal.τ).loc Cert.FoxProjReferenceIdeal.main_arg2) = m ((c.tc : Thread Cert.FoxProjReferenceIdeal.nD Cert.FoxProjReferenceIdeal.τ).loc Cert.FoxProjReferenceIdeal.main_arg2))
      ∧ r.2.sem = fun _ => 0)

def quiescent_ConvProjKernel [hConvProjKernel : Cert.ConvProjKernel.Facts] : Prop :=
  ∀ (m : (ℓ : Loc Cert.ConvProjKernel.nD Cert.ConvProjKernel.τ Cert.ConvProjKernel.sig) → Buf (Elt Bits) ℓ) (g : Dev Cert.ConvProjKernel.nD → PrngReg), Pre_ConvProjKernel m →
    θ_run (Cert.ConvProjKernel.defs (F := Bits)) (onTc (τ := Cert.ConvProjKernel.τ) (Cert.ConvProjKernel.main (F := Bits))) ⟨m, fun _ => 0, g⟩ (fun r => (∀ c : Dev Cert.ConvProjKernel.nD,
      r.2.mem ((c.tc : Thread Cert.ConvProjKernel.nD Cert.ConvProjKernel.τ).loc Cert.ConvProjKernel.main_arg0) = m ((c.tc : Thread Cert.ConvProjKernel.nD Cert.ConvProjKernel.τ).loc Cert.ConvProjKernel.main_arg0)
      ∧ r.2.mem ((c.tc : Thread Cert.ConvProjKernel.nD Cert.ConvProjKernel.τ).loc Cert.ConvProjKernel.main_arg1) = m ((c.tc : Thread Cert.ConvProjKernel.nD Cert.ConvProjKernel.τ).loc Cert.ConvProjKernel.main_arg1)
      ∧ r.2.mem ((c.tc : Thread Cert.ConvProjKernel.nD Cert.ConvProjKernel.τ).loc Cert.ConvProjKernel.main_arg2) = m ((c.tc : Thread Cert.ConvProjKernel.nD Cert.ConvProjKernel.τ).loc Cert.ConvProjKernel.main_arg2))
      ∧ r.2.sem = fun _ => 0)

def quiescent_ConvProjKernelIdeal [hConvProjKernelIdeal : Cert.ConvProjKernelIdeal.Facts] : Prop :=
  ∀ (m : (ℓ : Loc Cert.ConvProjKernelIdeal.nD Cert.ConvProjKernelIdeal.τ Cert.ConvProjKernelIdeal.sig) → Buf (Elt Ideal) ℓ) (g : Dev Cert.ConvProjKernelIdeal.nD → PrngReg), Pre_ConvProjKernelIdeal m →
    θ_run (Cert.ConvProjKernelIdeal.defs (F := Ideal)) (onTc (τ := Cert.ConvProjKernelIdeal.τ) (Cert.ConvProjKernelIdeal.main (F := Ideal))) ⟨m, fun _ => 0, g⟩ (fun r => (∀ c : Dev Cert.ConvProjKernelIdeal.nD,
      r.2.mem ((c.tc : Thread Cert.ConvProjKernelIdeal.nD Cert.ConvProjKernelIdeal.τ).loc Cert.ConvProjKernelIdeal.main_arg0) = m ((c.tc : Thread Cert.ConvProjKernelIdeal.nD Cert.ConvProjKernelIdeal.τ).loc Cert.ConvProjKernelIdeal.main_arg0)
      ∧ r.2.mem ((c.tc : Thread Cert.ConvProjKernelIdeal.nD Cert.ConvProjKernelIdeal.τ).loc Cert.ConvProjKernelIdeal.main_arg1) = m ((c.tc : Thread Cert.ConvProjKernelIdeal.nD Cert.ConvProjKernelIdeal.τ).loc Cert.ConvProjKernelIdeal.main_arg1)
      ∧ r.2.mem ((c.tc : Thread Cert.ConvProjKernelIdeal.nD Cert.ConvProjKernelIdeal.τ).loc Cert.ConvProjKernelIdeal.main_arg2) = m ((c.tc : Thread Cert.ConvProjKernelIdeal.nD Cert.ConvProjKernelIdeal.τ).loc Cert.ConvProjKernelIdeal.main_arg2))
      ∧ r.2.sem = fun _ => 0)

def quiescent_ConvProjReferenceIdeal [hConvProjReferenceIdeal : Cert.ConvProjReferenceIdeal.Facts] : Prop :=
  ∀ (m : (ℓ : Loc Cert.ConvProjReferenceIdeal.nD Cert.ConvProjReferenceIdeal.τ Cert.ConvProjReferenceIdeal.sig) → Buf (Elt Ideal) ℓ) (g : Dev Cert.ConvProjReferenceIdeal.nD → PrngReg), Pre_ConvProjReferenceIdeal m →
    θ_run (Cert.ConvProjReferenceIdeal.defs (F := Ideal)) (onTc (τ := Cert.ConvProjReferenceIdeal.τ) (Cert.ConvProjReferenceIdeal.main (F := Ideal))) ⟨m, fun _ => 0, g⟩ (fun r => (∀ c : Dev Cert.ConvProjReferenceIdeal.nD,
      r.2.mem ((c.tc : Thread Cert.ConvProjReferenceIdeal.nD Cert.ConvProjReferenceIdeal.τ).loc Cert.ConvProjReferenceIdeal.main_arg0) = m ((c.tc : Thread Cert.ConvProjReferenceIdeal.nD Cert.ConvProjReferenceIdeal.τ).loc Cert.ConvProjReferenceIdeal.main_arg0)
      ∧ r.2.mem ((c.tc : Thread Cert.ConvProjReferenceIdeal.nD Cert.ConvProjReferenceIdeal.τ).loc Cert.ConvProjReferenceIdeal.main_arg1) = m ((c.tc : Thread Cert.ConvProjReferenceIdeal.nD Cert.ConvProjReferenceIdeal.τ).loc Cert.ConvProjReferenceIdeal.main_arg1)
      ∧ r.2.mem ((c.tc : Thread Cert.ConvProjReferenceIdeal.nD Cert.ConvProjReferenceIdeal.τ).loc Cert.ConvProjReferenceIdeal.main_arg2) = m ((c.tc : Thread Cert.ConvProjReferenceIdeal.nD Cert.ConvProjReferenceIdeal.τ).loc Cert.ConvProjReferenceIdeal.main_arg2))
      ∧ r.2.sem = fun _ => 0)

def quiescent_MemProjKernel [hMemProjKernel : Cert.MemProjKernel.Facts] : Prop :=
  ∀ (m : (ℓ : Loc Cert.MemProjKernel.nD Cert.MemProjKernel.τ Cert.MemProjKernel.sig) → Buf (Elt Bits) ℓ) (g : Dev Cert.MemProjKernel.nD → PrngReg), Pre_MemProjKernel m →
    θ_run (Cert.MemProjKernel.defs (F := Bits)) (onTc (τ := Cert.MemProjKernel.τ) (Cert.MemProjKernel.main (F := Bits))) ⟨m, fun _ => 0, g⟩ (fun r => (∀ c : Dev Cert.MemProjKernel.nD,
      r.2.mem ((c.tc : Thread Cert.MemProjKernel.nD Cert.MemProjKernel.τ).loc Cert.MemProjKernel.main_arg0) = m ((c.tc : Thread Cert.MemProjKernel.nD Cert.MemProjKernel.τ).loc Cert.MemProjKernel.main_arg0)
      ∧ r.2.mem ((c.tc : Thread Cert.MemProjKernel.nD Cert.MemProjKernel.τ).loc Cert.MemProjKernel.main_arg1) = m ((c.tc : Thread Cert.MemProjKernel.nD Cert.MemProjKernel.τ).loc Cert.MemProjKernel.main_arg1)
      ∧ r.2.mem ((c.tc : Thread Cert.MemProjKernel.nD Cert.MemProjKernel.τ).loc Cert.MemProjKernel.main_arg2) = m ((c.tc : Thread Cert.MemProjKernel.nD Cert.MemProjKernel.τ).loc Cert.MemProjKernel.main_arg2))
      ∧ r.2.sem = fun _ => 0)

def quiescent_MemProjKernelIdeal [hMemProjKernelIdeal : Cert.MemProjKernelIdeal.Facts] : Prop :=
  ∀ (m : (ℓ : Loc Cert.MemProjKernelIdeal.nD Cert.MemProjKernelIdeal.τ Cert.MemProjKernelIdeal.sig) → Buf (Elt Ideal) ℓ) (g : Dev Cert.MemProjKernelIdeal.nD → PrngReg), Pre_MemProjKernelIdeal m →
    θ_run (Cert.MemProjKernelIdeal.defs (F := Ideal)) (onTc (τ := Cert.MemProjKernelIdeal.τ) (Cert.MemProjKernelIdeal.main (F := Ideal))) ⟨m, fun _ => 0, g⟩ (fun r => (∀ c : Dev Cert.MemProjKernelIdeal.nD,
      r.2.mem ((c.tc : Thread Cert.MemProjKernelIdeal.nD Cert.MemProjKernelIdeal.τ).loc Cert.MemProjKernelIdeal.main_arg0) = m ((c.tc : Thread Cert.MemProjKernelIdeal.nD Cert.MemProjKernelIdeal.τ).loc Cert.MemProjKernelIdeal.main_arg0)
      ∧ r.2.mem ((c.tc : Thread Cert.MemProjKernelIdeal.nD Cert.MemProjKernelIdeal.τ).loc Cert.MemProjKernelIdeal.main_arg1) = m ((c.tc : Thread Cert.MemProjKernelIdeal.nD Cert.MemProjKernelIdeal.τ).loc Cert.MemProjKernelIdeal.main_arg1)
      ∧ r.2.mem ((c.tc : Thread Cert.MemProjKernelIdeal.nD Cert.MemProjKernelIdeal.τ).loc Cert.MemProjKernelIdeal.main_arg2) = m ((c.tc : Thread Cert.MemProjKernelIdeal.nD Cert.MemProjKernelIdeal.τ).loc Cert.MemProjKernelIdeal.main_arg2))
      ∧ r.2.sem = fun _ => 0)

def quiescent_MemProjReferenceIdeal [hMemProjReferenceIdeal : Cert.MemProjReferenceIdeal.Facts] : Prop :=
  ∀ (m : (ℓ : Loc Cert.MemProjReferenceIdeal.nD Cert.MemProjReferenceIdeal.τ Cert.MemProjReferenceIdeal.sig) → Buf (Elt Ideal) ℓ) (g : Dev Cert.MemProjReferenceIdeal.nD → PrngReg), Pre_MemProjReferenceIdeal m →
    θ_run (Cert.MemProjReferenceIdeal.defs (F := Ideal)) (onTc (τ := Cert.MemProjReferenceIdeal.τ) (Cert.MemProjReferenceIdeal.main (F := Ideal))) ⟨m, fun _ => 0, g⟩ (fun r => (∀ c : Dev Cert.MemProjReferenceIdeal.nD,
      r.2.mem ((c.tc : Thread Cert.MemProjReferenceIdeal.nD Cert.MemProjReferenceIdeal.τ).loc Cert.MemProjReferenceIdeal.main_arg0) = m ((c.tc : Thread Cert.MemProjReferenceIdeal.nD Cert.MemProjReferenceIdeal.τ).loc Cert.MemProjReferenceIdeal.main_arg0)
      ∧ r.2.mem ((c.tc : Thread Cert.MemProjReferenceIdeal.nD Cert.MemProjReferenceIdeal.τ).loc Cert.MemProjReferenceIdeal.main_arg1) = m ((c.tc : Thread Cert.MemProjReferenceIdeal.nD Cert.MemProjReferenceIdeal.τ).loc Cert.MemProjReferenceIdeal.main_arg1)
      ∧ r.2.mem ((c.tc : Thread Cert.MemProjReferenceIdeal.nD Cert.MemProjReferenceIdeal.τ).loc Cert.MemProjReferenceIdeal.main_arg2) = m ((c.tc : Thread Cert.MemProjReferenceIdeal.nD Cert.MemProjReferenceIdeal.τ).loc Cert.MemProjReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_ConvOutKernel [hConvOutKernel : Cert.ConvOutKernel.Facts] : Prop :=
  ∀ (m : (ℓ : Loc Cert.ConvOutKernel.nD Cert.ConvOutKernel.τ Cert.ConvOutKernel.sig) → Buf (Elt Bits) ℓ) (g : Dev Cert.ConvOutKernel.nD → PrngReg), Pre_ConvOutKernel m →
    θ_run (Cert.ConvOutKernel.defs (F := Bits)) (onTc (τ := Cert.ConvOutKernel.τ) (Cert.ConvOutKernel.main (F := Bits))) ⟨m, fun _ => 0, g⟩ (fun r => (∀ c : Dev Cert.ConvOutKernel.nD,
      r.2.mem ((c.tc : Thread Cert.ConvOutKernel.nD Cert.ConvOutKernel.τ).loc Cert.ConvOutKernel.main_arg0) = m ((c.tc : Thread Cert.ConvOutKernel.nD Cert.ConvOutKernel.τ).loc Cert.ConvOutKernel.main_arg0)
      ∧ r.2.mem ((c.tc : Thread Cert.ConvOutKernel.nD Cert.ConvOutKernel.τ).loc Cert.ConvOutKernel.main_arg1) = m ((c.tc : Thread Cert.ConvOutKernel.nD Cert.ConvOutKernel.τ).loc Cert.ConvOutKernel.main_arg1)
      ∧ r.2.mem ((c.tc : Thread Cert.ConvOutKernel.nD Cert.ConvOutKernel.τ).loc Cert.ConvOutKernel.main_arg2) = m ((c.tc : Thread Cert.ConvOutKernel.nD Cert.ConvOutKernel.τ).loc Cert.ConvOutKernel.main_arg2)
      ∧ r.2.mem ((c.tc : Thread Cert.ConvOutKernel.nD Cert.ConvOutKernel.τ).loc Cert.ConvOutKernel.main_arg3) = m ((c.tc : Thread Cert.ConvOutKernel.nD Cert.ConvOutKernel.τ).loc Cert.ConvOutKernel.main_arg3)
      ∧ r.2.mem ((c.tc : Thread Cert.ConvOutKernel.nD Cert.ConvOutKernel.τ).loc Cert.ConvOutKernel.main_arg4) = m ((c.tc : Thread Cert.ConvOutKernel.nD Cert.ConvOutKernel.τ).loc Cert.ConvOutKernel.main_arg4)
      ∧ r.2.mem ((c.tc : Thread Cert.ConvOutKernel.nD Cert.ConvOutKernel.τ).loc Cert.ConvOutKernel.main_arg5) = m ((c.tc : Thread Cert.ConvOutKernel.nD Cert.ConvOutKernel.τ).loc Cert.ConvOutKernel.main_arg5))
      ∧ r.2.sem = fun _ => 0)

def quiescent_ConvOutKernelIdeal [hConvOutKernelIdeal : Cert.ConvOutKernelIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg), Pre_ConvOutKernelIdeal m →
    θ_run (Cert.ConvOutKernelIdeal.defs (F := Ideal)) (onTc (τ := Cert.ConvOutKernelIdeal.τ) (Cert.ConvOutKernelIdeal.main (F := Ideal))) ⟨m, fun _ => 0, g⟩ (fun r => (∀ c : Dev Cert.ConvOutKernelIdeal.nD,
      r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
      ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
      ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
      ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
      ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4)
      ∧ r.2.mem ((c.tc : Thread Cert.ConvOutKernelIdeal.nD Cert.ConvOutKernelIdeal.τ).loc Cert.ConvOutKernelIdeal.main_arg5) = m ((c.tc : Thread Cert.ConvOutKernelIdeal.nD Cert.ConvOutKernelIdeal.τ).loc Cert.ConvOutKernelIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def preserves_FoxKernel_FoxKernelIdeal : Prop :=
  IdealRules.named_const.Statement Cert.FoxKernelIdeal.κ "mask" .f32 0xF149F2CA#32 ⊥
  ∧ IdealRules.named_const.Statement Cert.FoxKernelIdeal.κ "underflow" .f32 0x42DC0000#32 ⊤

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)) →
    ∃ (v0 : (c : Dev Cert.FoxKernelIdeal.nD) → Buf (Elt Ideal) ((c.tc : Thread Cert.FoxKernelIdeal.nD Cert.FoxKernelIdeal.τ).loc Cert.FoxKernelIdeal.main_v19)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v19) = v0 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v38) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)) →
    ∃ (v0 : (c : Dev Cert.LastKernelIdeal.nD) → Buf (Elt Ideal) ((c.tc : Thread Cert.LastKernelIdeal.nD Cert.LastKernelIdeal.τ).loc Cert.LastKernelIdeal.main_v4)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v4) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v34) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_FoxProjKernel_FoxProjKernelIdeal : Prop :=
  True

def algebraic_FoxProjKernelIdeal_FoxProjReferenceIdeal [hFoxProjKernelIdeal : Cert.FoxProjKernelIdeal.Facts] [hFoxProjReferenceIdeal : Cert.FoxProjReferenceIdeal.Facts] : Prop :=
  ∀ (m : (ℓ : Loc Cert.FoxProjKernelIdeal.nD Cert.FoxProjKernelIdeal.τ Cert.FoxProjKernelIdeal.sig) → Buf (Elt Ideal) ℓ) (g : Dev Cert.FoxProjKernelIdeal.nD → PrngReg)
    (m' : (ℓ : Loc Cert.FoxProjReferenceIdeal.nD Cert.FoxProjReferenceIdeal.τ Cert.FoxProjReferenceIdeal.sig) → Buf (Elt Ideal) ℓ) (g' : Dev Cert.FoxProjReferenceIdeal.nD → PrngReg), Pre_FoxProjKernelIdeal m →
    (∀ c : Dev Cert.FoxProjKernelIdeal.nD,
      m' ((c.tc : Thread Cert.FoxProjReferenceIdeal.nD Cert.FoxProjReferenceIdeal.τ).loc Cert.FoxProjReferenceIdeal.main_arg0) = m ((c.tc : Thread Cert.FoxProjKernelIdeal.nD Cert.FoxProjKernelIdeal.τ).loc Cert.FoxProjKernelIdeal.main_arg0)
      ∧ m' ((c.tc : Thread Cert.FoxProjReferenceIdeal.nD Cert.FoxProjReferenceIdeal.τ).loc Cert.FoxProjReferenceIdeal.main_arg1) = m ((c.tc : Thread Cert.FoxProjKernelIdeal.nD Cert.FoxProjKernelIdeal.τ).loc Cert.FoxProjKernelIdeal.main_arg1)
      ∧ m' ((c.tc : Thread Cert.FoxProjReferenceIdeal.nD Cert.FoxProjReferenceIdeal.τ).loc Cert.FoxProjReferenceIdeal.main_arg2) = m ((c.tc : Thread Cert.FoxProjKernelIdeal.nD Cert.FoxProjKernelIdeal.τ).loc Cert.FoxProjKernelIdeal.main_arg2)) →
    ∃ (v0 : (c : Dev Cert.FoxProjKernelIdeal.nD) → Buf (Elt Ideal) ((c.tc : Thread Cert.FoxProjKernelIdeal.nD Cert.FoxProjKernelIdeal.τ).loc Cert.FoxProjKernelIdeal.main_v21_0)) (v1 : (c : Dev Cert.FoxProjKernelIdeal.nD) → Buf (Elt Ideal) ((c.tc : Thread Cert.FoxProjKernelIdeal.nD Cert.FoxProjKernelIdeal.τ).loc Cert.FoxProjKernelIdeal.main_v21_1)) (v2 : (c : Dev Cert.FoxProjKernelIdeal.nD) → Buf (Elt Ideal) ((c.tc : Thread Cert.FoxProjKernelIdeal.nD Cert.FoxProjKernelIdeal.τ).loc Cert.FoxProjKernelIdeal.main_v21_2)) (v3 : (c : Dev Cert.FoxProjKernelIdeal.nD) → Buf (Elt Ideal) ((c.tc : Thread Cert.FoxProjKernelIdeal.nD Cert.FoxProjKernelIdeal.τ).loc Cert.FoxProjKernelIdeal.main_v21_3)) (v4 : (c : Dev Cert.FoxProjKernelIdeal.nD) → Buf (Elt Ideal) ((c.tc : Thread Cert.FoxProjKernelIdeal.nD Cert.FoxProjKernelIdeal.τ).loc Cert.FoxProjKernelIdeal.main_v21_4)),
      θ_run (Cert.FoxProjKernelIdeal.defs (F := Ideal)) (onTc (τ := Cert.FoxProjKernelIdeal.τ) (Cert.FoxProjKernelIdeal.main (F := Ideal))) ⟨m, fun _ => 0, g⟩ (fun r => ∀ c : Dev Cert.FoxProjKernelIdeal.nD,
          r.2.mem ((c.tc : Thread Cert.FoxProjKernelIdeal.nD Cert.FoxProjKernelIdeal.τ).loc Cert.FoxProjKernelIdeal.main_v21_0) = v0 c
          ∧ r.2.mem ((c.tc : Thread Cert.FoxProjKernelIdeal.nD Cert.FoxProjKernelIdeal.τ).loc Cert.FoxProjKernelIdeal.main_v21_1) = v1 c
          ∧ r.2.mem ((c.tc : Thread Cert.FoxProjKernelIdeal.nD Cert.FoxProjKernelIdeal.τ).loc Cert.FoxProjKernelIdeal.main_v21_2) = v2 c
          ∧ r.2.mem ((c.tc : Thread Cert.FoxProjKernelIdeal.nD Cert.FoxProjKernelIdeal.τ).loc Cert.FoxProjKernelIdeal.main_v21_3) = v3 c
          ∧ r.2.mem ((c.tc : Thread Cert.FoxProjKernelIdeal.nD Cert.FoxProjKernelIdeal.τ).loc Cert.FoxProjKernelIdeal.main_v21_4) = v4 c
          ∧ r.2.mem ((c.tc : Thread Cert.FoxProjKernelIdeal.nD Cert.FoxProjKernelIdeal.τ).loc Cert.FoxProjKernelIdeal.main_arg0) = m ((c.tc : Thread Cert.FoxProjKernelIdeal.nD Cert.FoxProjKernelIdeal.τ).loc Cert.FoxProjKernelIdeal.main_arg0)
          ∧ r.2.mem ((c.tc : Thread Cert.FoxProjKernelIdeal.nD Cert.FoxProjKernelIdeal.τ).loc Cert.FoxProjKernelIdeal.main_arg1) = m ((c.tc : Thread Cert.FoxProjKernelIdeal.nD Cert.FoxProjKernelIdeal.τ).loc Cert.FoxProjKernelIdeal.main_arg1)
          ∧ r.2.mem ((c.tc : Thread Cert.FoxProjKernelIdeal.nD Cert.FoxProjKernelIdeal.τ).loc Cert.FoxProjKernelIdeal.main_arg2) = m ((c.tc : Thread Cert.FoxProjKernelIdeal.nD Cert.FoxProjKernelIdeal.τ).loc Cert.FoxProjKernelIdeal.main_arg2))
      ∧ θ_run (Cert.FoxProjReferenceIdeal.defs (F := Ideal)) (onTc (τ := Cert.FoxProjReferenceIdeal.τ) (Cert.FoxProjReferenceIdeal.main (F := Ideal))) ⟨m', fun _ => 0, g'⟩ (fun r => ∀ c : Dev Cert.FoxProjReferenceIdeal.nD,
          r.2.mem ((c.tc : Thread Cert.FoxProjReferenceIdeal.nD Cert.FoxProjReferenceIdeal.τ).loc Cert.FoxProjReferenceIdeal.main_v22) = v0 c
          ∧ r.2.mem ((c.tc : Thread Cert.FoxProjReferenceIdeal.nD Cert.FoxProjReferenceIdeal.τ).loc Cert.FoxProjReferenceIdeal.main_v26) = v1 c
          ∧ r.2.mem ((c.tc : Thread Cert.FoxProjReferenceIdeal.nD Cert.FoxProjReferenceIdeal.τ).loc Cert.FoxProjReferenceIdeal.main_v30) = v2 c
          ∧ r.2.mem ((c.tc : Thread Cert.FoxProjReferenceIdeal.nD Cert.FoxProjReferenceIdeal.τ).loc Cert.FoxProjReferenceIdeal.main_v34) = v3 c
          ∧ r.2.mem ((c.tc : Thread Cert.FoxProjReferenceIdeal.nD Cert.FoxProjReferenceIdeal.τ).loc Cert.FoxProjReferenceIdeal.main_v35) = v4 c
          ∧ r.2.mem ((c.tc : Thread Cert.FoxProjReferenceIdeal.nD Cert.FoxProjReferenceIdeal.τ).loc Cert.FoxProjReferenceIdeal.main_arg0) = m' ((c.tc : Thread Cert.FoxProjReferenceIdeal.nD Cert.FoxProjReferenceIdeal.τ).loc Cert.FoxProjReferenceIdeal.main_arg0)
          ∧ r.2.mem ((c.tc : Thread Cert.FoxProjReferenceIdeal.nD Cert.FoxProjReferenceIdeal.τ).loc Cert.FoxProjReferenceIdeal.main_arg1) = m' ((c.tc : Thread Cert.FoxProjReferenceIdeal.nD Cert.FoxProjReferenceIdeal.τ).loc Cert.FoxProjReferenceIdeal.main_arg1)
          ∧ r.2.mem ((c.tc : Thread Cert.FoxProjReferenceIdeal.nD Cert.FoxProjReferenceIdeal.τ).loc Cert.FoxProjReferenceIdeal.main_arg2) = m' ((c.tc : Thread Cert.FoxProjReferenceIdeal.nD Cert.FoxProjReferenceIdeal.τ).loc Cert.FoxProjReferenceIdeal.main_arg2))

def preserves_ConvProjKernel_ConvProjKernelIdeal : Prop :=
  True

def algebraic_ConvProjKernelIdeal_ConvProjReferenceIdeal [hConvProjKernelIdeal : Cert.ConvProjKernelIdeal.Facts] [hConvProjReferenceIdeal : Cert.ConvProjReferenceIdeal.Facts] : Prop :=
  ∀ (m : (ℓ : Loc Cert.ConvProjKernelIdeal.nD Cert.ConvProjKernelIdeal.τ Cert.ConvProjKernelIdeal.sig) → Buf (Elt Ideal) ℓ) (g : Dev Cert.ConvProjKernelIdeal.nD → PrngReg)
    (m' : (ℓ : Loc Cert.ConvProjReferenceIdeal.nD Cert.ConvProjReferenceIdeal.τ Cert.ConvProjReferenceIdeal.sig) → Buf (Elt Ideal) ℓ) (g' : Dev Cert.ConvProjReferenceIdeal.nD → PrngReg), Pre_ConvProjKernelIdeal m →
    (∀ c : Dev Cert.ConvProjKernelIdeal.nD,
      m' ((c.tc : Thread Cert.ConvProjReferenceIdeal.nD Cert.ConvProjReferenceIdeal.τ).loc Cert.ConvProjReferenceIdeal.main_arg0) = m ((c.tc : Thread Cert.ConvProjKernelIdeal.nD Cert.ConvProjKernelIdeal.τ).loc Cert.ConvProjKernelIdeal.main_arg0)
      ∧ m' ((c.tc : Thread Cert.ConvProjReferenceIdeal.nD Cert.ConvProjReferenceIdeal.τ).loc Cert.ConvProjReferenceIdeal.main_arg1) = m ((c.tc : Thread Cert.ConvProjKernelIdeal.nD Cert.ConvProjKernelIdeal.τ).loc Cert.ConvProjKernelIdeal.main_arg1)
      ∧ m' ((c.tc : Thread Cert.ConvProjReferenceIdeal.nD Cert.ConvProjReferenceIdeal.τ).loc Cert.ConvProjReferenceIdeal.main_arg2) = m ((c.tc : Thread Cert.ConvProjKernelIdeal.nD Cert.ConvProjKernelIdeal.τ).loc Cert.ConvProjKernelIdeal.main_arg2)) →
    ∃ (v0 : (c : Dev Cert.ConvProjKernelIdeal.nD) → Buf (Elt Ideal) ((c.tc : Thread Cert.ConvProjKernelIdeal.nD Cert.ConvProjKernelIdeal.τ).loc Cert.ConvProjKernelIdeal.main_v8_0)) (v1 : (c : Dev Cert.ConvProjKernelIdeal.nD) → Buf (Elt Ideal) ((c.tc : Thread Cert.ConvProjKernelIdeal.nD Cert.ConvProjKernelIdeal.τ).loc Cert.ConvProjKernelIdeal.main_v8_1)) (v2 : (c : Dev Cert.ConvProjKernelIdeal.nD) → Buf (Elt Ideal) ((c.tc : Thread Cert.ConvProjKernelIdeal.nD Cert.ConvProjKernelIdeal.τ).loc Cert.ConvProjKernelIdeal.main_v8_2)) (v3 : (c : Dev Cert.ConvProjKernelIdeal.nD) → Buf (Elt Ideal) ((c.tc : Thread Cert.ConvProjKernelIdeal.nD Cert.ConvProjKernelIdeal.τ).loc Cert.ConvProjKernelIdeal.main_v8_3)),
      θ_run (Cert.ConvProjKernelIdeal.defs (F := Ideal)) (onTc (τ := Cert.ConvProjKernelIdeal.τ) (Cert.ConvProjKernelIdeal.main (F := Ideal))) ⟨m, fun _ => 0, g⟩ (fun r => ∀ c : Dev Cert.ConvProjKernelIdeal.nD,
          r.2.mem ((c.tc : Thread Cert.ConvProjKernelIdeal.nD Cert.ConvProjKernelIdeal.τ).loc Cert.ConvProjKernelIdeal.main_v8_0) = v0 c
          ∧ r.2.mem ((c.tc : Thread Cert.ConvProjKernelIdeal.nD Cert.ConvProjKernelIdeal.τ).loc Cert.ConvProjKernelIdeal.main_v8_1) = v1 c
          ∧ r.2.mem ((c.tc : Thread Cert.ConvProjKernelIdeal.nD Cert.ConvProjKernelIdeal.τ).loc Cert.ConvProjKernelIdeal.main_v8_2) = v2 c
          ∧ r.2.mem ((c.tc : Thread Cert.ConvProjKernelIdeal.nD Cert.ConvProjKernelIdeal.τ).loc Cert.ConvProjKernelIdeal.main_v8_3) = v3 c
          ∧ r.2.mem ((c.tc : Thread Cert.ConvProjKernelIdeal.nD Cert.ConvProjKernelIdeal.τ).loc Cert.ConvProjKernelIdeal.main_arg0) = m ((c.tc : Thread Cert.ConvProjKernelIdeal.nD Cert.ConvProjKernelIdeal.τ).loc Cert.ConvProjKernelIdeal.main_arg0)
          ∧ r.2.mem ((c.tc : Thread Cert.ConvProjKernelIdeal.nD Cert.ConvProjKernelIdeal.τ).loc Cert.ConvProjKernelIdeal.main_arg1) = m ((c.tc : Thread Cert.ConvProjKernelIdeal.nD Cert.ConvProjKernelIdeal.τ).loc Cert.ConvProjKernelIdeal.main_arg1)
          ∧ r.2.mem ((c.tc : Thread Cert.ConvProjKernelIdeal.nD Cert.ConvProjKernelIdeal.τ).loc Cert.ConvProjKernelIdeal.main_arg2) = m ((c.tc : Thread Cert.ConvProjKernelIdeal.nD Cert.ConvProjKernelIdeal.τ).loc Cert.ConvProjKernelIdeal.main_arg2))
      ∧ θ_run (Cert.ConvProjReferenceIdeal.defs (F := Ideal)) (onTc (τ := Cert.ConvProjReferenceIdeal.τ) (Cert.ConvProjReferenceIdeal.main (F := Ideal))) ⟨m', fun _ => 0, g'⟩ (fun r => ∀ c : Dev Cert.ConvProjReferenceIdeal.nD,
          r.2.mem ((c.tc : Thread Cert.ConvProjReferenceIdeal.nD Cert.ConvProjReferenceIdeal.τ).loc Cert.ConvProjReferenceIdeal.main_v14) = v0 c
          ∧ r.2.mem ((c.tc : Thread Cert.ConvProjReferenceIdeal.nD Cert.ConvProjReferenceIdeal.τ).loc Cert.ConvProjReferenceIdeal.main_v15) = v1 c
          ∧ r.2.mem ((c.tc : Thread Cert.ConvProjReferenceIdeal.nD Cert.ConvProjReferenceIdeal.τ).loc Cert.ConvProjReferenceIdeal.main_v16) = v2 c
          ∧ r.2.mem ((c.tc : Thread Cert.ConvProjReferenceIdeal.nD Cert.ConvProjReferenceIdeal.τ).loc Cert.ConvProjReferenceIdeal.main_v21) = v3 c
          ∧ r.2.mem ((c.tc : Thread Cert.ConvProjReferenceIdeal.nD Cert.ConvProjReferenceIdeal.τ).loc Cert.ConvProjReferenceIdeal.main_arg0) = m' ((c.tc : Thread Cert.ConvProjReferenceIdeal.nD Cert.ConvProjReferenceIdeal.τ).loc Cert.ConvProjReferenceIdeal.main_arg0)
          ∧ r.2.mem ((c.tc : Thread Cert.ConvProjReferenceIdeal.nD Cert.ConvProjReferenceIdeal.τ).loc Cert.ConvProjReferenceIdeal.main_arg1) = m' ((c.tc : Thread Cert.ConvProjReferenceIdeal.nD Cert.ConvProjReferenceIdeal.τ).loc Cert.ConvProjReferenceIdeal.main_arg1)
          ∧ r.2.mem ((c.tc : Thread Cert.ConvProjReferenceIdeal.nD Cert.ConvProjReferenceIdeal.τ).loc Cert.ConvProjReferenceIdeal.main_arg2) = m' ((c.tc : Thread Cert.ConvProjReferenceIdeal.nD Cert.ConvProjReferenceIdeal.τ).loc Cert.ConvProjReferenceIdeal.main_arg2))

def preserves_MemProjKernel_MemProjKernelIdeal : Prop :=
  True

def algebraic_MemProjKernelIdeal_MemProjReferenceIdeal [hMemProjKernelIdeal : Cert.MemProjKernelIdeal.Facts] [hMemProjReferenceIdeal : Cert.MemProjReferenceIdeal.Facts] : Prop :=
  ∀ (m : (ℓ : Loc Cert.MemProjKernelIdeal.nD Cert.MemProjKernelIdeal.τ Cert.MemProjKernelIdeal.sig) → Buf (Elt Ideal) ℓ) (g : Dev Cert.MemProjKernelIdeal.nD → PrngReg)
    (m' : (ℓ : Loc Cert.MemProjReferenceIdeal.nD Cert.MemProjReferenceIdeal.τ Cert.MemProjReferenceIdeal.sig) → Buf (Elt Ideal) ℓ) (g' : Dev Cert.MemProjReferenceIdeal.nD → PrngReg), Pre_MemProjKernelIdeal m →
    (∀ c : Dev Cert.MemProjKernelIdeal.nD,
      m' ((c.tc : Thread Cert.MemProjReferenceIdeal.nD Cert.MemProjReferenceIdeal.τ).loc Cert.MemProjReferenceIdeal.main_arg0) = m ((c.tc : Thread Cert.MemProjKernelIdeal.nD Cert.MemProjKernelIdeal.τ).loc Cert.MemProjKernelIdeal.main_arg0)
      ∧ m' ((c.tc : Thread Cert.MemProjReferenceIdeal.nD Cert.MemProjReferenceIdeal.τ).loc Cert.MemProjReferenceIdeal.main_arg1) = m ((c.tc : Thread Cert.MemProjKernelIdeal.nD Cert.MemProjKernelIdeal.τ).loc Cert.MemProjKernelIdeal.main_arg1)
      ∧ m' ((c.tc : Thread Cert.MemProjReferenceIdeal.nD Cert.MemProjReferenceIdeal.τ).loc Cert.MemProjReferenceIdeal.main_arg2) = m ((c.tc : Thread Cert.MemProjKernelIdeal.nD Cert.MemProjKernelIdeal.τ).loc Cert.MemProjKernelIdeal.main_arg2)) →
    ∃ (v0 : (c : Dev Cert.MemProjKernelIdeal.nD) → Buf (Elt Ideal) ((c.tc : Thread Cert.MemProjKernelIdeal.nD Cert.MemProjKernelIdeal.τ).loc Cert.MemProjKernelIdeal.main_v11_0)) (v1 : (c : Dev Cert.MemProjKernelIdeal.nD) → Buf (Elt Ideal) ((c.tc : Thread Cert.MemProjKernelIdeal.nD Cert.MemProjKernelIdeal.τ).loc Cert.MemProjKernelIdeal.main_v11_1)),
      θ_run (Cert.MemProjKernelIdeal.defs (F := Ideal)) (onTc (τ := Cert.MemProjKernelIdeal.τ) (Cert.MemProjKernelIdeal.main (F := Ideal))) ⟨m, fun _ => 0, g⟩ (fun r => ∀ c : Dev Cert.MemProjKernelIdeal.nD,
          r.2.mem ((c.tc : Thread Cert.MemProjKernelIdeal.nD Cert.MemProjKernelIdeal.τ).loc Cert.MemProjKernelIdeal.main_v11_0) = v0 c
          ∧ r.2.mem ((c.tc : Thread Cert.MemProjKernelIdeal.nD Cert.MemProjKernelIdeal.τ).loc Cert.MemProjKernelIdeal.main_v11_1) = v1 c
          ∧ r.2.mem ((c.tc : Thread Cert.MemProjKernelIdeal.nD Cert.MemProjKernelIdeal.τ).loc Cert.MemProjKernelIdeal.main_arg0) = m ((c.tc : Thread Cert.MemProjKernelIdeal.nD Cert.MemProjKernelIdeal.τ).loc Cert.MemProjKernelIdeal.main_arg0)
          ∧ r.2.mem ((c.tc : Thread Cert.MemProjKernelIdeal.nD Cert.MemProjKernelIdeal.τ).loc Cert.MemProjKernelIdeal.main_arg1) = m ((c.tc : Thread Cert.MemProjKernelIdeal.nD Cert.MemProjKernelIdeal.τ).loc Cert.MemProjKernelIdeal.main_arg1)
          ∧ r.2.mem ((c.tc : Thread Cert.MemProjKernelIdeal.nD Cert.MemProjKernelIdeal.τ).loc Cert.MemProjKernelIdeal.main_arg2) = m ((c.tc : Thread Cert.MemProjKernelIdeal.nD Cert.MemProjKernelIdeal.τ).loc Cert.MemProjKernelIdeal.main_arg2))
      ∧ θ_run (Cert.MemProjReferenceIdeal.defs (F := Ideal)) (onTc (τ := Cert.MemProjReferenceIdeal.τ) (Cert.MemProjReferenceIdeal.main (F := Ideal))) ⟨m', fun _ => 0, g'⟩ (fun r => ∀ c : Dev Cert.MemProjReferenceIdeal.nD,
          r.2.mem ((c.tc : Thread Cert.MemProjReferenceIdeal.nD Cert.MemProjReferenceIdeal.τ).loc Cert.MemProjReferenceIdeal.main_v19) = v0 c
          ∧ r.2.mem ((c.tc : Thread Cert.MemProjReferenceIdeal.nD Cert.MemProjReferenceIdeal.τ).loc Cert.MemProjReferenceIdeal.main_v23) = v1 c
          ∧ r.2.mem ((c.tc : Thread Cert.MemProjReferenceIdeal.nD Cert.MemProjReferenceIdeal.τ).loc Cert.MemProjReferenceIdeal.main_arg0) = m' ((c.tc : Thread Cert.MemProjReferenceIdeal.nD Cert.MemProjReferenceIdeal.τ).loc Cert.MemProjReferenceIdeal.main_arg0)
          ∧ r.2.mem ((c.tc : Thread Cert.MemProjReferenceIdeal.nD Cert.MemProjReferenceIdeal.τ).loc Cert.MemProjReferenceIdeal.main_arg1) = m' ((c.tc : Thread Cert.MemProjReferenceIdeal.nD Cert.MemProjReferenceIdeal.τ).loc Cert.MemProjReferenceIdeal.main_arg1)
          ∧ r.2.mem ((c.tc : Thread Cert.MemProjReferenceIdeal.nD Cert.MemProjReferenceIdeal.τ).loc Cert.MemProjReferenceIdeal.main_arg2) = m' ((c.tc : Thread Cert.MemProjReferenceIdeal.nD Cert.MemProjReferenceIdeal.τ).loc Cert.MemProjReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v26)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v26) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v22) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_ConvOutKernel_ConvOutKernelIdeal : Prop :=
  True

def algebraic_ConvOutKernelIdeal_OutReferenceIdeal [hConvOutKernelIdeal : Cert.ConvOutKernelIdeal.Facts] [hOutReferenceIdeal : Cert.OutReferenceIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_ConvOutKernelIdeal m →
    (∀ c : Dev Cert.ConvOutKernelIdeal.nD,
      m' ((c.tc : Thread Cert.OutReferenceIdeal.nD Cert.OutReferenceIdeal.τ).loc Cert.OutReferenceIdeal.main_arg0) = m ((c.tc : Thread Cert.ConvOutKernelIdeal.nD Cert.ConvOutKernelIdeal.τ).loc Cert.ConvOutKernelIdeal.main_arg0)
      ∧ m' ((c.tc : Thread Cert.OutReferenceIdeal.nD Cert.OutReferenceIdeal.τ).loc Cert.OutReferenceIdeal.main_arg1) = m ((c.tc : Thread Cert.ConvOutKernelIdeal.nD Cert.ConvOutKernelIdeal.τ).loc Cert.ConvOutKernelIdeal.main_arg1)
      ∧ m' ((c.tc : Thread Cert.OutReferenceIdeal.nD Cert.OutReferenceIdeal.τ).loc Cert.OutReferenceIdeal.main_arg2) = m ((c.tc : Thread Cert.ConvOutKernelIdeal.nD Cert.ConvOutKernelIdeal.τ).loc Cert.ConvOutKernelIdeal.main_arg2)
      ∧ m' ((c.tc : Thread Cert.OutReferenceIdeal.nD Cert.OutReferenceIdeal.τ).loc Cert.OutReferenceIdeal.main_arg3) = m ((c.tc : Thread Cert.ConvOutKernelIdeal.nD Cert.ConvOutKernelIdeal.τ).loc Cert.ConvOutKernelIdeal.main_arg3)
      ∧ m' ((c.tc : Thread Cert.OutReferenceIdeal.nD Cert.OutReferenceIdeal.τ).loc Cert.OutReferenceIdeal.main_arg4) = m ((c.tc : Thread Cert.ConvOutKernelIdeal.nD Cert.ConvOutKernelIdeal.τ).loc Cert.ConvOutKernelIdeal.main_arg4)
      ∧ m' ((c.tc : Thread Cert.OutReferenceIdeal.nD Cert.OutReferenceIdeal.τ).loc Cert.OutReferenceIdeal.main_arg5) = m ((c.tc : Thread Cert.ConvOutKernelIdeal.nD Cert.ConvOutKernelIdeal.τ).loc Cert.ConvOutKernelIdeal.main_arg5)) →
    ∃ (v0 : (c : Dev Cert.ConvOutKernelIdeal.nD) → Buf (Elt Ideal) ((c.tc : Thread Cert.ConvOutKernelIdeal.nD Cert.ConvOutKernelIdeal.τ).loc Cert.ConvOutKernelIdeal.main_v20)),
      θ_run (Cert.ConvOutKernelIdeal.defs (F := Ideal)) (onTc (τ := Cert.ConvOutKernelIdeal.τ) (Cert.ConvOutKernelIdeal.main (F := Ideal))) ⟨m, fun _ => 0, g⟩ (fun r => ∀ c : Dev Cert.ConvOutKernelIdeal.nD,
          r.2.mem ((c.tc : Thread Cert.ConvOutKernelIdeal.nD Cert.ConvOutKernelIdeal.τ).loc Cert.ConvOutKernelIdeal.main_v20) = v0 c
          ∧ r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
          ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
          ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
          ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
          ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4)
          ∧ r.2.mem ((c.tc : Thread Cert.ConvOutKernelIdeal.nD Cert.ConvOutKernelIdeal.τ).loc Cert.ConvOutKernelIdeal.main_arg5) = m ((c.tc : Thread Cert.ConvOutKernelIdeal.nD Cert.ConvOutKernelIdeal.τ).loc Cert.ConvOutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v22) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v25) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def Claim : Prop :=
  ∃ (hFoxKernel : Cert.FoxKernel.Facts) (hFoxKernelIdeal : Cert.FoxKernelIdeal.Facts) (hFoxReferenceIdeal : Cert.FoxReferenceIdeal.Facts) (hFfnKernel : Cert.FfnKernel.Facts) (hFfnKernelIdeal : Cert.FfnKernelIdeal.Facts) (hFfnReferenceIdeal : Cert.FfnReferenceIdeal.Facts) (hLastKernel : Cert.LastKernel.Facts) (hLastKernelIdeal : Cert.LastKernelIdeal.Facts) (hLastReferenceIdeal : Cert.LastReferenceIdeal.Facts) (hFoxProjKernel : Cert.FoxProjKernel.Facts) (hFoxProjKernelIdeal : Cert.FoxProjKernelIdeal.Facts) (hFoxProjReferenceIdeal : Cert.FoxProjReferenceIdeal.Facts) (hConvProjKernel : Cert.ConvProjKernel.Facts) (hConvProjKernelIdeal : Cert.ConvProjKernelIdeal.Facts) (hConvProjReferenceIdeal : Cert.ConvProjReferenceIdeal.Facts) (hMemProjKernel : Cert.MemProjKernel.Facts) (hMemProjKernelIdeal : Cert.MemProjKernelIdeal.Facts) (hMemProjReferenceIdeal : Cert.MemProjReferenceIdeal.Facts) (hOutKernel : Cert.OutKernel.Facts) (hOutKernelIdeal : Cert.OutKernelIdeal.Facts) (hOutReferenceIdeal : Cert.OutReferenceIdeal.Facts) (hConvOutKernel : Cert.ConvOutKernel.Facts) (hConvOutKernelIdeal : Cert.ConvOutKernelIdeal.Facts) (hConvKernel : Cert.ConvKernel.Facts) (hConvKernelIdeal : Cert.ConvKernelIdeal.Facts) (hConvReferenceIdeal : Cert.ConvReferenceIdeal.Facts) (hPre_fox_finite : Cert.Pre_fox_finite.Facts),
    quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_FoxProjKernel (hFoxProjKernel := hFoxProjKernel)
    ∧ quiescent_FoxProjKernelIdeal (hFoxProjKernelIdeal := hFoxProjKernelIdeal)
    ∧ quiescent_FoxProjReferenceIdeal (hFoxProjReferenceIdeal := hFoxProjReferenceIdeal)
    ∧ quiescent_ConvProjKernel (hConvProjKernel := hConvProjKernel)
    ∧ quiescent_ConvProjKernelIdeal (hConvProjKernelIdeal := hConvProjKernelIdeal)
    ∧ quiescent_ConvProjReferenceIdeal (hConvProjReferenceIdeal := hConvProjReferenceIdeal)
    ∧ quiescent_MemProjKernel (hMemProjKernel := hMemProjKernel)
    ∧ quiescent_MemProjKernelIdeal (hMemProjKernelIdeal := hMemProjKernelIdeal)
    ∧ quiescent_MemProjReferenceIdeal (hMemProjReferenceIdeal := hMemProjReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ConvOutKernel (hConvOutKernel := hConvOutKernel)
    ∧ quiescent_ConvOutKernelIdeal (hConvOutKernelIdeal := hConvOutKernelIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_LastKernel_LastKernelIdeal
    ∧ algebraic_LastKernelIdeal_LastReferenceIdeal (hLastKernelIdeal := hLastKernelIdeal) (hLastReferenceIdeal := hLastReferenceIdeal)
    ∧ preserves_FoxProjKernel_FoxProjKernelIdeal
    ∧ algebraic_FoxProjKernelIdeal_FoxProjReferenceIdeal (hFoxProjKernelIdeal := hFoxProjKernelIdeal) (hFoxProjReferenceIdeal := hFoxProjReferenceIdeal)
    ∧ preserves_ConvProjKernel_ConvProjKernelIdeal
    ∧ algebraic_ConvProjKernelIdeal_ConvProjReferenceIdeal (hConvProjKernelIdeal := hConvProjKernelIdeal) (hConvProjReferenceIdeal := hConvProjReferenceIdeal)
    ∧ preserves_MemProjKernel_MemProjKernelIdeal
    ∧ algebraic_MemProjKernelIdeal_MemProjReferenceIdeal (hMemProjKernelIdeal := hMemProjKernelIdeal) (hMemProjReferenceIdeal := hMemProjReferenceIdeal)
    ∧ preserves_OutKernel_OutKernelIdeal
    ∧ algebraic_OutKernelIdeal_OutReferenceIdeal (hOutKernelIdeal := hOutKernelIdeal) (hOutReferenceIdeal := hOutReferenceIdeal)
    ∧ preserves_ConvOutKernel_ConvOutKernelIdeal
    ∧ algebraic_ConvOutKernelIdeal_OutReferenceIdeal (hConvOutKernelIdeal := hConvOutKernelIdeal) (hOutReferenceIdeal := hOutReferenceIdeal)
    ∧ preserves_ConvKernel_ConvKernelIdeal
    ∧ algebraic_ConvKernelIdeal_ConvReferenceIdeal (hConvKernelIdeal := hConvKernelIdeal) (hConvReferenceIdeal := hConvReferenceIdeal)
-- ==== Pre_fox_finite.lean ====
abbrev S16384x768 : Shape := ⟨2, ![16384, 768]⟩
abbrev S12x16384 : Shape := ⟨2, ![12, 16384]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S12x16384 : S_.BroadcastsInDim S12x16384 (![] : Fin 0 → Fin S12x16384.rank)
  reducesTo_S12x16384_S_d0_1 : S12x16384.ReducesTo [0, 1] S_

variable [Facts]

def fn {F : FTy → Type} [FloatOps F] (main_arg0 : FVec F S16384x768 .f32) (main_arg1 : FVec F S16384x768 .f32) (main_arg2 : FVec F S16384x768 .f32) (main_arg3 : FVec F S12x16384 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S12x16384 .f32 := Host.absf main_arg3
  let main_cst_2 : FVec F S_ .f32 := constant S_ .f32 0x7F800000#32
  let main_v10 : FVec F S12x16384 .f32 := broadcastInDim S12x16384 ![] bcast_S_S12x16384 main_cst_2
  let main_v11 : IVec S12x16384 1 := cmpf .olt main_v9 main_v10
  let main_c_3 : IVec S_ 1 := constantI S_ 1 1#1
  let main_v12 : IVec S_ 1 := (fun x v => Host.reduce IntOp.andi x v reducesTo_S12x16384_S_d0_1 h_S_) main_v11 main_c_3
  let main_v13 : IVec S_ 1 := andi main_v8 main_v12
  main_v13
-- ==== FoxKernel.lean ====
abbrev S16384x768 : Shape := ⟨2, ![16384, 768]⟩
abbrev S12x16384 : Shape := ⟨2, ![12, 16384]⟩
abbrev S16384x12x64 : Shape := ⟨3, ![16384, 12, 64]⟩
abbrev S_ : Shape := ⟨0, ![]⟩
abbrev S16384x12x128 : Shape := ⟨3, ![16384, 12, 128]⟩
abbrev S16384x1536 : Shape := ⟨2, ![16384, 1536]⟩
abbrev S16x16384 : Shape := ⟨2, ![16, 16384]⟩
abbrev S16x32x512 : Shape := ⟨3, ![16, 32, 512]⟩
abbrev S32x16x512 : Shape := ⟨3, ![32, 16, 512]⟩
abbrev S32x16x1 : Shape := ⟨3, ![32, 16, 1]⟩
abbrev S32x16 : Shape := ⟨2, ![32, 16]⟩
abbrev S16x32 : Shape := ⟨2, ![16, 32]⟩
abbrev S16x128 : Shape := ⟨2, ![16, 128]⟩
abbrev S512x128 : Shape := ⟨2, ![512, 128]⟩
abbrev S16384x128 : Shape := ⟨2, ![16384, 128]⟩
abbrev S1x512x1 : Shape := ⟨3, ![1, 512, 1]⟩
abbrev S1x512x128 : Shape := ⟨3, ![1, 512, 128]⟩
abbrev S1x1x1 : Shape := ⟨3, ![1, 1, 1]⟩
abbrev S512x1 : Shape := ⟨2, ![512, 1]⟩
abbrev S512 : Shape := ⟨1, ![512]⟩
abbrev S1 : Shape := ⟨1, ![1]⟩
abbrev S1x1 : Shape := ⟨2, ![1, 1]⟩
abbrev S1x1x512 : Shape := ⟨3, ![1, 1, 512]⟩
abbrev S1x512 : Shape := ⟨2, ![1, 512]⟩
abbrev S1x128 : Shape := ⟨2, ![1, 128]⟩
abbrev S1x1x128 : Shape := ⟨3, ![1, 1, 128]⟩
abbrev S512x512 : Shape := ⟨2, ![512, 512]⟩

abbrev nBuf : Space → Nat
  | .hbm => 34
  | .vmem => 14
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S12x16384, .f32⟩
  | .hbm, ⟨4, _⟩ => ⟨S16384x12x64, .f32⟩
  | .hbm, ⟨5, _⟩ => ⟨S_, .i32⟩
  | .hbm, ⟨6, _⟩ => ⟨S_, .f32⟩
  | .hbm, ⟨7, _⟩ => ⟨S16384x12x128, .f32⟩
  | .hbm, ⟨8, _⟩ => ⟨S16384x1536, .f32⟩
  | .hbm, ⟨9, _⟩ => ⟨S16384x1536, .bf16⟩
  | .hbm, ⟨10, _⟩ => ⟨S16384x12x64, .f32⟩
  | .hbm, ⟨11, _⟩ => ⟨S_, .i32⟩
  | .hbm, ⟨12, _⟩ => ⟨S_, .f32⟩
  | .hbm, ⟨13, _⟩ => ⟨S16384x12x128, .f32⟩
  | .hbm, ⟨14, _⟩ => ⟨S16384x1536, .f32⟩
  | .hbm, ⟨15, _⟩ => ⟨S16384x1536, .bf16⟩
  | .hbm, ⟨16, _⟩ => ⟨S16384x12x64, .f32⟩
  | .hbm, ⟨17, _⟩ => ⟨S_, .i32⟩
  | .hbm, ⟨18, _⟩ => ⟨S_, .f32⟩
  | .hbm, ⟨19, _⟩ => ⟨S16384x12x128, .f32⟩
  | .hbm, ⟨20, _⟩ => ⟨S16384x1536, .f32⟩
  | .hbm, ⟨21, _⟩ => ⟨S16384x1536, .bf16⟩
  | .hbm, ⟨22, _⟩ => ⟨S_, .i32⟩
  | .hbm, ⟨23, _⟩ => ⟨S_, .f32⟩
  | .hbm, ⟨24, _⟩ => ⟨S16x16384, .f32⟩
  | .hbm, ⟨25, _⟩ => ⟨S16x32x512, .f32⟩
  | .hbm, ⟨26, _⟩ => ⟨S32x16x512, .f32⟩
  | .hbm, ⟨27, _⟩ => ⟨S32x16x1, .f32⟩
  | .hbm, ⟨28, _⟩ => ⟨S32x16, .f32⟩
  | .hbm, ⟨29, _⟩ => ⟨S16x32, .f32⟩
  | .hbm, ⟨30, _⟩ => ⟨S_, .i32⟩
  | .hbm, ⟨31, _⟩ => ⟨S_, .f32⟩
  | .hbm, ⟨32, _⟩ => ⟨S16x128, .f32⟩
  | .hbm, ⟨33, _⟩ => ⟨S16384x1536, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S32x16x512, .f32⟩
  | .local _ .vmem, ⟨7, _⟩ => ⟨S16x128, .f32⟩
  | .local _ .vmem, ⟨8, _⟩ => ⟨S512x128, .bf16⟩
  | .local _ .vmem, ⟨9, _⟩ => ⟨S512x128, .bf16⟩
  | .local _ .vmem, ⟨10, _⟩ => ⟨S1x512x1, .f32⟩
  | .local _ .vmem, ⟨11, _⟩ => ⟨S1x512x1, .f32⟩
  | .local _ .vmem, ⟨12, _⟩ => ⟨S1x512x128, .f32⟩
  | .local _ .vmem, ⟨13, _⟩ => ⟨S1x1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call3_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call4_v0 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 32], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

@[reducible] def k0_t1_loop : Scf.Loop 32 :=
  let c0_i32_68 : BitVec 32 := 0#32
  let c32_i32 : BitVec 32 := 32#32
  let v128 : BitVec 32 := Scalar.addi c0_i32_68 c32_i32
  let c1_i32_69 : BitVec 32 := 1#32
  ⟨c0_i32_68, v128, c1_i32_69⟩
def k0_mult1 (k0_t1 : Fin k0_t1_loop.trips) : BitVec 32 :=
  let c0_i32_68 : BitVec 32 := 0#32
  let c1_i32_69 : BitVec 32 := 1#32
  let arg12 : BitVec 32 := Scf.iv c0_i32_68 c1_i32_69 k0_t1
  let c512_i32_75 : BitVec 32 := 512#32
  let v135 : BitVec 32 := Scalar.muli arg12 c512_i32_75
  v135
def k0_off1 (k0_t1 : Fin k0_t1_loop.trips) : Fin 2 → Nat :=
  let c0_i32_68 : BitVec 32 := 0#32
  let c1_i32_69 : BitVec 32 := 1#32
  let arg12 : BitVec 32 := Scf.iv c0_i32_68 c1_i32_69 k0_t1
  let c512_i32_75 : BitVec 32 := 512#32
  let v135 : BitVec 32 := Scalar.muli arg12 c512_i32_75
  let v136 : BitVec 32 := v135
  let v137 : Index := Scalar.indexCast v136
  let c0_76 : Index := 0#32
  ![v137.toNat, 0]
def k0_off2 (i : grid0.Coords) : Fin 3 → Nat :=
  let arg1 : BitVec 32 := BitVec.ofNat 32 (i 1).val
  let v21 : Index := Scalar.indexCast arg1
  let arg0 : BitVec 32 := BitVec.ofNat 32 (i 0).val
  let c1_i32 : BitVec 32 := 1#32
  let v15 : BitVec 32 := Scalar.muli arg0 c1_i32
  let c0_i32_11 : BitVec 32 := 0#32
  let v16 : BitVec 32 := Scalar.addi v15 c0_i32_11
  let v22 : Index := Scalar.indexCast v16
  let c0_15 : Index := 0#32
  ![v21.toNat, v22.toNat, 0]
def k0_off3 (i : grid0.Coords) : Fin 2 → Nat :=
  let arg0 : BitVec 32 := BitVec.ofNat 32 (i 0).val
  let c1_i32 : BitVec 32 := 1#32
  let v15 : BitVec 32 := Scalar.muli arg0 c1_i32
  let c0_i32_11 : BitVec 32 := 0#32
  let v16 : BitVec 32 := Scalar.addi v15 c0_i32_11
  let v41 : Index := Scalar.indexCast v16
  let c0_23 : Index := 0#32
  ![v41.toNat, 0]
@[reducible] def k0_t2_loop (i : grid0.Coords) (v56 : BitVec 32) : Scf.Loop 32 :=
  let arg1 : BitVec 32 := BitVec.ofNat 32 (i 1).val
  let v57 : BitVec 32 := Scalar.minsi arg1 v56
  let v58 : BitVec 32 := Scalar.subi arg1 v57
  let c1_i32_28 : BitVec 32 := 1#32
  let v60 : BitVec 32 := Scalar.divsi v58 c1_i32_28
  let v61 : BitVec 32 := Scalar.muli v60 c1_i32_28
  let v62 : BitVec 32 := Scalar.addi v57 v61
  let c1_i32_29 : BitVec 32 := 1#32
  ⟨v57, v62, c1_i32_29⟩

def k0_mult2 (i : grid0.Coords) (v56 : BitVec 32) (k0_t2 : Fin (k0_t2_loop i v56).trips) : BitVec 32 :=
  let arg1 : BitVec 32 := BitVec.ofNat 32 (i 1).val
  let v57 : BitVec 32 := Scalar.minsi arg1 v56
  let c1_i32_29 : BitVec 32 := 1#32
  let arg12 : BitVec 32 := Scf.iv v57 c1_i32_29 k0_t2
  let c512_i32_67 : BitVec 32 := 512#32
  let v127 : BitVec 32 := Scalar.muli arg12 c512_i32_67
  v127
def k0_off4 (i : grid0.Coords) (v56 : BitVec 32) (k0_t2 : Fin (k0_t2_loop i v56).trips) : Fin 2 → Nat :=
  let arg1 : BitVec 32 := BitVec.ofNat 32 (i 1).val
  let v57 : BitVec 32 := Scalar.minsi arg1 v56
  let c1_i32_29 : BitVec 32 := 1#32
  let arg12 : BitVec 32 := Scf.iv v57 c1_i32_29 k0_t2
  let c512_i32_67 : BitVec 32 := 512#32
  let v127 : BitVec 32 := Scalar.muli arg12 c512_i32_67
  let v128 : BitVec 32 := v127
  let v131 : Index := Scalar.indexCast v128
  let c0_70 : Index := 0#32
  ![v131.toNat, 0]
def k0_off5 (i : grid0.Coords) (v56 : BitVec 32) (k0_t2 : Fin (k0_t2_loop i v56).trips) : Fin 3 → Nat :=
  let arg1 : BitVec 32 := BitVec.ofNat 32 (i 1).val
  let v57 : BitVec 32 := Scalar.minsi arg1 v56
  let c1_i32_29 : BitVec 32 := 1#32
  let arg12 : BitVec 32 := Scf.iv v57 c1_i32_29 k0_t2
  let v138 : Index := Scalar.indexCast arg12
  let arg0 : BitVec 32 := BitVec.ofNat 32 (i 0).val
  let c1_i32_68 : BitVec 32 := 1#32
  let v129 : BitVec 32 := Scalar.muli arg0 c1_i32_68
  let c0_i32_69 : BitVec 32 := 0#32
  let v130 : BitVec 32 := Scalar.addi v129 c0_i32_69
  let v139 : Index := Scalar.indexCast v130
  let c0_73 : Index := 0#32
  ![v138.toNat, v139.toNat, 0]
@[reducible] def k0_t3_loop (i : grid0.Coords) (v56 : BitVec 32) : Scf.Loop 32 :=
  let arg1 : BitVec 32 := BitVec.ofNat 32 (i 1).val
  let v57 : BitVec 32 := Scalar.minsi arg1 v56
  let v58 : BitVec 32 := Scalar.subi arg1 v57
  let c1_i32_28 : BitVec 32 := 1#32
  let v60 : BitVec 32 := Scalar.divsi v58 c1_i32_28
  let v61 : BitVec 32 := Scalar.muli v60 c1_i32_28
  let v62 : BitVec 32 := Scalar.addi v57 v61
  let v59 : BitVec 32 := Scalar.addi v57 v58
  let c1_i32_30 : BitVec 32 := 1#32
  ⟨v62, v59, c1_i32_30⟩
def k0_mult3 (i : grid0.Coords) (v56 : BitVec 32) (k0_t3 : Fin (k0_t3_loop i v56).trips) : BitVec 32 :=
  let arg1 : BitVec 32 := BitVec.ofNat 32 (i 1).val
  let v57 : BitVec 32 := Scalar.minsi arg1 v56
  let v58 : BitVec 32 := Scalar.subi arg1 v57
  let c1_i32_28 : BitVec 32 := 1#32
  let v60 : BitVec 32 := Scalar.divsi v58 c1_i32_28
  let v61 : BitVec 32 := Scalar.muli v60 c1_i32_28
  let v62 : BitVec 32 := Scalar.addi v57 v61
  let c1_i32_30 : BitVec 32 := 1#32
  let arg12 : BitVec 32 := Scf.iv v62 c1_i32_30 k0_t3
  let c512_i32_67 : BitVec 32 := 512#32
  let v127 : BitVec 32 := Scalar.muli arg12 c512_i32_67
  v127
def k0_off6 (i : grid0.Coords) (v56 : BitVec 32) (k0_t3 : Fin (k0_t3_loop i v56).trips) : Fin 2 → Nat :=
  let arg1 : BitVec 32 := BitVec.ofNat 32 (i 1).val
  let v57 : BitVec 32 := Scalar.minsi arg1 v56
  let v58 : BitVec 32 := Scalar.subi arg1 v57
  let c1_i32_28 : BitVec 32 := 1#32
  let v60 : BitVec 32 := Scalar.divsi v58 c1_i32_28
  let v61 : BitVec 32 := Scalar.muli v60 c1_i32_28
  let v62 : BitVec 32 := Scalar.addi v57 v61
  let c1_i32_30 : BitVec 32 := 1#32
  let arg12 : BitVec 32 := Scf.iv v62 c1_i32_30 k0_t3
  let c512_i32_67 : BitVec 32 := 512#32
  let v127 : BitVec 32 := Scalar.muli arg12 c512_i32_67
  let v128 : BitVec 32 := v127
  let v131 : Index := Scalar.indexCast v128
  let c0_70 : Index := 0#32
  ![v131.toNat, 0]
def k0_off7 (i : grid0.Coords) (v56 : BitVec 32) (k0_t3 : Fin (k0_t3_loop i v56).trips) : Fin 3 → Nat :=
  let arg1 : BitVec 32 := BitVec.ofNat 32 (i 1).val
  let v57 : BitVec 32 := Scalar.minsi arg1 v56
  let v58 : BitVec 32 := Scalar.subi arg1 v57
  let c1_i32_28 : BitVec 32 := 1#32
  let v60 : BitVec 32 := Scalar.divsi v58 c1_i32_28
  let v61 : BitVec 32 := Scalar.muli v60 c1_i32_28
  let v62 : BitVec 32 := Scalar.addi v57 v61
  let c1_i32_30 : BitVec 32 := 1#32
  let arg12 : BitVec 32 := Scf.iv v62 c1_i32_30 k0_t3
  let v138 : Index := Scalar.indexCast arg12
  let arg0 : BitVec 32 := BitVec.ofNat 32 (i 0).val
  let c1_i32_68 : BitVec 32 := 1#32
  let v129 : BitVec 32 := Scalar.muli arg0 c1_i32_68
  let c0_i32_69 : BitVec 32 := 0#32
  let v130 : BitVec 32 := Scalar.addi v129 c0_i32_69
  let v139 : Index := Scalar.indexCast v130
  let c0_73 : Index := 0#32
  ![v138.toNat, v139.toNat, 0]

def k0_chk1 (i : grid0.Coords) (v56 : BitVec 32) : Prop :=
  ((k0_t2_loop i v56).OK) ∧
  (∀ k0_t2 : Fin (k0_t2_loop i v56).trips, 512 ∣ (k0_mult2 i v56 k0_t2).toNat) ∧
  (∀ k0_t2 : Fin (k0_t2_loop i v56).trips, ∀ a, (k0_off4 i v56 k0_t2) a + S512x128.size a ≤ S16384x128.size a) ∧
  (∀ k0_t2 : Fin (k0_t2_loop i v56).trips, ∀ a, (k0_off5 i v56 k0_t2) a + S1x1x512.size a ≤ S32x16x512.size a) ∧
  ((k0_t3_loop i v56).OK) ∧
  (∀ k0_t3 : Fin (k0_t3_loop i v56).trips, 512 ∣ (k0_mult3 i v56 k0_t3).toNat) ∧
  (∀ k0_t3 : Fin (k0_t3_loop i v56).trips, ∀ a, (k0_off6 i v56 k0_t3) a + S512x128.size a ≤ S16384x128.size a) ∧
  (∀ k0_t3 : Fin (k0_t3_loop i v56).trips, ∀ a, (k0_off7 i v56 k0_t3) a + S1x1x512.size a ≤ S32x16x512.size a)
theorem k0_t2_ok : ∀ (i : grid0.Coords) (v56 : BitVec 32) (k0_hw1 : k0_chk1 i v56), (k0_t2_loop i v56).OK := fun i v56 k0_hw1 => k0_hw1.1
theorem k0_mult2_dvd : ∀ (i : grid0.Coords) (v56 : BitVec 32) (k0_hw1 : k0_chk1 i v56) (k0_t2 : Fin (k0_t2_loop i v56).trips), 512 ∣ (k0_mult2 i v56 k0_t2).toNat := fun i v56 k0_hw1 k0_t2 => k0_hw1.2.1 k0_t2
theorem k0_off4_inb : ∀ (i : grid0.Coords) (v56 : BitVec 32) (k0_hw1 : k0_chk1 i v56) (k0_t2 : Fin (k0_t2_loop i v56).trips), ∀ a, (k0_off4 i v56 k0_t2) a + S512x128.size a ≤ S16384x128.size a := fun i v56 k0_hw1 k0_t2 => k0_hw1.2.2.1 k0_t2
theorem k0_off5_inb : ∀ (i : grid0.Coords) (v56 : BitVec 32) (k0_hw1 : k0_chk1 i v56) (k0_t2 : Fin (k0_t2_loop i v56).trips), ∀ a, (k0_off5 i v56 k0_t2) a + S1x1x512.size a ≤ S32x16x512.size a := fun i v56 k0_hw1 k0_t2 => k0_hw1.2.2.2.1 k0_t2
theorem k0_t3_ok : ∀ (i : grid0.Coords) (v56 : BitVec 32) (k0_hw1 : k0_chk1 i v56), (k0_t3_loop i v56).OK := fun i v56 k0_hw1 => k0_hw1.2.2.2.2.1
theorem k0_mult3_dvd : ∀ (i : grid0.Coords) (v56 : BitVec 32) (k0_hw1 : k0_chk1 i v56) (k0_t3 : Fin (k0_t3_loop i v56).trips), 512 ∣ (k0_mult3 i v56 k0_t3).toNat := fun i v56 k0_hw1 k0_t3 => k0_hw1.2.2.2.2.2.1 k0_t3
theorem k0_off6_inb : ∀ (i : grid0.Coords) (v56 : BitVec 32) (k0_hw1 : k0_chk1 i v56) (k0_t3 : Fin (k0_t3_loop i v56).trips), ∀ a, (k0_off6 i v56 k0_t3) a + S512x128.size a ≤ S16384x128.size a := fun i v56 k0_hw1 k0_t3 => k0_hw1.2.2.2.2.2.2.1 k0_t3
theorem k0_off7_inb : ∀ (i : grid0.Coords) (v56 : BitVec 32) (k0_hw1 : k0_chk1 i v56) (k0_t3 : Fin (k0_t3_loop i v56).trips), ∀ a, (k0_off7 i v56 k0_t3) a + S1x1x512.size a ≤ S32x16x512.size a := fun i v56 k0_hw1 k0_t3 => k0_hw1.2.2.2.2.2.2.2 k0_t3

def k0_mult4 (i : grid0.Coords) : BitVec 32 :=
  let arg1 : BitVec 32 := BitVec.ofNat 32 (i 1).val
  let c512_i32 : BitVec 32 := 512#32
  let v63 : BitVec 32 := Scalar.muli arg1 c512_i32
  v63
def k0_off8 (i : grid0.Coords) : Fin 2 → Nat :=
  let arg1 : BitVec 32 := BitVec.ofNat 32 (i 1).val
  let c512_i32 : BitVec 32 := 512#32
  let v63 : BitVec 32 := Scalar.muli arg1 c512_i32
  let v64 : BitVec 32 := v63
  let v67 : Index := Scalar.indexCast v64
  let c0_33 : Index := 0#32
  ![v67.toNat, 0]
def k0_off9 (i : grid0.Coords) : Fin 3 → Nat :=
  let arg1 : BitVec 32 := BitVec.ofNat 32 (i 1).val
  let v74 : Index := Scalar.indexCast arg1
  let arg0 : BitVec 32 := BitVec.ofNat 32 (i 0).val
  let c1_i32_31 : BitVec 32 := 1#32
  let v65 : BitVec 32 := Scalar.muli arg0 c1_i32_31
  let c0_i32_32 : BitVec 32 := 0#32
  let v66 : BitVec 32 := Scalar.addi v65 c0_i32_32
  let v75 : Index := Scalar.indexCast v66
  let c0_36 : Index := 0#32
  ![v74.toNat, v75.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxKernelIdeal.lean ====
variable {F : FTy → Type} [FloatOps F] [Named F]
def κ : String → Option EReal := fun
  | "mask" => some ⊥
  | "underflow" => some ⊤
  | _ => none
-- ==== FoxReferenceIdeal.lean ====
abbrev S16384x768 : Shape := ⟨2, ![16384, 768]⟩
abbrev S12x16384 : Shape := ⟨2, ![12, 16384]⟩
abbrev S_ : Shape := ⟨0, ![]⟩
abbrev S16384x12x64 : Shape := ⟨3, ![16384, 12, 64]⟩
abbrev S16384 : Shape := ⟨1, ![16384]⟩
abbrev S12x16384x16384 : Shape := ⟨3, ![12, 16384, 16384]⟩
abbrev S12x16384x1 : Shape := ⟨3, ![12, 16384, 1]⟩
abbrev S12x1x16384 : Shape := ⟨3, ![12, 1, 16384]⟩
abbrev S1x16384 : Shape := ⟨2, ![1, 16384]⟩
abbrev S16384x1 : Shape := ⟨2, ![16384, 1]⟩
abbrev S16384x16384 : Shape := ⟨2, ![16384, 16384]⟩
abbrev S12x64x16384 : Shape := ⟨3, ![12, 64, 16384]⟩
abbrev S16384x12x128 : Shape := ⟨3, ![16384, 12, 128]⟩
abbrev S16384x1536 : Shape := ⟨2, ![16384, 1536]⟩

abbrev nBuf : Space → Nat
  | .hbm => 57
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S12x16384, .f32⟩
  | .hbm, ⟨4, _⟩ => ⟨S_, .f32⟩
  | .hbm, ⟨5, _⟩ => ⟨S16384x768, .f32⟩
  | .hbm, ⟨6, _⟩ => ⟨S16384x768, .f32⟩
  | .hbm, ⟨7, _⟩ => ⟨S16384x12x64, .f32⟩
  | .hbm, ⟨8, _⟩ => ⟨S16384x12x64, .f32⟩
  | .hbm, ⟨9, _⟩ => ⟨S16384x12x64, .f32⟩
  | .hbm, ⟨10, _⟩ => ⟨S16384, .i32⟩
  | .hbm, ⟨11, _⟩ => ⟨S12x16384x16384, .f32⟩
  | .hbm, ⟨12, _⟩ => ⟨S12x16384x1, .f32⟩
  | .hbm, ⟨13, _⟩ => ⟨S12x16384x16384, .f32⟩
  | .hbm, ⟨14, _⟩ => ⟨S12x16384x16384, .f32⟩
  | .hbm, ⟨15, _⟩ => ⟨S12x1x16384, .f32⟩
  | .hbm, ⟨16, _⟩ => ⟨S12x16384x16384, .f32⟩
  | .hbm, ⟨17, _⟩ => ⟨S12x16384x16384, .f32⟩
  | .hbm, ⟨18, _⟩ => ⟨S1x16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S_, .f32⟩
  | .hbm, ⟨25, _⟩ => ⟨S12x16384x16384, .i1⟩
  | .hbm, ⟨26, _⟩ => ⟨S12x16384x16384, .f32⟩
  | .hbm, ⟨27, _⟩ => ⟨S12x16384x16384, .f32⟩
  | .hbm, ⟨28, _⟩ => ⟨S_, .f32⟩
  | .hbm, ⟨29, _⟩ => ⟨S12x16384, .f32⟩
  | .hbm, ⟨30, _⟩ => ⟨S12x16384x1, .f32⟩
  | .hbm, ⟨31, _⟩ => ⟨S12x16384x1, .f32⟩
  | .hbm, ⟨32, _⟩ => ⟨S_, .f32⟩
  | .hbm, ⟨33, _⟩ => ⟨S12x16384x1, .f32⟩
  | .hbm, ⟨34, _⟩ => ⟨S12x16384x1, .i1⟩
  | .hbm, ⟨35, _⟩ => ⟨S_, .f32⟩
  | .hbm, ⟨36, _⟩ => ⟨S_, .f32⟩
  | .hbm, ⟨37, _⟩ => ⟨S12x16384x1, .f32⟩
  | .hbm, ⟨38, _⟩ => ⟨S12x16384x1, .f32⟩
  | .hbm, ⟨39, _⟩ => ⟨S12x16384x16384, .f32⟩
  | .hbm, ⟨40, _⟩ => ⟨S12x16384x16384, .f32⟩
  | .hbm, ⟨41, _⟩ => ⟨S12x16384x16384, .f32⟩
  | .hbm, ⟨42, _⟩ => ⟨S_, .f32⟩
  | .hbm, ⟨43, _⟩ => ⟨S12x16384, .f32⟩
  | .hbm, ⟨44, _⟩ => ⟨S12x16384x1, .f32⟩
  | .hbm, ⟨45, _⟩ => ⟨S_, .f32⟩
  | .hbm, ⟨46, _⟩ => ⟨S12x16384x1, .f32⟩
  | .hbm, ⟨47, _⟩ => ⟨S12x16384x1, .f32⟩
  | .hbm, ⟨48, _⟩ => ⟨S12x16384x16384, .f32⟩
  | .hbm, ⟨49, _⟩ => ⟨S12x16384x16384, .f32⟩
  | .hbm, ⟨50, _⟩ => ⟨S12x64x16384, .f32⟩
  | .hbm, ⟨51, _⟩ => ⟨S16384x12x64, .f32⟩
  | .hbm, ⟨52, _⟩ => ⟨S_, .i32⟩
  | .hbm, ⟨53, _⟩ => ⟨S_, .f32⟩
  | .hbm, ⟨54, _⟩ => ⟨S16384x12x128, .f32⟩
  | .hbm, ⟨55, _⟩ => ⟨S16384x1536, .f32⟩
  | .hbm, ⟨56, _⟩ => ⟨S16384x1536, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call2_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== FfnKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 1], ![false, false]⟩

def k0_cond4 (i : grid0.Coords) : BitVec 1 :=
  let arg1 : BitVec 32 := BitVec.ofNat 32 (i 1).val
  let c0_i32_14 : BitVec 32 := 0#32
  let v23 : BitVec 1 := Scalar.cmpi .eq arg1 c0_i32_14
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== LastKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 1], ![false, false]⟩

def k0_cond4 (i : grid0.Coords) : BitVec 1 :=
  let arg1 : BitVec 32 := BitVec.ofNat 32 (i 1).val
  let c0_i32_14 : BitVec 32 := 0#32
  let v23 : BitVec 1 := Scalar.cmpi .eq arg1 c0_i32_14
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== FoxProjKernel.lean ====
abbrev S16384x1024 : Shape := ⟨2, ![16384, 1024]⟩
abbrev S1024 : Shape := ⟨1, ![1024]⟩
abbrev S1024x2572 : Shape := ⟨2, ![1024, 2572]⟩
abbrev S1024x768 : Shape := ⟨2, ![1024, 768]⟩
abbrev S1024x12 : Shape := ⟨2, ![1024, 12]⟩
abbrev S1024x256 : Shape := ⟨2, ![1024, 256]⟩
abbrev S1024x12x64 : Shape := ⟨3, ![1024, 12, 64]⟩
abbrev S_ : Shape := ⟨0, ![]⟩
abbrev S1024x12x128 : Shape := ⟨3, ![1024, 12, 128]⟩
abbrev S1024x1536 : Shape := ⟨2, ![1024, 1536]⟩
abbrev S1024x4x64 : Shape := ⟨3, ![1024, 4, 64]⟩
abbrev S1024x4x128 : Shape := ⟨3, ![1024, 4, 128]⟩
abbrev S1024x512 : Shape := ⟨2, ![1024, 512]⟩
abbrev S1024x128 : Shape := ⟨2, ![1024, 128]⟩
abbrev S1024x5248 : Shape := ⟨2, ![1024, 5248]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 39
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2572, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x12, .f32⟩
  | .hbm, ⟨7, _⟩ => ⟨S1024x256, .f32⟩
  | .hbm, ⟨8, _⟩ => ⟨S1024x12x64, .f32⟩
  | .hbm, ⟨9, _⟩ => ⟨S_, .i32⟩
  | .hbm, ⟨10, _⟩ => ⟨S_, .f32⟩
  | .hbm, ⟨11, _⟩ => ⟨S1024x12x128, .f32⟩
  | .hbm, ⟨12, _⟩ => ⟨S1024x1536, .f32⟩
  | .hbm, ⟨13, _⟩ => ⟨S1024x12x64, .f32⟩
  | .hbm, ⟨14, _⟩ => ⟨S_, .i32⟩
  | .hbm, ⟨15, _⟩ => ⟨S_, .f32⟩
  | .hbm, ⟨16, _⟩ => ⟨S1024x12x128, .f32⟩
  | .hbm, ⟨17, _⟩ => ⟨S1024x1536, .f32⟩
  | .hbm, ⟨18, _⟩ => ⟨S1024x12x64, .f32⟩
  | .hbm, ⟨19, _⟩ => ⟨S_, .i32⟩
  | .hbm, ⟨20, _⟩ => ⟨S_, .f32⟩
  | .hbm, ⟨21, _⟩ => ⟨S1024x12x128, .f32⟩
  | .hbm, ⟨22, _⟩ => ⟨S1024x1536, .f32⟩
  | .hbm, ⟨23, _⟩ => ⟨S1024x4x64, .f32⟩
  | .hbm, ⟨24, _⟩ => ⟨S_, .i32⟩
  | .hbm, ⟨25, _⟩ => ⟨S_, .f32⟩
  | .hbm, ⟨26, _⟩ => ⟨S1024x4x128, .f32⟩
  | .hbm, ⟨27, _⟩ => ⟨S1024x512, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x5248, .f32⟩
  | .hbm, ⟨32, _⟩ => ⟨S1024x5248, .bf16⟩
  | .hbm, ⟨33, _⟩ => ⟨S1x1024, .f32⟩
  | .hbm, ⟨34, _⟩ => ⟨S16384x1536, .bf16⟩
  | .hbm, ⟨35, _⟩ => ⟨S16384x1536, .bf16⟩
  | .hbm, ⟨36, _⟩ => ⟨S16384x1536, .bf16⟩
  | .hbm, ⟨37, _⟩ => ⟨S16384x512, .bf16⟩
  | .hbm, ⟨38, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5248, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call4_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FoxProjReferenceIdeal.lean ====
abbrev S16384x1024 : Shape := ⟨2, ![16384, 1024]⟩
abbrev S1024 : Shape := ⟨1, ![1024]⟩
abbrev S1024x2572 : Shape := ⟨2, ![1024, 2572]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2572 : Shape := ⟨2, ![16384, 2572]⟩
abbrev S16384x768 : Shape := ⟨2, ![16384, 768]⟩
abbrev S16384x12 : Shape := ⟨2, ![16384, 12]⟩
abbrev S16384x256 : Shape := ⟨2, ![16384, 256]⟩
abbrev S16384x12x64 : Shape := ⟨3, ![16384, 12, 64]⟩
abbrev S16384x12x128 : Shape := ⟨3, ![16384, 12, 128]⟩
abbrev S16384x1536 : Shape := ⟨2, ![16384, 1536]⟩
abbrev S16384x4x64 : Shape := ⟨3, ![16384, 4, 64]⟩
abbrev S16384x4x128 : Shape := ⟨3, ![16384, 4, 128]⟩
abbrev S16384x512 : Shape := ⟨2, ![16384, 512]⟩
abbrev S16384x128 : Shape := ⟨2, ![16384, 128]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2572, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2572, .f32⟩
  | .hbm, ⟨20, _⟩ => ⟨S16384x768, .f32⟩
  | .hbm, ⟨21, _⟩ => ⟨S16384x768, .f32⟩
  | .hbm, ⟨22, _⟩ => ⟨S16384x768, .f32⟩
  | .hbm, ⟨23, _⟩ => ⟨S16384x12, .f32⟩
  | .hbm, ⟨24, _⟩ => ⟨S16384x256, .f32⟩
  | .hbm, ⟨25, _⟩ => ⟨S16384x12x64, .f32⟩
  | .hbm, ⟨26, _⟩ => ⟨S_, .i32⟩
  | .hbm, ⟨27, _⟩ => ⟨S_, .f32⟩
  | .hbm, ⟨28, _⟩ => ⟨S16384x12x128, .f32⟩
  | .hbm, ⟨29, _⟩ => ⟨S16384x1536, .f32⟩
  | .hbm, ⟨30, _⟩ => ⟨S16384x1536, .bf16⟩
  | .hbm, ⟨31, _⟩ => ⟨S16384x12x64, .f32⟩
  | .hbm, ⟨32, _⟩ => ⟨S_, .i32⟩
  | .hbm, ⟨33, _⟩ => ⟨S_, .f32⟩
  | .hbm, ⟨34, _⟩ => ⟨S16384x12x128, .f32⟩
  | .hbm, ⟨35, _⟩ => ⟨S16384x1536, .f32⟩
  | .hbm, ⟨36, _⟩ => ⟨S16384x1536, .bf16⟩
  | .hbm, ⟨37, _⟩ => ⟨S16384x12x64, .f32⟩
  | .hbm, ⟨38, _⟩ => ⟨S_, .i32⟩
  | .hbm, ⟨39, _⟩ => ⟨S_, .f32⟩
  | .hbm, ⟨40, _⟩ => ⟨S16384x12x128, .f32⟩
  | .hbm, ⟨41, _⟩ => ⟨S16384x1536, .f32⟩
  | .hbm, ⟨42, _⟩ => ⟨S16384x1536, .bf16⟩
  | .hbm, ⟨43, _⟩ => ⟨S16384x4x64, .f32⟩
  | .hbm, ⟨44, _⟩ => ⟨S_, .i32⟩
  | .hbm, ⟨45, _⟩ => ⟨S_, .f32⟩
  | .hbm, ⟨46, _⟩ => ⟨S16384x4x128, .f32⟩
  | .hbm, ⟨47, _⟩ => ⟨S16384x512, .f32⟩
  | .hbm, ⟨48, _⟩ => ⟨S16384x512, .bf16⟩
  | .hbm, ⟨49, _⟩ => ⟨S_, .i32⟩
  | .hbm, ⟨50, _⟩ => ⟨S_, .f32⟩
  | .hbm, ⟨51, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call2_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_call3_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_call4_v0 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== ConvProjKernel.lean ====
abbrev S16384x1024 : Shape := ⟨2, ![16384, 1024]⟩
abbrev S1024 : Shape := ⟨1, ![1024]⟩
abbrev S1024x2560 : Shape := ⟨2, ![1024, 2560]⟩
abbrev S1024x2304 : Shape := ⟨2, ![1024, 2304]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x2816 : Shape := ⟨2, ![1024, 2816]⟩
abbrev S1x1024 : Shape := ⟨2, ![1, 1024]⟩
abbrev S16384x768 : Shape := ⟨2, ![16384, 768]⟩
abbrev S16384x512 : Shape := ⟨2, ![16384, 512]⟩
abbrev S512x1024 : Shape := ⟨2, ![512, 1024]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1024x2304, .f32⟩
  | .hbm, ⟨4, _⟩ => ⟨S1024x256, .f32⟩
  | .hbm, ⟨5, _⟩ => ⟨S1024x4x64, .f32⟩
  | .hbm, ⟨6, _⟩ => ⟨S_, .i32⟩
  | .hbm, ⟨7, _⟩ => ⟨S_, .f32⟩
  | .hbm, ⟨8, _⟩ => ⟨S1024x4x128, .f32⟩
  | .hbm, ⟨9, _⟩ => ⟨S1024x512, .f32⟩
  | .hbm, ⟨10, _⟩ => ⟨S1024x2816, .f32⟩
  | .hbm, ⟨11, _⟩ => ⟨S1024x2816, .bf16⟩
  | .hbm, ⟨12, _⟩ => ⟨S1x1024, .f32⟩
  | .hbm, ⟨13, _⟩ => ⟨S16384x768, .f32⟩
  | .hbm, ⟨14, _⟩ => ⟨S16384x768, .f32⟩
  | .hbm, ⟨15, _⟩ => ⟨S16384x768, .f32⟩
  | .hbm, ⟨16, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x512, .bf16⟩
  | .local _ .vmem, ⟨11, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvProjReferenceIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x768 : Shape := ⟨2, ![16384, 768]⟩
abbrev S16384x256 : Shape := ⟨2, ![16384, 256]⟩
abbrev S16384x4x64 : Shape := ⟨3, ![16384, 4, 64]⟩
abbrev S16384x4x128 : Shape := ⟨3, ![16384, 4, 128]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2560, .f32⟩
  | .hbm, ⟨20, _⟩ => ⟨S16384x768, .f32⟩
  | .hbm, ⟨21, _⟩ => ⟨S16384x768, .f32⟩
  | .hbm, ⟨22, _⟩ => ⟨S16384x768, .f32⟩
  | .hbm, ⟨23, _⟩ => ⟨S16384x256, .f32⟩
  | .hbm, ⟨24, _⟩ => ⟨S16384x4x64, .f32⟩
  | .hbm, ⟨25, _⟩ => ⟨S_, .i32⟩
  | .hbm, ⟨26, _⟩ => ⟨S_, .f32⟩
  | .hbm, ⟨27, _⟩ => ⟨S16384x4x128, .f32⟩
  | .hbm, ⟨28, _⟩ => ⟨S16384x512, .f32⟩
  | .hbm, ⟨29, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== MemProjKernel.lean ====
abbrev S256x1024 : Shape := ⟨2, ![256, 1024]⟩
abbrev S1024 : Shape := ⟨1, ![1024]⟩
abbrev S1024x512 : Shape := ⟨2, ![1024, 512]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x1024 : Shape := ⟨2, ![1024, 1024]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 20
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S1024x256, .f32⟩
  | .hbm, ⟨4, _⟩ => ⟨S1024x4x64, .f32⟩
  | .hbm, ⟨5, _⟩ => ⟨S_, .i32⟩
  | .hbm, ⟨6, _⟩ => ⟨S_, .f32⟩
  | .hbm, ⟨7, _⟩ => ⟨S1024x4x128, .f32⟩
  | .hbm, ⟨8, _⟩ => ⟨S1024x512, .f32⟩
  | .hbm, ⟨9, _⟩ => ⟨S1024x256, .f32⟩
  | .hbm, ⟨10, _⟩ => ⟨S1024x4x64, .f32⟩
  | .hbm, ⟨11, _⟩ => ⟨S_, .i32⟩
  | .hbm, ⟨12, _⟩ => ⟨S_, .f32⟩
  | .hbm, ⟨13, _⟩ => ⟨S1024x4x128, .f32⟩
  | .hbm, ⟨14, _⟩ => ⟨S1024x512, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S256x512, .bf16⟩
  | .hbm, ⟨19, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x512, .bf16⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== MemProjReferenceIdeal.lean ====
abbrev S256x1024 : Shape := ⟨2, ![256, 1024]⟩
abbrev S1024 : Shape := ⟨1, ![1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S256x256 : Shape := ⟨2, ![256, 256]⟩
abbrev S256x4x64 : Shape := ⟨3, ![256, 4, 64]⟩
abbrev S256x4x128 : Shape := ⟨3, ![256, 4, 128]⟩

abbrev nBuf : Space → Nat
  | .hbm => 34
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x512, .f32⟩
  | .hbm, ⟨20, _⟩ => ⟨S256x256, .f32⟩
  | .hbm, ⟨21, _⟩ => ⟨S256x256, .f32⟩
  | .hbm, ⟨22, _⟩ => ⟨S256x4x64, .f32⟩
  | .hbm, ⟨23, _⟩ => ⟨S_, .i32⟩
  | .hbm, ⟨24, _⟩ => ⟨S_, .f32⟩
  | .hbm, ⟨25, _⟩ => ⟨S256x4x128, .f32⟩
  | .hbm, ⟨26, _⟩ => ⟨S256x512, .f32⟩
  | .hbm, ⟨27, _⟩ => ⟨S256x512, .bf16⟩
  | .hbm, ⟨28, _⟩ => ⟨S256x4x64, .f32⟩
  | .hbm, ⟨29, _⟩ => ⟨S_, .i32⟩
  | .hbm, ⟨30, _⟩ => ⟨S_, .f32⟩
  | .hbm, ⟨31, _⟩ => ⟨S256x4x128, .f32⟩
  | .hbm, ⟨32, _⟩ => ⟨S256x512, .f32⟩
  | .hbm, ⟨33, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== OutKernel.lean ====
abbrev S16384x1024 : Shape := ⟨2, ![16384, 1024]⟩
abbrev S16384x768 : Shape := ⟨2, ![16384, 768]⟩
abbrev S16384x256 : Shape := ⟨2, ![16384, 256]⟩
abbrev S256x256 : Shape := ⟨2, ![256, 256]⟩
abbrev S1024x1024 : Shape := ⟨2, ![1024, 1024]⟩
abbrev S16384x12x64 : Shape := ⟨3, ![16384, 12, 64]⟩
abbrev S_ : Shape := ⟨0, ![]⟩
abbrev S16384x12x128 : Shape := ⟨3, ![16384, 12, 128]⟩
abbrev S16384x1536 : Shape := ⟨2, ![16384, 1536]⟩
abbrev S16384x4x64 : Shape := ⟨3, ![16384, 4, 64]⟩
abbrev S16384x4x128 : Shape := ⟨3, ![16384, 4, 128]⟩
abbrev S16384x512 : Shape := ⟨2, ![16384, 512]⟩
abbrev S256x4x64 : Shape := ⟨3, ![256, 4, 64]⟩
abbrev S256x4x128 : Shape := ⟨3, ![256, 4, 128]⟩
abbrev S256x512 : Shape := ⟨2, ![256, 512]⟩
abbrev S768x1024 : Shape := ⟨2, ![768, 1024]⟩
abbrev S12x64x1024 : Shape := ⟨3, ![12, 64, 1024]⟩
abbrev S12x128x1024 : Shape := ⟨3, ![12, 128, 1024]⟩
abbrev S1536x1024 : Shape := ⟨2, ![1536, 1024]⟩
abbrev S256x1024 : Shape := ⟨2, ![256, 1024]⟩
abbrev S4x64x1024 : Shape := ⟨3, ![4, 64, 1024]⟩
abbrev S4x128x1024 : Shape := ⟨3, ![4, 128, 1024]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128x1024 : Shape := ⟨2, ![128, 1024]⟩

abbrev nBuf : Space → Nat
  | .hbm => 45
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S256x256, .f32⟩
  | .hbm, ⟨4, _⟩ => ⟨S256x256, .f32⟩
  | .hbm, ⟨5, _⟩ => ⟨S1024x1024, .f32⟩
  | .hbm, ⟨6, _⟩ => ⟨S16384x12x64, .f32⟩
  | .hbm, ⟨7, _⟩ => ⟨S_, .i32⟩
  | .hbm, ⟨8, _⟩ => ⟨S_, .f32⟩
  | .hbm, ⟨9, _⟩ => ⟨S16384x12x128, .f32⟩
  | .hbm, ⟨10, _⟩ => ⟨S16384x1536, .f32⟩
  | .hbm, ⟨11, _⟩ => ⟨S16384x1536, .bf16⟩
  | .hbm, ⟨12, _⟩ => ⟨S16384x4x64, .f32⟩
  | .hbm, ⟨13, _⟩ => ⟨S_, .i32⟩
  | .hbm, ⟨14, _⟩ => ⟨S_, .f32⟩
  | .hbm, ⟨15, _⟩ => ⟨S16384x4x128, .f32⟩
  | .hbm, ⟨16, _⟩ => ⟨S16384x512, .f32⟩
  | .hbm, ⟨17, _⟩ => ⟨S16384x512, .bf16⟩
  | .hbm, ⟨18, _⟩ => ⟨S256x4x64, .f32⟩
  | .hbm, ⟨19, _⟩ => ⟨S_, .i32⟩
  | .hbm, ⟨20, _⟩ => ⟨S_, .f32⟩
  | .hbm, ⟨21, _⟩ => ⟨S256x4x128, .f32⟩
  | .hbm, ⟨22, _⟩ => ⟨S256x512, .f32⟩
  | .hbm, ⟨23, _⟩ => ⟨S256x512, .bf16⟩
  | .hbm, ⟨24, _⟩ => ⟨S256x4x64, .f32⟩
  | .hbm, ⟨25, _⟩ => ⟨S_, .i32⟩
  | .hbm, ⟨26, _⟩ => ⟨S_, .f32⟩
  | .hbm, ⟨27, _⟩ => ⟨S256x4x128, .f32⟩
  | .hbm, ⟨28, _⟩ => ⟨S256x512, .f32⟩
  | .hbm, ⟨29, _⟩ => ⟨S256x512, .bf16⟩
  | .hbm, ⟨30, _⟩ => ⟨S768x1024, .f32⟩
  | .hbm, ⟨31, _⟩ => ⟨S12x64x1024, .f32⟩
  | .hbm, ⟨32, _⟩ => ⟨S_, .i32⟩
  | .hbm, ⟨33, _⟩ => ⟨S_, .f32⟩
  | .hbm, ⟨34, _⟩ => ⟨S12x128x1024, .f32⟩
  | .hbm, ⟨35, _⟩ => ⟨S1536x1024, .f32⟩
  | .hbm, ⟨36, _⟩ => ⟨S1536x1024, .bf16⟩
  | .hbm, ⟨37, _⟩ => ⟨S256x1024, .f32⟩
  | .hbm, ⟨38, _⟩ => ⟨S4x64x1024, .f32⟩
  | .hbm, ⟨39, _⟩ => ⟨S_, .i32⟩
  | .hbm, ⟨40, _⟩ => ⟨S_, .f32⟩
  | .hbm, ⟨41, _⟩ => ⟨S4x128x1024, .f32⟩
  | .hbm, ⟨42, _⟩ => ⟨S512x1024, .f32⟩
  | .hbm, ⟨43, _⟩ => ⟨S512x1024, .bf16⟩
  | .hbm, ⟨44, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S1536x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_call4_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_call5_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S16384x1024 : Shape := ⟨2, ![16384, 1024]⟩
abbrev S16384x768 : Shape := ⟨2, ![16384, 768]⟩
abbrev S16384x256 : Shape := ⟨2, ![16384, 256]⟩
abbrev S256x256 : Shape := ⟨2, ![256, 256]⟩
abbrev S1024x1024 : Shape := ⟨2, ![1024, 1024]⟩
abbrev S16384x4x64 : Shape := ⟨3, ![16384, 4, 64]⟩
abbrev S256x4x64 : Shape := ⟨3, ![256, 4, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x64x16384 : Shape := ⟨3, ![4, 64, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S256x256, .f32⟩
  | .hbm, ⟨4, _⟩ => ⟨S256x256, .f32⟩
  | .hbm, ⟨5, _⟩ => ⟨S1024x1024, .f32⟩
  | .hbm, ⟨6, _⟩ => ⟨S16384x4x64, .f32⟩
  | .hbm, ⟨7, _⟩ => ⟨S256x4x64, .f32⟩
  | .hbm, ⟨8, _⟩ => ⟨S256x4x64, .f32⟩
  | .hbm, ⟨9, _⟩ => ⟨S4x16384x256, .f32⟩
  | .hbm, ⟨10, _⟩ => ⟨S_, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4x16384, .f32⟩
  | .hbm, ⟨15, _⟩ => ⟨S_, .f32⟩
  | .hbm, ⟨16, _⟩ => ⟨S4x16384, .f32⟩
  | .hbm, ⟨17, _⟩ => ⟨S4x16384, .f32⟩
  | .hbm, ⟨18, _⟩ => ⟨S4x16384x1, .f32⟩
  | .hbm, ⟨19, _⟩ => ⟨S4x16384x256, .f32⟩
  | .hbm, ⟨20, _⟩ => ⟨S4x16384x256, .f32⟩
  | .hbm, ⟨21, _⟩ => ⟨S4x16384x256, .f32⟩
  | .hbm, ⟨22, _⟩ => ⟨S_, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S4x64x16384, .f32⟩
  | .hbm, ⟨28, _⟩ => ⟨S16384x4x64, .f32⟩
  | .hbm, ⟨29, _⟩ => ⟨S16384x256, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== ConvOutKernel.lean ====
abbrev S16384x1024 : Shape := ⟨2, ![16384, 1024]⟩
abbrev S16384x768 : Shape := ⟨2, ![16384, 768]⟩
abbrev S16384x256 : Shape := ⟨2, ![16384, 256]⟩
abbrev S256x256 : Shape := ⟨2, ![256, 256]⟩
abbrev S1024x1024 : Shape := ⟨2, ![1024, 1024]⟩
abbrev S16384x4x64 : Shape := ⟨3, ![16384, 4, 64]⟩
abbrev S_ : Shape := ⟨0, ![]⟩
abbrev S16384x4x128 : Shape := ⟨3, ![16384, 4, 128]⟩
abbrev S16384x512 : Shape := ⟨2, ![16384, 512]⟩
abbrev S256x4x64 : Shape := ⟨3, ![256, 4, 64]⟩
abbrev S256x4x128 : Shape := ⟨3, ![256, 4, 128]⟩
abbrev S256x512 : Shape := ⟨2, ![256, 512]⟩
abbrev S768x1024 : Shape := ⟨2, ![768, 1024]⟩
abbrev S256x1024 : Shape := ⟨2, ![256, 1024]⟩
abbrev S4x64x1024 : Shape := ⟨3, ![4, 64, 1024]⟩
abbrev S4x128x1024 : Shape := ⟨3, ![4, 128, 1024]⟩
abbrev S512x1024 : Shape := ⟨2, ![512, 1024]⟩
abbrev S512x768 : Shape := ⟨2, ![512, 768]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S128x1024 : Shape := ⟨2, ![128, 1024]⟩

abbrev nBuf : Space → Nat
  | .hbm => 35
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S256x256, .f32⟩
  | .hbm, ⟨4, _⟩ => ⟨S256x256, .f32⟩
  | .hbm, ⟨5, _⟩ => ⟨S1024x1024, .f32⟩
  | .hbm, ⟨6, _⟩ => ⟨S16384x4x64, .f32⟩
  | .hbm, ⟨7, _⟩ => ⟨S_, .i32⟩
  | .hbm, ⟨8, _⟩ => ⟨S_, .f32⟩
  | .hbm, ⟨9, _⟩ => ⟨S16384x4x128, .f32⟩
  | .hbm, ⟨10, _⟩ => ⟨S16384x512, .f32⟩
  | .hbm, ⟨11, _⟩ => ⟨S16384x512, .bf16⟩
  | .hbm, ⟨12, _⟩ => ⟨S256x4x64, .f32⟩
  | .hbm, ⟨13, _⟩ => ⟨S_, .i32⟩
  | .hbm, ⟨14, _⟩ => ⟨S_, .f32⟩
  | .hbm, ⟨15, _⟩ => ⟨S256x4x128, .f32⟩
  | .hbm, ⟨16, _⟩ => ⟨S256x512, .f32⟩
  | .hbm, ⟨17, _⟩ => ⟨S256x512, .bf16⟩
  | .hbm, ⟨18, _⟩ => ⟨S256x4x64, .f32⟩
  | .hbm, ⟨19, _⟩ => ⟨S_, .i32⟩
  | .hbm, ⟨20, _⟩ => ⟨S_, .f32⟩
  | .hbm, ⟨21, _⟩ => ⟨S256x4x128, .f32⟩
  | .hbm, ⟨22, _⟩ => ⟨S256x512, .f32⟩
  | .hbm, ⟨23, _⟩ => ⟨S256x512, .bf16⟩
  | .hbm, ⟨24, _⟩ => ⟨S16384x768, .bf16⟩
  | .hbm, ⟨25, _⟩ => ⟨S768x1024, .f32⟩
  | .hbm, ⟨26, _⟩ => ⟨S768x1024, .bf16⟩
  | .hbm, ⟨27, _⟩ => ⟨S256x1024, .f32⟩
  | .hbm, ⟨28, _⟩ => ⟨S4x64x1024, .f32⟩
  | .hbm, ⟨29, _⟩ => ⟨S_, .i32⟩
  | .hbm, ⟨30, _⟩ => ⟨S_, .f32⟩
  | .hbm, ⟨31, _⟩ => ⟨S4x128x1024, .f32⟩
  | .hbm, ⟨32, _⟩ => ⟨S512x1024, .f32⟩
  | .hbm, ⟨33, _⟩ => ⟨S512x1024, .bf16⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S768x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_call3_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvKernel.lean ====
abbrev S16384x768 : Shape := ⟨2, ![16384, 768]⟩
abbrev S3x768 : Shape := ⟨2, ![3, 768]⟩
abbrev S_ : Shape := ⟨0, ![]⟩
abbrev S8x768 : Shape := ⟨2, ![8, 768]⟩
abbrev S512x768 : Shape := ⟨2, ![512, 768]⟩
abbrev S520x768 : Shape := ⟨2, ![520, 768]⟩
abbrev S1x768 : Shape := ⟨2, ![1, 768]⟩

abbrev nBuf : Space → Nat
  | .hbm => 8
  | .vmem => 13
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S3x768, .f32⟩
  | .hbm, ⟨4, _⟩ => ⟨S_, .i32⟩
  | .hbm, ⟨5, _⟩ => ⟨S_, .f32⟩
  | .hbm, ⟨6, _⟩ => ⟨S8x768, .f32⟩
  | .hbm, ⟨7, _⟩ => ⟨S16384x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S512x768, .bf16⟩
  | .local _ .vmem, ⟨12, _⟩ => ⟨S512x768, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvReferenceIdeal.lean ====
abbrev S16384x768 : Shape := ⟨2, ![16384, 768]⟩
abbrev S3x768 : Shape := ⟨2, ![3, 768]⟩
abbrev S_ : Shape := ⟨0, ![]⟩
abbrev S16386x768 : Shape := ⟨2, ![16386, 768]⟩
abbrev S1x768 : Shape := ⟨2, ![1, 768]⟩
abbrev S768 : Shape := ⟨1, ![768]⟩

abbrev nBuf : Space → Nat
  | .hbm => 33
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S3x768, .f32⟩
  | .hbm, ⟨4, _⟩ => ⟨S16384x768, .f32⟩
  | .hbm, ⟨5, _⟩ => ⟨S_, .i32⟩
  | .hbm, ⟨6, _⟩ => ⟨S_, .f32⟩
  | .hbm, ⟨7, _⟩ => ⟨S16386x768, .f32⟩
  | .hbm, ⟨8, _⟩ => ⟨S1x768, .f32⟩
  | .hbm, ⟨9, _⟩ => ⟨S768, .f32⟩
  | .hbm, ⟨10, _⟩ => ⟨S16384x768, .f32⟩
  | .hbm, ⟨11, _⟩ => ⟨S1x768, .f32⟩
  | .hbm, ⟨12, _⟩ => ⟨S16384x768, .f32⟩
  | .hbm, ⟨13, _⟩ => ⟨S16384x768, .f32⟩
  | .hbm, ⟨14, _⟩ => ⟨S_, .f32⟩
  | .hbm, ⟨15, _⟩ => ⟨S16384x768, .f32⟩
  | .hbm, ⟨16, _⟩ => ⟨S16384x768, .f32⟩
  | .hbm, ⟨17, _⟩ => ⟨S1x768, .f32⟩
  | .hbm, ⟨18, _⟩ => ⟨S768, .f32⟩
  | .hbm, ⟨19, _⟩ => ⟨S16384x768, .f32⟩
  | .hbm, ⟨20, _⟩ => ⟨S1x768, .f32⟩
  | .hbm, ⟨21, _⟩ => ⟨S16384x768, .f32⟩
  | .hbm, ⟨22, _⟩ => ⟨S16384x768, .f32⟩
  | .hbm, ⟨23, _⟩ => ⟨S16384x768, .f32⟩
  | .hbm, ⟨24, _⟩ => ⟨S1x768, .f32⟩
  | .hbm, ⟨25, _⟩ => ⟨S768, .f32⟩
  | .hbm, ⟨26, _⟩ => ⟨S16384x768, .f32⟩
  | .hbm, ⟨27, _⟩ => ⟨S1x768, .f32⟩
  | .hbm, ⟨28, _⟩ => ⟨S16384x768, .f32⟩
  | .hbm, ⟨29, _⟩ => ⟨S16384x768, .f32⟩
  | .hbm, ⟨30, _⟩ => ⟨S16384x768, .f32⟩
  | .hbm, ⟨31, _⟩ => ⟨S16384x768, .f32⟩
  | .hbm, ⟨32, _⟩ => ⟨S16384x768, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.FoxKernelIdealFrame.lean ====
module

public import proofs.«01_k».proof.Proof.Gen.FoxKernelIdeal.Frame
public import proofs.«01_k».proof.Proof.Gen.FoxKernelIdeal.Loops
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

/-!
# The decayed attention call: what one grid point computes, and the run

The kernel keeps a running maximum, a running sum and a running weighted sum over the key blocks
before the diagonal one.  The first block it visits is a count of a comparison, so the frame is by hand:
the count is a word between 0 and 128, and the loop's side conditions follow from that alone.
-/

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The first block visited -/

/-- A word that is a choice between one and zero is at most one. -/
theorem toNat_select_le (c : BitVec 1) : (Scalar.select c (1#32) (0#32)).toNat ≤ 1 := by
  unfold Scalar.select; split <;> decide

/-- The count the kernel takes of the blocks it may skip is at most 128. -/
theorem count_le (a : BitVec 32) (f0 qm : FVec F S1x1 .f32) (km : Vec F S1x1x1 .f32) (fe : Vec F S1x128 .f32) (j : S1x1x1.Idx) :
    (k0_pay27 a f0 qm km fe j).toNat ≤ 128 := by
  have key : ∀ src : IVec S1x1x128 32, (∀ y, (src y).toNat ≤ 1) → ∀ j : S1.Idx,
      (multiReductionI .add [1, 2] S1 src 0#32 reduces_S1x1x128_S1 rfl j).toNat ≤ 128 := by
    intro src hs j
    have hle : ∑ i ∈ Finset.univ.filter (fun i => reduces_S1x1x128_S1.drop i = j), (src i).toNat ≤ 128 :=
      calc _ ≤ ∑ i ∈ Finset.univ.filter (fun i => reduces_S1x1x128_S1.drop i = j), 1 := Finset.sum_le_sum fun i _ => hs i
        _ ≤ ∑ i : S1x1x128.Idx, 1 := Finset.sum_le_sum_of_subset (Finset.filter_subset _ _)
        _ = 128 := by simp [Fintype.card_pi, Shape.Idx, Fin.prod_univ_succ]
    rw [WordSum.toNat_multiReductionI_add src reduces_S1x1x128_S1 rfl j (by omega)]
    exact hle
  unfold k0_pay27
  exact key _ (fun y => toNat_select_le _) _

/-- A word of at most 128 read as an integer. -/
theorem isInt_count {v : BitVec 32} (h : v.toNat ≤ 128) : Affine.IsInt v (v.toNat : Int) := by
  have := Affine.ofNat (e := (v.toNat : Int)) v.toNat (by omega)
  rwa [BitVec.ofNat_toNat, BitVec.setWidth_eq] at this

/-- The loop over the whole blocks ends at the diagonal block. -/
theorem t2_ub (i : grid0.Coords) (v : BitVec 32) : (k0_t2_loop i v).ub = BitVec.ofNat 32 (i 1).val := by
  exact ClampedCount.ub_norm_step_one _ _

/-- The loop over the remainder starts at the diagonal block, -/
theorem t3_lb (i : grid0.Coords) (v : BitVec 32) : (k0_t3_loop i v).lb = BitVec.ofNat 32 (i 1).val := by
  exact ClampedCount.ub_norm_step_one _ _

/-- and so takes no trip. -/
theorem t3_trips (i : grid0.Coords) (v : BitVec 32) : (k0_t3_loop i v).trips = 0 := by
  have h : (k0_t3_loop i v).ub = (k0_t3_loop i v).lb := by
    rw [t3_lb]
    show Scalar.addi _ (Scalar.subi _ _) = _
    simp only [Scalar.addi, Scalar.subi, IntOp.addi, IntOp.subi]
    bv_omega
  show Scf.trips (k0_t3_loop i v).lb (k0_t3_loop i v).ub (k0_t3_loop i v).st = 0
  rw [h]
  have hs : (k0_t3_loop i v).st.toInt = 1 := by show (1#32 : BitVec 32).toInt = 1; decide
  unfold Scf.trips; rw [hs]; omega

/-- The side conditions of the loop hold for every count of at most 128. -/
theorem chk (i : grid0.Coords) (v : BitVec 32) (hv : v.toNat ≤ 128) : k0_chk1 i v := by
  have hw := isInt_count hv
  have r1 : (i 1).val < 32 := (i 1).isLt
  have r0 : (i 0).val < 12 := (i 0).isLt
  have h_arg1 : Affine.IsInt (BitVec.ofNat 32 (i 1).val) (((i 1).val : Int)) := Affine.ofNat _ (by omega)
  have h_arg0 : Affine.IsInt (BitVec.ofNat 32 (i 0).val) (((i 0).val : Int)) := Affine.ofNat _ (by omega)
  have h_1 : Affine.IsInt 1#32 (1) := Affine.ofNat _ (by omega)
  have h_0 : Affine.IsInt 0#32 (0) := Affine.ofNat _ (by omega)
  have h_512 : Affine.IsInt 512#32 (512) := Affine.ofNat _ (by omega)
  obtain ⟨e, he⟩ : ∃ e : Int, e = min ((i 1).val : Int) (v.toNat : Int) := ⟨_, rfl⟩
  have h57 := Affine.minsi h_arg1 hw he
  have e0 : 0 ≤ e := by omega
  have e1 : e ≤ (i 1).val := by omega
  have hub : Affine.IsInt (k0_t2_loop i v).ub ((i 1).val : Int) := by rw [t2_ub]; exact h_arg1
  have hok : (k0_t2_loop i v).OK := Affine.ok h57 hub h_1 (by omega)
  have htr : (k0_t2_loop i v).trips ≤ 32 := Affine.trips_le h57 hub h_1 _ (by omega)
  have hiv : ∀ t : Fin (k0_t2_loop i v).trips, ∃ x : Int, Affine.IsInt (Scf.iv (k0_t2_loop i v).lb 1#32 t.val) x ∧ 0 ≤ x ∧ x < 32 := by
    intro t
    have r := Nat.lt_of_lt_of_le t.isLt htr
    have h_iv : Affine.IsInt (Scf.iv (k0_t2_loop i v).lb 1#32 t.val) (e + t.val) := Affine.iv h57 h_1 t.val (by omega)
    have c := Affine.iv_lt hok t.isLt (Affine.le_of hub _ le_rfl) h_iv
    exact ⟨_, h_iv, by omega, by omega⟩
  have z := t3_trips i v
  have hz : ∀ (t : Fin (k0_t3_loop i v).trips) (P : Prop), P := fun t P => absurd t.isLt (by omega)
  have hA := Affine.muli h_arg0 h_1 (e := ((i 0).val : Int)) (by omega)
  have hB := Affine.addi hA h_0 (e := ((i 0).val : Int)) (by omega)
  have hC := Affine.indexCast hB
  refine ⟨hok, fun t => ?_, fun t => ?_, fun t => ?_, ?_, fun t => hz t _, fun t => hz t _, fun t => hz t _⟩
  · obtain ⟨x, hx, x0, x1⟩ := hiv t
    exact Affine.dvd_of (Affine.muli hx h_512 (e := x * 512) (by omega)) 512 (by omega)
  · obtain ⟨x, hx, x0, x1⟩ := hiv t
    exact Affine.inb_cons (Affine.indexCast (Affine.muli hx h_512 (e := x * 512) (by omega))) (by omega) <|
      Affine.inb_cons (Affine.ofNat 0 (by omega) : Affine.IsInt 0#32 0) (by omega) <| Affine.inb_nil
  · obtain ⟨x, hx, x0, x1⟩ := hiv t
    exact Affine.inb_cons (Affine.indexCast hx) (by omega) <| Affine.inb_cons hC (by omega) <|
      Affine.inb_cons (Affine.ofNat 0 (by omega) : Affine.IsInt 0#32 0) (by omega) <| Affine.inb_nil
  · refine ⟨by show (0:ℤ) < (1#32 : BitVec 32).toInt; decide, ?_⟩
    show (k0_t3_loop i v).lb.toInt + (k0_t3_loop i v).trips * _ < _
    rw [z, t3_lb]
    have := Affine.le_of h_arg1 _ le_rfl
    norm_num; omega

end Cert.FoxKernelIdeal.Hand

end
-- ==== Proof.FoxKernelIdealModel.lean ====
module

public import proofs.«01_k».proof.Proof.FoxKernelIdealFrame
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one grid point computes -/

/-- The running maximum, the running sum and the running weighted sum. -/
abbrev St (F : FTy → Type) [FloatOps F] := Vec F S1x512x1 .f32 × Vec F S1x512x1 .f32 × Vec F S1x512x128 .f32

/-- The state before any key block. -/
def init : St F := (k0_pay18, k0_pay19, k0_pay20)

/-- The state after one more whole key block. -/
def step (q : FVec F S512x128 .bf16) (f0 : FVec F S1x1 .f32) (K V : Vec F S512x128 .bf16) (ft : Vec F S1x1x512 .f32) (s : St F) : St F :=
  (k0_pay29 (k0_pay7 q f0 K ft s.1), k0_pay10 q f0 K ft s.1 s.2.1,
    k0_pay28 (k0_pay4 V) (k0_pay8 q f0 K ft s.1) (k0_pay9 q f0 K ft s.1) s.2.2)

/-- The state after `k` trips of the loop that starts at the count `v`. -/
def st2 (i : grid0.Coords) (v : BitVec 32) (h : k0_chk1 i v) (q : FVec F S512x128 .bf16) (f0 : FVec F S1x1 .f32)
    (x3 x4 : Vec F S16384x128 .bf16) (x5 : Vec F S32x16x512 .f32) : ℕ → St F
  | 0 => init
  | k + 1 => if hk : k < (k0_t2_loop i v).trips then
      step q f0 (View.ld x3 (Rect.unit (s := S16384x128) (k0_off4 i v ⟨k, hk⟩) S512x128.size (k0_off4_inb i v h ⟨k, hk⟩)))
        (View.ld x4 (Rect.unit (s := S16384x128) (k0_off4 i v ⟨k, hk⟩) S512x128.size (k0_off4_inb i v h ⟨k, hk⟩)))
        (View.ld x5 (Rect.unit (s := S32x16x512) (k0_off5 i v ⟨k, hk⟩) S1x1x512.size (k0_off5_inb i v h ⟨k, hk⟩)))
        (st2 i v h q f0 x3 x4 x5 k)
    else st2 i v h q f0 x3 x4 x5 k

/-- The decay at the first position of the query block. -/
def f0 (i : grid0.Coords) (x5 : Vec F S32x16x512 .f32) : FVec F S1x1 .f32 :=
  k0_pay25 (View.ld x5 (Rect.unit (s := S32x16x512) (k0_off2 i) S1x1x512.size (k0_off2_inb i)))

/-- The number of leading key blocks the kernel leaves out at one grid point. -/
def cnt (i : grid0.Coords) (km : Vec F S1x1x1 .f32) (x2 : Vec F S512x128 .bf16) (x5 : Vec F S32x16x512 .f32) (x6 : Vec F S16x128 .f32) : BitVec 32 :=
  extractAt ![0, 0, 0] (k0_pay27 (BitVec.ofNat 32 (i 1).val) (f0 i x5) (k0_pay26 x2) km
    (View.ld x6 (Rect.unit (s := S16x128) (k0_off3 i) S1x128.size (k0_off3_inb i)))) inpos_S1x1x1_p0_0_0

/-- The count stays within the blocks before the diagonal one. -/
theorem chk_cnt (i : grid0.Coords) (km : Vec F S1x1x1 .f32) (x2 : Vec F S512x128 .bf16) (x5 : Vec F S32x16x512 .f32) (x6 : Vec F S16x128 .f32) :
    k0_chk1 i (cnt i km x2 x5 x6) := chk _ _ (count_le _ _ _ _ _ _)

/-- The block of the result the causal block leaves from a state. -/
def fin (q : FVec F S512x128 .bf16) (f0 : FVec F S1x1 .f32) (K V : Vec F S512x128 .bf16) (ft : Vec F S1x1x512 .f32) (s : St F) : FVec F S512x128 .bf16 :=
  k0_pay3 (k0_pay1 (k0_pay39 q f0 (k0_pay32 K) ft s.1 s.2.2) (k0_pay40 q f0 (k0_pay32 K) V ft s.1)) (k0_pay38 q f0 (k0_pay32 K) ft s.1 s.2.1)

/-- The block of the result one grid point leaves. -/
def out (i : grid0.Coords) (km : Vec F S1x1x1 .f32) (x2 : Vec F S512x128 .bf16) (x3 x4 : Vec F S16384x128 .bf16) (x5 : Vec F S32x16x512 .f32) (x6 : Vec F S16x128 .f32) :
    Vec F S512x128 .bf16 :=
  fin (k0_pay24 x2) (f0 i x5) (View.ld x3 (Rect.unit (s := S16384x128) (k0_off8 i) S512x128.size (k0_off8_inb i)))
    (View.ld x4 (Rect.unit (s := S16384x128) (k0_off8 i) S512x128.size (k0_off8_inb i)))
    (View.ld x5 (Rect.unit (s := S32x16x512) (k0_off9 i) S1x1x512.size (k0_off9_inb i)))
    (st2 i (cnt i km x2 x5 x6) (chk_cnt i km x2 x5 x6) (k0_pay24 x2) (f0 i x5) x3 x4 x5 (k0_t2_loop i (cnt i km x2 x5 x6)).trips)

/-- A grid point of the first query block. -/
def i00 : grid0.Coords := grid0.coords ⟨0, by decide⟩

/-- There the kernel computes the largest key norm. -/
theorem i00_cond : k0_cond1 i00 = 1#1 := by decide

/-- The largest squared key norm among the first `k` blocks. -/
def st1 (x3 : Vec F S16384x128 .bf16) : ℕ → FVec F S512x1 .f32
  | 0 => k0_pay21
  | k + 1 => if hk : k < k0_t1_loop.trips then
      k0_pay22 (st1 x3 k) (View.ld x3 (Rect.unit (s := S16384x128) (k0_off1 ⟨k, hk⟩) S512x128.size (k0_off1_inb i00 ⟨k, hk⟩ i00_cond)))
    else st1 x3 k

/-- The largest squared key norm of the head. -/
def kmax (x3 : Vec F S16384x128 .bf16) : Vec F S1x1x1 .f32 := k0_pay23 (st1 x3 k0_t1_loop.trips)

end Cert.FoxKernelIdeal.Hand

end
-- ==== Proof.FoxKernelIdealLoop.lean ====
module

public import proofs.«01_k».proof.Proof.FoxKernelIdealModel
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loops over the key blocks -/

/-- What one trip of the key-block loop leaves in its three buffers. -/
theorem trip_read (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (arg0 : BitVec 32) (arg1 : BitVec 32) (v16 : BitVec 32) (v20 : FVec F S512x128 .bf16) (v25 : FVec F S1x1 .f32) (v31 : FVec F S1x1 .f32) (v56 : BitVec 32) (k0_hw1 : k0_chk1 i v56) (v57 : BitVec 32) (X_arg3 : BufTy.Contents (Elt F) arg3.view.ty) (X_arg4 : BufTy.Contents (Elt F) arg4.view.ty) (X_arg5 : BufTy.Contents (Elt F) arg5.view.ty) (k : Fin (k0_t2_loop i v56).trips) (G8 : BufTy.Contents (Elt F) arg8.view.ty) (G9 : BufTy.Contents (Elt F) arg9.view.ty) (G10 : BufTy.Contents (Elt F) arg10.view.ty) :
    (View.read (Elt F) arg8.view (arg8.view.writes (Elt F) G8 ((trip_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 k).1 G8 G9 G10)), View.read (Elt F) arg9.view (arg9.view.writes (Elt F) G9 ((trip_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 k).2.1 G8 G9 G10)), View.read (Elt F) arg10.view (arg10.view.writes (Elt F) G10 ((trip_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 k).2.2.1 G8 G9 G10))) =
      step v20 v25 (View.ld (View.read (Elt F) arg3.view X_arg3) (Rect.unit (s := S16384x128) (k0_off4 i v56 k) S512x128.size (k0_off4_inb i v56 k0_hw1 k))) (View.ld (View.read (Elt F) arg4.view X_arg4) (Rect.unit (s := S16384x128) (k0_off4 i v56 k) S512x128.size (k0_off4_inb i v56 k0_hw1 k))) (View.ld (View.read (Elt F) arg5.view X_arg5) (Rect.unit (s := S32x16x512) (k0_off5 i v56 k) S1x1x512.size (k0_off5_inb i v56 k0_hw1 k))) (View.read (Elt F) arg8.view G8, View.read (Elt F) arg9.view G9, View.read (Elt F) arg10.view G10) := by
  unfold trip_k0_t2
  dsimp only
  rw [View.read_writes_full, View.read_writes_full, View.read_writes_full]
  have e8 : View.readAt (Elt F) arg8.view (Rect.unit ![0, 0, 0] S1x512x1.size inb_S1x512x1_S1x512x1_0_0_0).toLoadRect G8 = View.read (Elt F) arg8.view G8 := View.ld_unit_lit _ _ (by decide)
  have e9 : View.readAt (Elt F) arg9.view (Rect.unit ![0, 0, 0] S1x512x1.size inb_S1x512x1_S1x512x1_0_0_0).toLoadRect G9 = View.read (Elt F) arg9.view G9 := View.ld_unit_lit _ _ (by decide)
  have e10 : View.readAt (Elt F) arg10.view (Rect.unit ![0, 0, 0] S1x512x128.size inb_S1x512x128_S1x512x128_0_0_0).toLoadRect G10 = View.read (Elt F) arg10.view G10 := View.ld_unit_lit _ _ (by decide)
  rw [← e8, ← e9, ← e10]
  rfl

/-- What the key-block loop leaves in its three buffers before trip `n`. -/
theorem pb_read (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (arg0 : BitVec 32) (arg1 : BitVec 32) (v16 : BitVec 32) (v20 : FVec F S512x128 .bf16) (v25 : FVec F S1x1 .f32) (v31 : FVec F S1x1 .f32) (v56 : BitVec 32) (k0_hw1 : k0_chk1 i v56) (v57 : BitVec 32) (X_arg3 : BufTy.Contents (Elt F) arg3.view.ty) (X_arg4 : BufTy.Contents (Elt F) arg4.view.ty) (X_arg5 : BufTy.Contents (Elt F) arg5.view.ty)  (G8 : BufTy.Contents (Elt F) arg8.view.ty) (G9 : BufTy.Contents (Elt F) arg9.view.ty) (G10 : BufTy.Contents (Elt F) arg10.view.ty)
    (hG : (View.read (Elt F) arg8.view G8, View.read (Elt F) arg9.view G9, View.read (Elt F) arg10.view G10) = init) (n : ℕ) (hn : n ≤ (k0_t2_loop i v56).trips) :
    (View.read (Elt F) arg8.view (arg8.view.writes (Elt F) G8 (pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 G8 G9 G10 n).1), View.read (Elt F) arg9.view (arg9.view.writes (Elt F) G9 (pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 G8 G9 G10 n).2.1), View.read (Elt F) arg10.view (arg10.view.writes (Elt F) G10 (pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 G8 G9 G10 n).2.2)) = st2 i v56 k0_hw1 v20 v25 (View.read (Elt F) arg3.view X_arg3) (View.read (Elt F) arg4.view X_arg4) (View.read (Elt F) arg5.view X_arg5) n := by
  induction n with
  | zero => exact hG
  | succ n ih =>
    have hlt : n < (k0_t2_loop i v56).trips := hn
    have e := pb_k0_t2_succ (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 G8 G9 G10 ⟨n, hlt⟩
    have ih := ih (Nat.le_of_lt hlt)
    rw [show ((⟨n, hlt⟩ : Fin (k0_t2_loop i v56).trips).val + 1) = n + 1 from rfl] at e
    rw [e]
    simp only [View.writes_append]
    rw [trip_read]
    rw [st2, dif_pos hlt, ← ih]

/-- The running maximum of the squared key norms before trip `n`. -/
theorem st1_read (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (k0_h1 : k0_cond1 i = 1#1) (X_arg3 : BufTy.Contents (Elt F) arg3.view.ty)  (n : ℕ) (hn : n ≤ k0_t1_loop.trips) :
    st_k0_t1 (F := F) 𝒱 c bd i arg2 harg2 arg3 harg3 arg4 harg4 arg5 harg5 arg6 harg6 arg7 harg7 arg8 harg8 arg9 harg9 arg10 harg10 arg11 harg11 k0_h1 X_arg3 k0_pay21 n = st1 (View.read (Elt F) arg3.view X_arg3) n := by
  induction n with
  | zero => rfl
  | succ n ih =>
    have hlt : n < k0_t1_loop.trips := hn
    have e := st_k0_t1_succ (F := F) 𝒱 c bd i arg2 harg2 arg3 harg3 arg4 harg4 arg5 harg5 arg6 harg6 arg7 harg7 arg8 harg8 arg9 harg9 arg10 harg10 arg11 harg11 k0_h1 X_arg3 k0_pay21 ⟨n, hlt⟩
    rw [show ((⟨n, hlt⟩ : Fin k0_t1_loop.trips).val + 1) = n + 1 from rfl] at e
    rw [e, ih (Nat.le_of_lt hlt), st1, dif_pos hlt]
    unfold tripR_k0_t1 trip_k0_t1
    rfl

/-- The loop that would undo left-out blocks writes nothing. -/
theorem pb3_nil (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (arg0 : BitVec 32) (arg1 : BitVec 32) (v16 : BitVec 32) (v20 : FVec F S512x128 .bf16) (v25 : FVec F S1x1 .f32) (v31 : FVec F S1x1 .f32) (v56 : BitVec 32) (k0_hw1 : k0_chk1 i v56) (v62 : BitVec 32) (X_arg3 : BufTy.Contents (Elt F) arg3.view.ty) (X_arg4 : BufTy.Contents (Elt F) arg4.view.ty) (X_arg5 : BufTy.Contents (Elt F) arg5.view.ty)  (G8 : BufTy.Contents (Elt F) arg8.view.ty) (G9 : BufTy.Contents (Elt F) arg9.view.ty) (G10 : BufTy.Contents (Elt F) arg10.view.ty) (n : ℕ) (hn : n = 0) :
    pb_k0_t3 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v62 X_arg3 X_arg4 X_arg5 G8 G9 G10 n = ([], [], []) := by
  subst hn; rfl

/-- What the loads after the key-block loop read from its three buffers. -/
theorem cov_read (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (arg0 : BitVec 32) (arg1 : BitVec 32) (v16 : BitVec 32) (v20 : FVec F S512x128 .bf16) (v25 : FVec F S1x1 .f32) (v31 : FVec F S1x1 .f32) (v56 : BitVec 32) (k0_hw1 : k0_chk1 i v56) (v57 : BitVec 32) (X_arg3 : BufTy.Contents (Elt F) arg3.view.ty) (X_arg4 : BufTy.Contents (Elt F) arg4.view.ty) (X_arg5 : BufTy.Contents (Elt F) arg5.view.ty)  (L8 L9 : List (View.Piece (Elt F) S1x512x1 .f32)) (L10 : List (View.Piece (Elt F) S1x512x128 .f32))
    (hL : (View.read (Elt F) arg8.view (arg8.view.writes (Elt F) arg8.view.junk L8), View.read (Elt F) arg9.view (arg9.view.writes (Elt F) arg9.view.junk L9), View.read (Elt F) arg10.view (arg10.view.writes (Elt F) arg10.view.junk L10)) = init)
    (Q8 Q9 : List (View.Piece (Elt F) S1x512x1 .f32)) (Q10 : List (View.Piece (Elt F) S1x512x128 .f32)) (hQ : (Q8, Q9, Q10) = ([], [], [])) :
    (arg8.view.readCov (Q8 ++ ((pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 (arg8.view.writes (Elt F) arg8.view.junk L8) (arg9.view.writes (Elt F) arg9.view.junk L9) (arg10.view.writes (Elt F) arg10.view.junk L10) (k0_t2_loop i v56).trips).1 ++ L8)) (Rect.unit ![0, 0, 0] S1x512x1.size inb_S1x512x1_S1x512x1_0_0_0).toLoadRect, arg9.view.readCov (Q9 ++ ((pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 (arg8.view.writes (Elt F) arg8.view.junk L8) (arg9.view.writes (Elt F) arg9.view.junk L9) (arg10.view.writes (Elt F) arg10.view.junk L10) (k0_t2_loop i v56).trips).2.1 ++ L9)) (Rect.unit ![0, 0, 0] S1x512x1.size inb_S1x512x1_S1x512x1_0_0_0).toLoadRect, arg10.view.readCov (Q10 ++ ((pb_k0_t2 (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 (arg8.view.writes (Elt F) arg8.view.junk L8) (arg9.view.writes (Elt F) arg9.view.junk L9) (arg10.view.writes (Elt F) arg10.view.junk L10) (k0_t2_loop i v56).trips).2.2 ++ L10)) (Rect.unit ![0, 0, 0] S1x512x128.size inb_S1x512x128_S1x512x128_0_0_0).toLoadRect) =
      st2 i v56 k0_hw1 v20 v25 (View.read (Elt F) arg3.view X_arg3) (View.read (Elt F) arg4.view X_arg4) (View.read (Elt F) arg5.view X_arg5) (k0_t2_loop i v56).trips := by
  obtain ⟨rfl, hQ'⟩ := Prod.mk.inj hQ
  obtain ⟨rfl, rfl⟩ := Prod.mk.inj hQ'
  rw [← pb_read (F := F) 𝒱 c bd i arg2 harg2 arg3 harg3 arg4 harg4 arg5 harg5 arg6 harg6 arg7 harg7 arg8 harg8 arg9 harg9 arg10 harg10 arg11 harg11 arg0 arg1 v16 v20 v25 v31 v56 k0_hw1 v57 X_arg3 X_arg4 X_arg5 (arg8.view.writes (Elt F) arg8.view.junk L8) (arg9.view.writes (Elt F) arg9.view.junk L9) (arg10.view.writes (Elt F) arg10.view.junk L10) hL _ le_rfl]
  simp only [List.nil_append, ← View.writes_append]
  exact Prod.ext (View.ld_unit_lit (S := S1x512x1) (off := ![0, 0, 0]) inb_S1x512x1_S1x512x1_0_0_0 (View.read (Elt F) arg8.view (arg8.view.writes (Elt F) arg8.view.junk _)) (by decide)) (Prod.ext (View.ld_unit_lit (S := S1x512x1) (off := ![0, 0, 0]) inb_S1x512x1_S1x512x1_0_0_0 (View.read (Elt F) arg9.view (arg9.view.writes (Elt F) arg9.view.junk _)) (by decide)) (View.ld_unit_lit (S := S1x512x128) (off := ![0, 0, 0]) inb_S1x512x128_S1x512x128_0_0_0 (View.read (Elt F) arg10.view (arg10.view.writes (Elt F) arg10.view.junk _)) (by decide)))

/-- The result block from the three loads. -/
theorem fin_eq (q : FVec F S512x128 .bf16) (f0 : FVec F S1x1 .f32) (K V : Vec F S512x128 .bf16) (ft : Vec F S1x1x512 .f32)
    (m l : Vec F S1x512x1 .f32) (acc : Vec F S1x512x128 .f32) (s : St F) (h : (m, l, acc) = s) :
    k0_pay3 (k0_pay1 (k0_pay39 q f0 (k0_pay32 K) ft m acc) (k0_pay40 q f0 (k0_pay32 K) V ft m)) (k0_pay38 q f0 (k0_pay32 K) ft m l) =
      fin q f0 K V ft s := by
  subst h; rfl

end Cert.FoxKernelIdeal.Hand

end
-- ==== Proof.FoxKernelIdealFirst.lean ====
module

public import proofs.«01_k».proof.Proof.FoxKernelIdealLoop
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a head's first query block: it stores the largest key norm, then runs as at the others. -/
theorem run_first (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (hc : k0_cond1 i = 1#1)
    (x2 : Vec F S512x128 .bf16) (x3 : Vec F S16384x128 .bf16) (x4 : Vec F S16384x128 .bf16) (x5 : Vec F S32x16x512 .f32) (x6 : Vec F S16x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out i (kmax x3) x2 x3 x4 x5 x6) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (kmax x3)) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  simp only [cc0_fox_eq_skeleton]; unfold cc0_fox_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc | exact chk _ _ (count_le _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap
    · iexact H7
    · ipureintro; rw [View.read_writes_full]
      unfold run_first.sl.v119 run_first.sl.v121
      unfold run_first.sl.H10_1_1 run_first.sl.H9_1_1
      rw [View.readCov_full, View.readCov_full]
      unfold run_first.sl.r_5 run_first.sl.r_6 run_first.sl.v97 run_first.sl.v87 run_first.sl.r_3 run_first.sl.r run_first.sl.r_1
      unfold run_first.sl.v106
      have e2 : View.readAt (Elt F) arg2.view (Rect.unit ![0, 0] S512x128.size inb_S512x128_S512x128_0_0).toLoadRect (harg2.unread x2) = x2 :=
        (View.ld_unit_lit (S := S512x128) (off := ![0, 0]) inb_S512x128_S512x128_0_0 _ (by decide)).trans (harg2.read_unread x2)
      have hL : (View.read (Elt F) arg8.view (arg8.view.writes (Elt F) arg8.view.junk run_first.sl.H8_1), View.read (Elt F) arg9.view (arg9.view.writes (Elt F) arg9.view.junk run_first.sl.H9_1), View.read (Elt F) arg10.view (arg10.view.writes (Elt F) arg10.view.junk run_first.sl.H10_1)) = init (F := F) := by
        unfold run_first.sl.H8_1 run_first.sl.H9_1 run_first.sl.H10_1
        rw [View.read_writes_full, View.read_writes_full, View.read_writes_full]; rfl
      refine (fin_eq _ _ _ _ _ _ _ _ _ (cov_read (F := F) (hL := hL) (hQ := pb3_nil (hn := t3_trips i _) ..) ..)).trans ?_
      have ek : run_first.sl.v32 c i arg2 harg2 arg3 harg3 arg4 harg4 arg5 harg5 arg6 harg6 arg7 harg7 arg8 harg8 arg9 harg9 arg10 harg10 arg11 harg11 hc x3 = kmax x3 := by
        unfold run_first.sl.v32 run_first.sl.H11_1
        rw [View.readCov_full]
        exact congrArg k0_pay23 ((st1_read (F := F) (n := k0_t1_loop.trips) (hn := le_rfl) ..).trans (by rw [harg3.read_unread]))
      unfold run_first.sl.v56 run_first.sl.r_1 run_first.sl.r_2
      simp only [e2, ek]
      simp only [View.readAt_eq_ld, harg3.read_unread, harg4.read_unread, harg5.read_unread, harg6.read_unread]
      rfl
  isplitl [H8]
  · iexists _; iexists _; isplitr
    swap
    · iexact H8
    · ipureintro; rfl
  isplitl [H9]
  · iexists _; iexists _; isplitr
    swap
    · iexact H9
    · ipureintro; rfl
  isplitl [H10]
  · iexists _; iexists _; isplitr
    swap
    · iexact H10
    · ipureintro; rfl
  iexists _; isplitr
  swap
  · iexact H11
  · ipureintro
    unfold run_first.sl.H11_1
    rw [View.read_writes_full]
    exact congrArg k0_pay23 ((st1_read (F := F) (n := k0_t1_loop.trips) (hn := le_rfl) ..).trans (by rw [harg3.read_unread]))

end Cert.FoxKernelIdeal.Hand

end
-- ==== Proof.FoxKernelIdealNext.lean ====
module

public import proofs.«01_k».proof.Proof.FoxKernelIdealLoop
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a head's later query blocks: the blocks before the diagonal one in a loop, then the diagonal block. -/
theorem run_next (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S32x16x512 .f32) (harg5 : arg5.IsWhole) (arg6 : Memref sig .tc .vmem S16x128 .f32) (harg6 : arg6.IsWhole) (arg7 : Memref sig .tc .vmem S512x128 .bf16) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x128 .f32) (harg10 : arg10.IsWhole) (arg11 : Memref sig .tc .vmem S1x1x1 .f32) (harg11 : arg11.IsWhole) (hc : ¬k0_cond1 i = 1#1)
    (x2 : Vec F S512x128 .bf16) (x3 : Vec F S16384x128 .bf16) (x4 : Vec F S16384x128 .bf16) (x5 : Vec F S32x16x512 .f32) (x6 : Vec F S16x128 .f32) (km : Vec F S1x1x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare km
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out i km x2 x3 x4 x5 x6) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare km) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  simp only [cc0_fox_eq_skeleton]; unfold cc0_fox_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6
  obtain rfl := harg11.eq_unread hf11
  sl_exec (disch := first | sl_exact hc | exact chk _ _ (count_le _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap
    · iexact H7
    · ipureintro; rw [View.read_writes_full]
      unfold run_next.sl.v119 run_next.sl.v121
      unfold run_next.sl.H10_1_1 run_next.sl.H9_1_1
      rw [View.readCov_full, View.readCov_full]
      unfold run_next.sl.r_5 run_next.sl.r_6 run_next.sl.v97 run_next.sl.v87 run_next.sl.r_3 run_next.sl.r run_next.sl.r_1
      unfold run_next.sl.v106
      have e2 : View.readAt (Elt F) arg2.view (Rect.unit ![0, 0] S512x128.size inb_S512x128_S512x128_0_0).toLoadRect (harg2.unread x2) = x2 :=
        (View.ld_unit_lit (S := S512x128) (off := ![0, 0]) inb_S512x128_S512x128_0_0 _ (by decide)).trans (harg2.read_unread x2)
      have e11 : View.readAt (Elt F) arg11.view (Rect.unit ![0, 0, 0] S1x1x1.size inb_S1x1x1_S1x1x1_0_0_0).toLoadRect (harg11.unread km) = km :=
        (View.ld_unit_lit (S := S1x1x1) (off := ![0, 0, 0]) inb_S1x1x1_S1x1x1_0_0_0 _ (by decide)).trans (harg11.read_unread km)
      have hL : (View.read (Elt F) arg8.view (arg8.view.writes (Elt F) arg8.view.junk run_next.sl.H8_1), View.read (Elt F) arg9.view (arg9.view.writes (Elt F) arg9.view.junk run_next.sl.H9_1), View.read (Elt F) arg10.view (arg10.view.writes (Elt F) arg10.view.junk run_next.sl.H10_1)) = init (F := F) := by
        unfold run_next.sl.H8_1 run_next.sl.H9_1 run_next.sl.H10_1
        rw [View.read_writes_full, View.read_writes_full, View.read_writes_full]; rfl
      refine (fin_eq _ _ _ _ _ _ _ _ _ (cov_read (F := F) (hL := hL) (hQ := pb3_nil (hn := t3_trips i _) ..) ..)).trans ?_
      unfold run_next.sl.v56 run_next.sl.r_1 run_next.sl.r_2
      simp only [e2, e11]
      simp only [View.readAt_eq_ld, harg3.read_unread, harg4.read_unread, harg5.read_unread, harg6.read_unread]
      rfl
  isplitl [H8]
  · iexists _; iexists _; isplitr
    swap
    · iexact H8
    · ipureintro; rfl
  isplitl [H9]
  · iexists _; iexists _; isplitr
    swap
    · iexact H9
    · ipureintro; rfl
  isplitl [H10]
  · iexists _; iexists _; isplitr
    swap
    · iexact H10
    · ipureintro; rfl
  iexists _; isplitr
  swap
  · iexact H11
  · ipureintro; exact harg11.read_unread _

end Cert.FoxKernelIdeal.Hand

end
-- ==== Proof.FoxKernelIdealRun.lean ====
module

public import proofs.«01_k».proof.Proof.FoxKernelIdealFirst
public import proofs.«01_k».proof.Proof.FoxKernelIdealNext
public import Idealize.ShloMosaic.Lib.Pipeline.ValueKit
public import Idealize.ShloMosaic.Lib.ClampedCount
public import Idealize.ShloMosaic.Lib.WordSum
public import Idealize.ShloMosaic.Lib.VecWindow
public import Idealize.ShloMosaic.Lib.Claim

@[expose] public section

set_option maxRecDepth 16384

noncomputable section

namespace Cert.FoxKernelIdeal.Hand

open Cert.FoxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the scratch of the largest key norm holds before point `t`: from the second query block of a head on, the head's. -/
def track (c : Dev nD) (t : ℕ) (d : Vec F S1x1x1 .f32) : Prop :=
  ∀ t' : Fin cfg0.N, t'.val = t → t % 32 ≠ 0 → d = kmax (iblk m c 1 t')

/-- What the body leaves in the result's block at point `t`. -/
def outs (c : Dev nD) (t : Fin cfg0.N) : Vec F S512x128 .bf16 :=
  out (grid0.coords t) (kmax (iblk m c 1 t)) (iblk m c 0 t) (iblk m c 1 t) (iblk m c 2 t) (iblk m c 3 t) (iblk m c 4 t)

/-- The invariant between points: the scratch buffers and the generator register, the largest key norm tracked. -/
def Inv (c : Dev nD) (t : ℕ) : sProp 𝕄 :=
  iprop(((∃ d, owns (c : Thread nD τ) (Memref.whole cc0_scratch0 : Memref sig .tc .vmem S1x512x1 .f32) fullShare d)
    ∗ (∃ d, owns (c : Thread nD τ) (Memref.whole cc0_scratch1 : Memref sig .tc .vmem S1x512x1 .f32) fullShare d)
    ∗ (∃ d, owns (c : Thread nD τ) (Memref.whole cc0_scratch2 : Memref sig .tc .vmem S1x512x128 .f32) fullShare d)
    ∗ (∃ d, ⌜track m c t d⌝ ∗ owns (c : Thread nD τ) (Memref.whole cc0_scratch3 : Memref sig .tc .vmem S1x1x1 .f32) fullShare d))
    ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t
  Φ t := Inv m c t.val
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = outs m c t := by dsimp only [dats]
/-- Window 0 holds its block at every point. -/
theorem before0_0 (c : Dev nD) (t : Fin cfg0.N) (d) : (dats m 0 c).before 0 t d = iblk m c 0 t :=
  before0_0_of m (dats m 0 c) (A_eq m c 0) (after0_0 m c) t d
/-- Window 1 holds its block at every point. -/
theorem before0_1 (c : Dev nD) (t : Fin cfg0.N) (d) : (dats m 0 c).before 1 t d = iblk m c 1 t :=
  before0_1_of m (dats m 0 c) (A_eq m c 1) (after0_1 m c) t d
/-- Window 2 holds its block at every point. -/
theorem before0_2 (c : Dev nD) (t : Fin cfg0.N) (d) : (dats m 0 c).before 2 t d = iblk m c 2 t :=
  before0_2_of m (dats m 0 c) (A_eq m c 2) (after0_2 m c) t d
/-- Window 3 holds its block at every point. -/
theorem before0_3 (c : Dev nD) (t : Fin cfg0.N) (d) : (dats m 0 c).before 3 t d = iblk m c 3 t :=
  before0_3_of m (dats m 0 c) (A_eq m c 3) (after0_3 m c) t d
/-- Window 4 holds its block at every point. -/
theorem before0_4 (c : Dev nD) (t : Fin cfg0.N) (d) : (dats m 0 c).before 4 t d = iblk m c 4 t :=
  before0_4_of m (dats m 0 c) (A_eq m c 4) (after0_4 m c) t d
/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl

/-- The keys of a head are the same at all its query blocks. -/
theorem iblk1_succ (c : Dev nD) (t t' : Fin cfg0.N) (h : t'.val = t.val + 1) (hm : t'.val % 32 ≠ 0) : iblk m c 1 t = iblk m c 1 t' := by
  have hf : (cfg0.win 1).fetch t' = false := by
    rw [← Bool.not_eq_true]; exact fun e => hm ((fetch0_1 t').mp e)
  obtain ⟨ht, hix⟩ := (cfg0.win 1).index_eq_of_fetch rfl t' hf
  have ep : (⟨t'.val - 1, by omega⟩ : Fin cfg0.N) = t := Fin.ext (by show t'.val - 1 = t.val; omega)
  have hix : (cfg0.win 1).index t = (cfg0.win 1).index t' := by
    rw [hix]; exact congrArg _ ep.symm
  have e := (dats m 0 c).fetched_congr 1 hix rfl (fun _ => Classical.arbitrary _)
  rw [← before0_1 m c t (fun _ => Classical.arbitrary _), ← before0_1 m c t' (fun _ => Classical.arbitrary _)]
  rw [(dats m 0 c).before_in_eq_fetched 1 rfl (fun _ => rfl) (fun _ _ _ => rfl) (fun t => by rw [after0_1]; unfold Dat.blockOf iblk; rw [A_eq]; try rfl),
    (dats m 0 c).before_in_eq_fetched 1 rfl (fun _ => rfl) (fun _ _ _ => rfl) (fun t => by rw [after0_1]; unfold Dat.blockOf iblk; rw [A_eq]; try rfl)]
  exact e

/-- The first query block of a head is where the second grid coordinate is zero. -/
theorem cond_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The class invariant with the scratch buffers as memrefs owned at some contents. -/
theorem PhiA0_eq (c : Dev nD) :
    (Pipeline.ΦA spec0 c : sProp 𝕄)
      = iprop(((∃ d, owns (c : Thread nD τ) (Memref.whole cc0_scratch0 : Memref sig .tc .vmem S1x512x1 .f32) fullShare d)
    ∗ (∃ d, owns (c : Thread nD τ) (Memref.whole cc0_scratch1 : Memref sig .tc .vmem S1x512x1 .f32) fullShare d)
    ∗ (∃ d, owns (c : Thread nD τ) (Memref.whole cc0_scratch2 : Memref sig .tc .vmem S1x512x128 .f32) fullShare d)
    ∗ (∃ d, owns (c : Thread nD τ) (Memref.whole cc0_scratch3 : Memref sig .tc .vmem S1x1x1 .f32) fullShare d))
    ∗ (∃ r, prngReg c r)) := by
  unfold Pipeline.ΦA; rw [scopedRest0_eq]; simp only [owns_whole]; try rfl

/-- The invariant before the first point. -/
theorem hin (c : Dev nD) : (Pipeline.ΦA spec0 c : sProp 𝕄) ⊢ (dats m 0 c).Φ 0 := by
  show _ ⊢ Inv m c 0
  rw [PhiA0_eq]; unfold Inv
  iintro ⟨⟨H0, H1, H2, ⟨%d, H3⟩⟩, Hg⟩
  isplitl [H0 H1 H2 H3]
  · isplitl [H0]; · iexact H0
    isplitl [H1]; · iexact H1
    isplitl [H2]; · iexact H2
    iexists d
    isplitr
    swap; · iexact H3
    ipureintro
    exact fun _ _ h => absurd rfl h
  iexact Hg

/-- The invariant after any point gives the class invariant back. -/
theorem hout (c : Dev nD) (t : ℕ) : Inv m c t ⊢ (Pipeline.ΦA spec0 c : sProp 𝕄) := by
  rw [PhiA0_eq]; unfold Inv
  iintro ⟨⟨H0, H1, H2, ⟨%d, -, H3⟩⟩, Hg⟩
  isplitl [H0 H1 H2 H3]
  · isplitl [H0]; · iexact H0
    isplitl [H1]; · iexact H1
    isplitl [H2]; · iexact H2
    iexists d; iexact H3
  iexact Hg

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns (c : Thread nD τ) (st0_0 t) fullShare ((dats m 0 c).after 0 t) from by
      unfold Dat.leavesExact; rw [liveAt0_0 t], after0_0]
  rw [show (dats m 0 c).leavesExact 1 t = owns (c : Thread nD τ) (st0_1 t) fullShare ((dats m 0 c).after 1 t) from by
      unfold Dat.leavesExact; rw [liveAt0_1 t], after0_1]
  rw [show (dats m 0 c).leavesExact 2 t = owns (c : Thread nD τ) (st0_2 t) fullShare ((dats m 0 c).after 2 t) from by
      unfold Dat.leavesExact; rw [liveAt0_2 t], after0_2]
  rw [show (dats m 0 c).leavesExact 3 t = owns (c : Thread nD τ) (st0_3 t) fullShare ((dats m 0 c).after 3 t) from by
      unfold Dat.leavesExact; rw [liveAt0_3 t], after0_3]
  rw [show (dats m 0 c).leavesExact 4 t = owns (c : Thread nD τ) (st0_4 t) fullShare ((dats m 0 c).after 4 t) from by
      unfold Dat.leavesExact; rw [liveAt0_4 t], after0_4]
  rw [show (dats m 0 c).leavesExact 5 t = owns (c : Thread nD τ) (st0_5 t) fullShare ((dats m 0 c).after 5 t) from by
      unfold Dat.leavesExact; rw [liveAt0_5 t], after0_5]
  by_cases h0 : t.val % 32 = 0
  · have hc := (cond_iff t).mpr h0
    unfold outs Inv
    iintro ⟨⟨⟨HS0, HS1, HS2, ⟨%dk, %hk, HS3⟩⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ _ _ _ _ _ _ hc (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexists _; iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _; isplitr
        swap; · iexact HS3
        ipureintro
        exact fun t' e hm => congrArg kmax (iblk1_succ m c t t' e (e ▸ hm))
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc := fun e => h0 ((cond_iff t).mp e)
    unfold outs Inv
    iintro ⟨⟨⟨HS0, HS1, HS2, ⟨%dk, %hk, HS3⟩⟩, Hg⟩, Ho, ⟨%d0, H0⟩, ⟨%d1, H1⟩, ⟨%d2, H2⟩, ⟨%d3, H3⟩, ⟨%d4, H4⟩, ⟨%d5, H5⟩⟩
    obtain rfl := hk t rfl h0
    iapply (run_next c (grid0.coords t) _ _ _ _ _ _ _ _ _ _ _ _ _ _ _ _ _ _ _ _ hc (iblk m c 0 t) (iblk m c 1 t) (iblk m c 2 t) (iblk m c 3 t) (iblk m c 4 t) (kmax (iblk m c 1 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _; isplitr
        swap; · iexact HS3
        ipureintro
        exact fun t' e hm => congrArg kmax (iblk1_succ m c t t' e (e ▸ hm))
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the whole program, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := fun c => hout m c _)

/-- The run of the whole program to what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FoxKernelIdeal.Hand

end
-- ==== Proof.FoxSoftmax.lean ====
module

public import Idealize.ShloMosaic.PureOps.Ideal.Laws

@[expose] public section

noncomputable section

/-! A softmax over the first `N` of a row's scores, as the kernel accumulates it block by block and as the
    reference computes it at once, over the extended reals. -/

namespace Cert.FoxKernelIdeal.FoxValue

open Idealize.ShloMosaic

/-- The values `v` averaged with the softmax weights of the first `N` scores. -/
def soft (s : ℕ → ℝ) (v : ℕ → EReal) (N : ℕ) : EReal :=
  ∑ n ∈ Finset.range N, ((Real.exp (s n) / ∑ j ∈ Finset.range N, Real.exp (s j) : ℝ) : EReal) * v n

/-- Adding one number to every score changes no softmax weight. -/
theorem soft_shift (s : ℕ → ℝ) (v : ℕ → EReal) (N : ℕ) (δ : ℝ) : soft (fun n => s n + δ) v N = soft s v N := by
  unfold soft
  refine Finset.sum_congr rfl fun n _ => ?_
  simp only [Real.exp_add, ← Finset.sum_mul]
  rw [mul_div_mul_right _ _ (Real.exp_ne_zero δ)]

/-- The score of key `n`, minus infinity from key `N` on. -/
def msk (s : ℕ → ℝ) (N n : ℕ) : EReal := if n < N then (s n : EReal) else ⊥

/-- The weight of key `n` against the running maximum `M`. -/
def wgt (s : ℕ → ℝ) (N : ℕ) (M : ℝ) (n : ℕ) : ℝ := if n < N then Real.exp (s n - M) else 0

/-- Weights are nonnegative. -/
theorem wgt_nonneg (s : ℕ → ℝ) (N : ℕ) (M : ℝ) (n : ℕ) : 0 ≤ wgt s N M n := by
  unfold wgt; split
  · exact (Real.exp_pos _).le
  · exact le_rfl

/-- The exponential of a masked score less a real number is the weight. -/
theorem exp_msk (s : ℕ → ℝ) (N n : ℕ) (M : ℝ) : Ideal.exp (msk s N n - (M : EReal)) = ((wgt s N M n : ℝ) : EReal) := by
  unfold msk wgt
  split
  · rw [← EReal.coe_sub]; rfl
  · rw [EReal.bot_sub]; rfl

/-- Weights against another maximum. -/
theorem wgt_rescale (s : ℕ → ℝ) (N : ℕ) (M M' : ℝ) (n : ℕ) : Real.exp (M - M') * wgt s N M n = wgt s N M' n := by
  unfold wgt; split
  · rw [← Real.exp_add]; congr 1; ring
  · rw [mul_zero]

/-- The sum of real numbers among the extended ones. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A nonnegative real factor goes into a sum of extended reals. -/
theorem coe_mul_sum {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih,
      EReal.left_distrib_of_nonneg_of_ne_top (EReal.coe_nonneg.mpr hc) (EReal.coe_ne_top c)]

/-- The state of the accumulation after the first `k` blocks of 512 keys: maximum, sum of the weights, weighted values. -/
def Inv (s : ℕ → ℝ) (v : ℕ → EReal) (N k : ℕ) (m l a : EReal) : Prop :=
  (k = 0 ∧ m = ⊥ ∧ l = 0 ∧ a = 0) ∨
  ∃ M : ℝ, m = M ∧ l = ((∑ n ∈ Finset.range (512 * k), wgt s N M n : ℝ) : EReal)
    ∧ a = ∑ n ∈ Finset.range (512 * k), ((wgt s N M n : ℝ) : EReal) * v n

/-- A block's maximum with what came before is real when the first key of the block is not masked. -/
theorem max_real (s : ℕ → ℝ) (N b P : ℕ) (hN : b < N) (hP : 0 < P) (m : EReal) (hm : m ≠ ⊤) (S : Fin P → EReal)
    (hS : ∀ j, S j = msk s N (b + j.val)) : ∃ M : ℝ, max m (Finset.fold max ⊥ S Finset.univ) = (M : EReal) := by
  have hb : max m (Finset.fold max ⊥ S Finset.univ) ≠ ⊥ := by
    intro h
    have h1 : ((s b : ℝ) : EReal) ≤ Finset.fold max ⊥ S Finset.univ := by
      rw [Finset.le_fold_max]
      refine Or.inr ⟨⟨0, hP⟩, Finset.mem_univ _, ?_⟩
      rw [hS]; unfold msk; rw [if_pos (by simpa using hN)]; simp
    have := (h1.trans (le_max_right m _)).trans_eq h
    exact absurd (le_bot_iff.mp this) (EReal.coe_ne_bot _)
  have ht : max m (Finset.fold max ⊥ S Finset.univ) ≠ ⊤ := by
    refine (max_lt hm.lt_top ?_).ne
    rw [Finset.fold_max_lt]
    refine ⟨bot_lt_top, fun x _ => ?_⟩
    rw [hS]; unfold msk; split
    · exact EReal.coe_lt_top _
    · exact bot_lt_top
  exact ⟨_, (EReal.coe_toReal ht hb).symm⟩

/-- One block more: the old sums are rescaled to the new maximum and the block's are added. -/
theorem Inv.step {s : ℕ → ℝ} {v : ℕ → EReal} {N k : ℕ} {m l a : EReal} (h : Inv s v N k m l a) (hN : 512 * k < N)
    (S V : Fin 512 → EReal) (hS : ∀ j, S j = msk s N (512 * k + j.val)) (hV : ∀ j, V j = v (512 * k + j.val)) (m' : EReal)
    (hm' : m' = max m (Finset.fold max ⊥ S Finset.univ)) :
    Inv s v N (k + 1) m' (Ideal.exp (m - m') * l + ∑ j, Ideal.exp (S j - m'))
      (Ideal.exp (m - m') * a + ∑ j, Ideal.exp (S j - m') * V j) := by
  have hm : m ≠ ⊤ := by
    rcases h with ⟨_, rfl, _⟩ | ⟨M, rfl, _⟩
    · exact bot_ne_top
    · exact EReal.coe_ne_top M
  obtain ⟨M', hM'⟩ := max_real s N (512 * k) 512 hN (by decide) m hm S hS
  rw [hM'] at hm'
  subst hm'
  refine Or.inr ⟨M', rfl, ?_⟩
  have hblock : ∀ f : ℕ → EReal, ∑ j : Fin 512, f (512 * k + j.val) = ∑ x ∈ Finset.range 512, f (512 * k + x) :=
    fun f => Fin.sum_univ_eq_sum_range (fun x => f (512 * k + x)) 512
  have e1 : ∑ j, Ideal.exp (S j - (M' : EReal)) = ∑ x ∈ Finset.range 512, ((wgt s N M' (512 * k + x) : ℝ) : EReal) := by
    simp only [hS, exp_msk]
    exact hblock (fun x => ((wgt s N M' x : ℝ) : EReal))
  have e2 : ∑ j, Ideal.exp (S j - (M' : EReal)) * V j
      = ∑ x ∈ Finset.range 512, ((wgt s N M' (512 * k + x) : ℝ) : EReal) * v (512 * k + x) := by
    simp only [hS, hV, exp_msk]
    exact hblock (fun x => ((wgt s N M' x : ℝ) : EReal) * v x)
  rw [e1, e2, Nat.mul_succ, Finset.sum_range_add, Finset.sum_range_add]
  rcases h with ⟨rfl, rfl, rfl, rfl⟩ | ⟨M, rfl, rfl, rfl⟩
  · simp [coe_sum]
  · have ee : Ideal.exp ((M : EReal) - (M' : EReal)) = ((Real.exp (M - M') : ℝ) : EReal) := by rw [← EReal.coe_sub]; rfl
    rw [ee, coe_mul_sum _ _ (Real.exp_pos _).le, coe_sum, ← EReal.coe_mul, Finset.mul_sum]
    refine ⟨?_, ?_⟩
    · simp only [wgt_rescale, EReal.coe_add]
    · simp only [← mul_assoc, ← EReal.coe_mul, wgt_rescale]

/-- Weighted values over weights are the softmax average. -/
theorem ratio (s : ℕ → ℝ) (v : ℕ → EReal) (N P : ℕ) (hN : 0 < N) (hP : N ≤ P) (M : ℝ) :
    0 < ∑ n ∈ Finset.range P, wgt s N M n
    ∧ ∑ n ∈ Finset.range P, ((wgt s N M n / ∑ n ∈ Finset.range P, wgt s N M n : ℝ) : EReal) * v n = soft s v N := by
  have hz : ∀ n ∈ Finset.range P, n ∉ Finset.range N → wgt s N M n = 0 := by
    intro n _ hn
    unfold wgt; rw [if_neg (by simpa using hn)]
  have hs : Finset.range N ⊆ Finset.range P := fun x hx => by
    rw [Finset.mem_range] at hx ⊢; omega
  have hp : ∀ n ∈ Finset.range N, wgt s N M n = Real.exp (s n + -M) := by
    intro n hn
    unfold wgt; rw [if_pos (by simpa using hn)]; rfl
  have hsum : ∑ n ∈ Finset.range P, wgt s N M n = ∑ n ∈ Finset.range N, Real.exp (s n + -M) := by
    rw [← Finset.sum_subset hs hz]
    exact Finset.sum_congr rfl hp
  refine ⟨?_, ?_⟩
  · rw [hsum]
    exact Finset.sum_pos (fun _ _ => Real.exp_pos _) ⟨0, by simpa using hN⟩
  · rw [← soft_shift s v N (-M), hsum]
    unfold soft
    rw [← Finset.sum_subset hs (fun n h1 h2 => by rw [hz n h1 h2, zero_div, EReal.coe_zero, zero_mul])]
    exact Finset.sum_congr rfl fun n hn => by rw [hp n hn]

/-- After the last block the quotient is the softmax average. -/
theorem Inv.final {s : ℕ → ℝ} {v : ℕ → EReal} {N k : ℕ} {m l a : EReal} (h : Inv s v N k m l a) (h0 : 0 < N) (hN : N ≤ 512 * k) :
    Ideal.div a l = soft s v N := by
  rcases h with ⟨rfl, _⟩ | ⟨M, rfl, rfl, rfl⟩
  · omega
  · obtain ⟨hpos, hr⟩ := ratio s v N (512 * k) h0 hN M
    unfold Ideal.div
    rw [if_neg (by simpa using hpos.ne'), ← EReal.coe_inv, mul_comm, coe_mul_sum _ _ (inv_nonneg.mpr hpos.le), ← hr]
    refine Finset.sum_congr rfl fun n _ => ?_
    rw [← mul_assoc, ← EReal.coe_mul]
    congr 2
    rw [mul_comm]; rfl

/-- The reference's form: all keys at once, the sum of the weights bounded below by a small number. -/
theorem whole (s : ℕ → ℝ) (v : ℕ → EReal) (N P : ℕ) (h0 : 0 < N) (hN : N ≤ P) (S V : Fin P → EReal)
    (hS : ∀ j, S j = msk s N j.val) (hV : ∀ j, V j = v j.val) (tiny : EReal) (ht : tiny ≤ 1) (M : ℝ)
    (hM : Finset.fold max ⊥ S Finset.univ = (M : EReal)) :
    ∑ n, V n * Ideal.div (Ideal.exp (S n - (M : EReal))) (max (∑ j, Ideal.exp (S j - (M : EReal))) tiny) = soft s v N := by
  obtain ⟨hpos, hr⟩ := ratio s v N P h0 hN M
  have hl : ∑ j, Ideal.exp (S j - (M : EReal)) = ((∑ n ∈ Finset.range P, wgt s N M n : ℝ) : EReal) := by
    simp only [hS, exp_msk]
    rw [← coe_sum]
    exact Fin.sum_univ_eq_sum_range (fun x => ((wgt s N M x : ℝ) : EReal)) P
  have hone : (1 : ℝ) ≤ ∑ n ∈ Finset.range P, wgt s N M n := by
    have h1 : (M : EReal) ≤ Finset.fold max ⊥ S Finset.univ := hM.ge
    rw [Finset.le_fold_max] at h1
    rcases h1 with h1 | ⟨x, _, hx⟩
    · exact absurd (le_bot_iff.mp h1) (EReal.coe_ne_bot M)
    · rw [hS] at hx
      have hxN : x.val < N := by
        by_contra hc
        unfold msk at hx; rw [if_neg hc] at hx
        exact absurd (le_bot_iff.mp hx) (EReal.coe_ne_bot M)
      have hw : 1 ≤ wgt s N M x.val := by
        unfold msk at hx; rw [if_pos hxN] at hx
        unfold wgt; rw [if_pos hxN]
        exact Real.one_le_exp (by have := EReal.coe_le_coe_iff.mp hx; linarith)
      exact hw.trans (Finset.single_le_sum (f := fun n => wgt s N M n) (fun i _ => wgt_nonneg s N M i) (Finset.mem_range.mpr x.isLt))
  rw [hl, max_eq_left (ht.trans (by exact_mod_cast hone)), ← hr]
  rw [← Fin.sum_univ_eq_sum_range (fun n => ((wgt s N M n / ∑ n ∈ Finset.range P, wgt s N M n : ℝ) : EReal) * v n) P]
  refine Finset.sum_congr rfl fun n _ => ?_
  rw [hS, hV, exp_msk, mul_comm]
  congr 1
  unfold Ideal.div
  rw [if_neg (by simpa using hpos.ne'), ← EReal.coe_inv, ← EReal.coe_mul]; rfl

end Cert.FoxKernelIdeal.FoxValue
-- ==== Proof.FoxRead.lean ====
module

public import proofs.«01_k».proof.Proof.FoxKernelIdealRun
public import proofs.«01_k».proof.Proof.FoxSoftmax
public import Idealize.ShloMosaic.Lib.Pipeline.ValueKit
public import Idealize.ShloMosaic.Lib.Pointwise

@[expose] public section

set_option maxRecDepth 16384

noncomputable section

/-! The attention kernel's operations read at an index, over the extended reals. -/

namespace Cert.FoxKernelIdeal.FoxValue

open Idealize.ShloMosaic Idealize.ShloMosaic.TcCoe Idealize.SL.Sem
open Cert.FoxKernelIdeal Cert.FoxKernelIdeal.Gen Cert.FoxKernelIdeal.Hand

/-- Minus infinity, as a maximum starts. -/
theorem ofBits_neg_inf : Ideal.ofBits FTy.f32 0xFF800000#32 = ⊥ := by
  simp [Ideal.ofBits, Ideal.ieee]

/-- One eighth in bf16, -/
theorem eighth_bf16 : Ideal.ofBits FTy.bf16 0x3E00#16 = ((1 / 8 : ℝ) : EReal) := by
  simp [Ideal.ofBits, Ideal.ieee, -EReal.coe_mul]; norm_num

/-- in f32, -/
theorem eighth_f32 : Ideal.ofBits FTy.f32 0x3E000000#32 = ((1 / 8 : ℝ) : EReal) := by
  simp [Ideal.ofBits, Ideal.ieee, -EReal.coe_mul]; norm_num

/-- and two. -/
theorem two_f32 : Ideal.ofBits FTy.f32 0x40000000#32 = ((2 : ℝ) : EReal) := by
  simp [Ideal.ofBits, Ideal.ieee, -EReal.coe_mul]; norm_num

/-- The named mask is minus infinity. -/
theorem mask_eq : (Named.named κ "mask" 0xF149F2CA#32 : Ideal .f32) = (⊥ : EReal) :=
  IdealRules.named_const.ideal_named_scalar _ _ _ _ rfl

/-- The named exponent is plus infinity. -/
theorem underflow_eq : (Named.named κ "underflow" 0x42DC0000#32 : Ideal .f32) = (⊤ : EReal) :=
  IdealRules.named_const.ideal_named_scalar _ _ _ _ rfl

section Payloads

variable (q : FVec Ideal S512x128 .bf16) (f0 : FVec Ideal S1x1 .f32) (K V : FVec Ideal S512x128 .bf16) (ft : FVec Ideal S1x1x512 .f32)

/-- The score of a query row and a key of a block. -/
theorem pay5_at (y : S512x512.Idx) :
    k0_pay5 q f0 K ft y = ∑ k, q (ix2 (y 0) k) * K (ix2 (y 1) k) + (f0 (ix2 0 0) - ft (ix3 0 0 (y 1))) := by
  pointwise [k0_pay5]

/-- In the diagonal block the later keys are masked. -/
theorem pay33_at (y : S512x512.Idx) :
    k0_pay33 q f0 K ft y = if (y 1).val ≤ (y 0).val then k0_pay5 q f0 K ft y else ⊥ := by
  have h0 : (y 0).val < 512 := (y 0).isLt
  have h1 : (y 1).val < 512 := (y 1).isLt
  rw [pay5_at]
  pointwise [k0_pay33]
  rw [mask_eq]
  have hc : IntOp.cmpi CmpIPredicate.sle (BitVec.ofNat 32 (y 1).val) (BitVec.ofNat 32 (y 0).val) = BitVec.ofBool (decide ((y 1).val ≤ (y 0).val)) := by
    show BitVec.ofBool (BitVec.sle _ _) = _
    congr 1
    rw [BitVec.sle_eq_decide, BitVec.toInt_eq_toNat_of_lt, BitVec.toInt_eq_toNat_of_lt]
    · simp only [BitVec.toNat_ofNat, decide_eq_decide]
      omega
    · simp only [BitVec.toNat_ofNat]; omega
    · simp only [BitVec.toNat_ofNat]; omega
  rw [hc]
  by_cases h : (y 1).val ≤ (y 0).val
  · rw [if_pos h, decide_eq_true h]; rfl
  · rw [if_neg h, decide_eq_false h]; rfl

/-- One whole block: the maximum, -/
theorem step_m (s : St Ideal) (r : Fin 512) : (step q f0 K V ft s).1 (ix3 0 r 0)
    = max (s.1 (ix3 0 r 0)) (Finset.fold max ⊥ (fun x => k0_pay5 q f0 K ft (ix2 r x)) Finset.univ) := by
  rw [← ofBits_neg_inf]
  pointwise [step, k0_pay29, k0_pay7, k0_pay6]

/-- the sum of the weights, -/
theorem step_l (s : St Ideal) (r : Fin 512) : (step q f0 K V ft s).2.1 (ix3 0 r 0)
    = Ideal.exp (s.1 (ix3 0 r 0) - (step q f0 K V ft s).1 (ix3 0 r 0)) * s.2.1 (ix3 0 r 0)
      + ∑ x, Ideal.exp (k0_pay5 q f0 K ft (ix2 r x) - (step q f0 K V ft s).1 (ix3 0 r 0)) := by
  pointwise [step, k0_pay29, k0_pay10, k0_pay8, k0_pay9, k0_pay6]

/-- and the weighted values. -/
theorem step_a (s : St Ideal) (r : Fin 512) (d : Fin 128) : (step q f0 K V ft s).2.2 (ix3 0 r d)
    = Ideal.exp (s.1 (ix3 0 r 0) - (step q f0 K V ft s).1 (ix3 0 r 0)) * s.2.2 (ix3 0 r d)
      + ∑ x, Ideal.exp (k0_pay5 q f0 K ft (ix2 r x) - (step q f0 K V ft s).1 (ix3 0 r 0)) * V (ix2 x d) := by
  pointwise [step, k0_pay29, k0_pay28, k0_pay8, k0_pay9, k0_pay6, k0_pay4]

/-- The diagonal block's maximum. -/
theorem diag_m (m : Vec Ideal S1x512x1 .f32) (r : Fin 512) : k0_pay35 q f0 (k0_pay32 K) ft m (ix2 r 0)
    = max (m (ix3 0 r 0)) (Finset.fold max ⊥ (fun x => k0_pay33 q f0 K ft (ix2 r x)) Finset.univ) := by
  have e : k0_pay32 K = K := by funext y; pointwise [k0_pay32]
  rw [← ofBits_neg_inf, e]
  pointwise [k0_pay35, k0_pay34]

/-- The block of the result: the weighted values over the sum of the weights. -/
theorem fin_at (s : St Ideal) (r : Fin 512) (d : Fin 128) (M : EReal) (hM : k0_pay35 q f0 (k0_pay32 K) ft s.1 (ix2 r 0) = M) :
    fin q f0 K V ft s (ix2 r d) = Ideal.div
      (Ideal.exp (s.1 (ix3 0 r 0) - M) * s.2.2 (ix3 0 r d) + ∑ x, Ideal.exp (k0_pay33 q f0 K ft (ix2 r x) - M) * V (ix2 x d))
      (Ideal.exp (s.1 (ix3 0 r 0) - M) * s.2.1 (ix3 0 r 0) + ∑ x, Ideal.exp (k0_pay33 q f0 K ft (ix2 r x) - M)) := by
  have e : k0_pay32 K = K := by funext y; pointwise [k0_pay32]
  rw [e] at hM
  subst hM
  unfold fin
  rw [e]
  pointwise [k0_pay3, k0_pay1, k0_pay39, k0_pay40, k0_pay38, k0_pay36, k0_pay37, k0_pay34]

end Payloads

/-- A 512-row block of a resident array. -/
theorem ld2_at (x : Vec Ideal S16384x128 .bf16) (off : Fin 2 → ℕ) (inb) (b : ℕ) (ho : off = ![512 * b, 0]) (j : Fin 512) (e : Fin 128)
    (hb : 512 * b + j.val < 16384) :
    View.ld x (Rect.unit (s := S16384x128) off S512x128.size inb) (ix2 j e) = x (ix2 ⟨512 * b + j.val, hb⟩ e) := by
  subst ho
  exact View.ld_unit_apply_of x _ _ inb _ _ (fun a => match a with
    | ⟨0, _⟩ => rfl
    | ⟨1, _⟩ => (Nat.zero_add _).symm)

/-- One head's row of a decay block. -/
theorem ld3_at (x : Vec Ideal S32x16x512 .f32) (off : Fin 3 → ℕ) (inb) (b h : ℕ) (ho : off = ![b, h, 0]) (j : Fin 512)
    (hb : b < 32) (hh : h < 16) :
    View.ld x (Rect.unit (s := S32x16x512) off S1x1x512.size inb) (ix3 0 0 j) = x (ix3 ⟨b, hb⟩ ⟨h, hh⟩ j) := by
  subst ho
  exact View.ld_unit_apply_of x _ _ inb _ _ (fun a => match a with
    | ⟨0, _⟩ => rfl
    | ⟨1, _⟩ => rfl
    | ⟨2, _⟩ => (Nat.zero_add _).symm)

end Cert.FoxKernelIdeal.FoxValue
-- ==== Proof.FoxCount.lean ====
module

public import proofs.«01_k».proof.Proof.FoxRead

@[expose] public section

set_option maxRecDepth 16384

noncomputable section

/-! Over the extended reals the attention kernel leaves no key block out: the weight it may ignore is zero. -/

namespace Cert.FoxKernelIdeal.FoxValue

open Idealize.ShloMosaic Idealize.ShloMosaic.TcCoe Idealize.SL.Sem
open Cert.FoxKernelIdeal Cert.FoxKernelIdeal.Gen Cert.FoxKernelIdeal.Hand

/-- A real number among the extended ones. -/
def IsReal (x : EReal) : Prop := ∃ r : ℝ, x = (r : EReal)

/-- Products of reals are real, -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- sums, -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- differences, -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- zero, -/
theorem IsReal.zero : IsReal 0 := ⟨0, rfl⟩

/-- and finite sums. -/
theorem IsReal.sum {ι : Type} (t : Finset ι) (f : ι → EReal) (h : ∀ i, IsReal (f i)) : IsReal (∑ i ∈ t, f i) := by
  choose g hg using h
  exact ⟨∑ i ∈ t, g i, by simp only [hg, coe_sum]⟩

/-- A nonnegative real number. -/
def IsNonneg (x : EReal) : Prop := ∃ r : ℝ, 0 ≤ r ∧ x = (r : EReal)

/-- A sum of squares of reals is a nonnegative real. -/
theorem IsNonneg.square_sum {ι : Type} (t : Finset ι) (f : ι → EReal) (h : ∀ i, IsReal (f i)) : IsNonneg (∑ i ∈ t, f i * f i) := by
  choose g hg using h
  exact ⟨∑ i ∈ t, g i * g i, Finset.sum_nonneg fun i _ => mul_self_nonneg _, by simp only [hg, ← EReal.coe_mul, coe_sum]⟩

/-- The larger of two nonnegative reals is one. -/
theorem IsNonneg.max {x y : EReal} (hx : IsNonneg x) (hy : IsNonneg y) : IsNonneg (max x y) := by
  rcases max_choice x y with h | h <;> rw [h] <;> assumption

/-- The product of two nonnegative reals is one. -/
theorem IsNonneg.mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩

/-- The maximum of a nonempty row of nonnegative reals. -/
theorem IsNonneg.fold {P : ℕ} (hP : 0 < P) (f : Fin P → EReal) (h : ∀ i, IsNonneg (f i)) :
    IsNonneg (Finset.fold Max.max ⊥ f Finset.univ) := by
  have key : ∀ t : Finset (Fin P), (Finset.fold Max.max ⊥ f t = ⊥ ∧ t = ∅) ∨ IsNonneg (Finset.fold Max.max ⊥ f t) := by
    classical
    intro t
    induction t using Finset.induction_on with
    | empty => exact Or.inl ⟨rfl, rfl⟩
    | insert a t ha ih =>
      refine Or.inr ?_
      rw [Finset.fold_insert ha]
      rcases ih with ⟨e, _⟩ | ih
      · rw [e, max_bot_right]; exact h a
      · exact (h a).max ih
  rcases key Finset.univ with ⟨_, e⟩ | h'
  · exact absurd (Finset.mem_univ (⟨0, hP⟩ : Fin P)) (by rw [e]; exact Finset.notMem_empty _)
  · exact h'

/-- A count of nothing. -/
theorem fold_zeros {ι : Type} (t : Finset ι) : Finset.fold (IntOp.addi (w := 32)) 0#32 (fun _ => 0#32) t = 0#32 := by
  classical
  induction t using Finset.induction_on with
  | empty => rfl
  | insert a t ha ih => rw [Finset.fold_insert ha, ih]; rfl

/-- The bound a block must fall below to be left out is plus infinity, so no block is counted. -/
theorem count_zero (a : BitVec 32) (f qm : FVec Ideal S1x1 .f32) (km : Vec Ideal S1x1x1 .f32) (fe : Vec Ideal S1x128 .f32)
    (hf : IsReal (f (ix2 0 0))) (hq : IsNonneg (qm (ix2 0 0))) (hk : IsNonneg (km (ix3 0 0 0))) (y : S1x1x1.Idx) :
    k0_pay27 a f qm km fe y = 0#32 := by
  pointwise [k0_pay27]
  obtain ⟨p, hp, e⟩ := hq.mul hk
  obtain ⟨b, hb⟩ := hf
  have hs : Ideal.sqrt (p : EReal) = ((Real.sqrt p : ℝ) : EReal) := by
    show (if p < 0 then ⊥ else ((Real.sqrt p : ℝ) : EReal)) = _
    rw [if_neg (not_lt.mpr hp)]
  rw [underflow_eq, two_f32, e, hs, hb, ← EReal.coe_mul, EReal.top_add_coe, EReal.coe_add_top]
  have hz : ∀ x : EReal, BitVec.ofBool (decide ((⊤ : EReal) < x)) = 0#1 := fun x => by
    rw [decide_eq_false not_top_lt]; rfl
  simp only [hz]
  have hsel : ∀ c : BitVec 1, Scalar.select (IntOp.andi (0#1) c) (1#32) (0#32) = 0#32 := by decide
  simp only [hsel]
  exact fold_zeros _

/-- The largest squared key norm over finite keys. -/
theorem kmax_nonneg (x3 : Vec Ideal S16384x128 .bf16) (h : ∀ y, IsReal (x3 y)) : IsNonneg (kmax x3 (ix3 0 0 0)) := by
  have key : ∀ k (y : S512x1.Idx), IsNonneg (st1 x3 k y) := by
    intro k
    induction k with
    | zero => intro y; exact ⟨0, le_rfl, by show Ideal.ofBits FTy.f32 0x00000000#32 = _; rw [Ideal.ofBits_zero_f32]; rfl⟩
    | succ k ih =>
      intro y
      unfold st1
      split
      · rename_i hk
        have e : ∀ (a : FVec Ideal S512x1 .f32) (K : Vec Ideal S512x128 .bf16) (y : S512x1.Idx),
            k0_pay22 a K y = max (a y) (∑ x, K (ix2 (y 0) x) * K (ix2 (y 0) x)) := by
          intro a K y; pointwise [k0_pay22]
        rw [e]
        exact (ih y).max (IsNonneg.square_sum _ _ fun x => h _)
      · exact ih y
  unfold kmax
  have e : ∀ (a : FVec Ideal S512x1 .f32) (y : S1x1x1.Idx), k0_pay23 a y = Finset.fold max ⊥ (fun x => a (ix2 x 0)) Finset.univ := by
    intro a y; rw [← ofBits_neg_inf]; pointwise [k0_pay23]
  rw [e]
  exact IsNonneg.fold (by decide) _ fun x => key _ _

/-- The largest squared query norm of a block of finite queries. -/
theorem qmax_nonneg (x2 : Vec Ideal S512x128 .bf16) (h : ∀ y, IsReal (x2 y)) : IsNonneg (k0_pay26 x2 (ix2 0 0)) := by
  have e : k0_pay26 x2 (ix2 0 0)
      = Finset.fold max ⊥ (fun x => ∑ x_1, k0_pay24 x2 (ix2 x x_1) * k0_pay24 x2 (ix2 x x_1)) Finset.univ := by
    rw [← ofBits_neg_inf]; pointwise [k0_pay26]
  rw [e]
  refine IsNonneg.fold (by decide) _ fun x => IsNonneg.square_sum _ _ fun x => ?_
  have e2 : ∀ y, k0_pay24 x2 y = x2 y * Ideal.ofBits FTy.bf16 0x3E00#16 := by intro y; pointwise [k0_pay24]
  rw [e2, eighth_bf16]
  exact (h _).mul ⟨_, rfl⟩

/-- With the count zero the loop runs over every block before the diagonal one, -/
theorem t2_lb (i : grid0.Coords) : (k0_t2_loop i 0#32).lb = 0#32 := by
  have : ∀ n : Fin 32, Scalar.minsi (BitVec.ofNat 32 n.val) 0#32 = 0#32 := by decide
  exact this (i 1)

/-- as many as come before it, -/
theorem t2_trips (i : grid0.Coords) : (k0_t2_loop i 0#32).trips = (i 1).val := by
  have : ∀ n : Fin 32, Scf.trips (0#32) (BitVec.ofNat 32 n.val) (1#32) = n.val := by decide
  show Scf.trips (k0_t2_loop i 0#32).lb (k0_t2_loop i 0#32).ub (k0_t2_loop i 0#32).st = _
  rw [t2_ub, t2_lb]
  exact this (i 1)

/-- its trip `k` at block `k` of the keys and the values -/
theorem off4_zero (i : grid0.Coords) (k : Fin (k0_t2_loop i 0#32).trips) : k0_off4 i 0#32 k = ![512 * k.val, 0] := by
  have hk : k.val < 32 := lt_of_lt_of_eq k.isLt (t2_trips i) |>.trans (i 1).isLt
  have hm : Scalar.minsi (BitVec.ofNat 32 (i 1).val) 0#32 = 0#32 := t2_lb i
  have : ∀ n : Fin 32, (Scalar.indexCast (Scalar.muli (Scf.iv (0#32) (1#32) n.val) 512#32) : Index).toNat = 512 * n.val := by decide
  show ![(Scalar.indexCast (Scalar.muli (Scf.iv (Scalar.minsi (BitVec.ofNat 32 (i 1).val) 0#32) (1#32) k.val) 512#32) : Index).toNat, 0] = _
  rw [hm, this ⟨k.val, hk⟩]

/-- and of the decay. -/
theorem off5_zero (i : grid0.Coords) (k : Fin (k0_t2_loop i 0#32).trips) : k0_off5 i 0#32 k = ![k.val, (i 0).val, 0] := by
  have hk : k.val < 32 := lt_of_lt_of_eq k.isLt (t2_trips i) |>.trans (i 1).isLt
  have hm : Scalar.minsi (BitVec.ofNat 32 (i 1).val) 0#32 = 0#32 := t2_lb i
  have h1 : ∀ n : Fin 32, (Scalar.indexCast (Scf.iv (0#32) (1#32) n.val) : Index).toNat = n.val := by decide
  have h2 : ∀ n : Fin 12, (Scalar.indexCast (Scalar.addi (Scalar.muli (BitVec.ofNat 32 n.val) 1#32) 0#32) : Index).toNat = n.val := by decide
  show ![(Scalar.indexCast (Scf.iv (Scalar.minsi (BitVec.ofNat 32 (i 1).val) 0#32) (1#32) k.val) : Index).toNat,
    (Scalar.indexCast (Scalar.addi (Scalar.muli (BitVec.ofNat 32 (i 0).val) 1#32) 0#32) : Index).toNat, 0] = _
  rw [hm, h1 ⟨k.val, hk⟩, h2 (i 0)]

end Cert.FoxKernelIdeal.FoxValue
-- ==== Proof.FoxArrays.lean ====
module

public import proofs.«01_k».proof.Proof.FoxCount

@[expose] public section

set_option maxRecDepth 16384

noncomputable section

/-! The attention kernel's arrays: what the host lays out, and which part of it each grid point sees. -/

namespace Cert.FoxKernelIdeal.FoxValue

open Idealize.ShloMosaic Idealize.ShloMosaic.TcCoe Idealize.SL.Sem
open Cert.FoxKernelIdeal Cert.FoxKernelIdeal.Gen Cert.FoxKernelIdeal.Hand

variable (m : (ℓ : Loc nD τ sig) → Buf (Elt Ideal) ℓ)

/-- Which block each window stages at grid point `t`, and the grid point's coordinates. -/
theorem idx : ∀ t : Fin cfg0.N, win0_0.index t = ![t.val % 32, t.val / 32] ∧ win0_1.index t = ![0, t.val / 32] ∧ win0_2.index t = ![0, t.val / 32]
    ∧ win0_3.index t = ![0, 0, 0] ∧ win0_4.index t = ![0, 0] ∧ win0_5.index t = ![t.val % 32, t.val / 32]
    ∧ (grid0.coords t 0).val = t.val / 32 ∧ (grid0.coords t 1).val = t.val % 32 :=
  (by decide +kernel : ∀ t : Fin grid0.N, _)

/-- The element of a projection at position `n` and column `c`. -/
def row (x : FVec Ideal S16384x768 .f32) (n c : ℕ) : EReal := if h : n < 16384 ∧ c < 768 then x (ix2 ⟨n, h.1⟩ ⟨c, h.2⟩) else 0

/-- The decay of head `h` at position `n`. -/
def dec (x : FVec Ideal S12x16384 .f32) (h n : ℕ) : EReal := if h' : h < 12 ∧ n < 16384 then x (ix2 ⟨h, h'.1⟩ ⟨n, h'.2⟩) else 0

/-- An element of a finite projection is real. -/
theorem row_real (x : FVec Ideal S16384x768 .f32) (hx : ∀ y, IsReal (x y)) (n c : ℕ) : IsReal (row x n c) := by
  unfold row; split
  · exact hx _
  · exact IsReal.zero

/-- An element of a finite decay is real. -/
theorem dec_real (x : FVec Ideal S12x16384 .f32) (hx : ∀ y, IsReal (x y)) (h n : ℕ) : IsReal (dec x h n) := by
  unfold dec; split
  · exact hx _
  · exact IsReal.zero

/-- Inside the array the accessor reads it. -/
theorem row_eq (x : FVec Ideal S16384x768 .f32) (n c : ℕ) (hn : n < 16384) (hc : c < 768) : row x n c = x (ix2 ⟨n, hn⟩ ⟨c, hc⟩) :=
  dif_pos ⟨hn, hc⟩

/-- The same from an index of the array. -/
theorem row_fin (x : FVec Ideal S16384x768 .f32) (n : Fin 16384) (c : Fin 768) : x (ix2 n c) = row x n.val c.val :=
  (row_eq x n.val c.val n.isLt c.isLt).symm

/-- Inside the array the accessor reads it. -/
theorem dec_eq (x : FVec Ideal S12x16384 .f32) (h n : ℕ) (hh : h < 12) (hn : n < 16384) : dec x h n = x (ix2 ⟨h, hh⟩ ⟨n, hn⟩) :=
  dif_pos ⟨hh, hn⟩

/-- The host's layout of queries, keys and values: each head's 64 columns in 128, the rest zero. -/
def heads (x : FVec Ideal S16384x768 .f32) : FVec Ideal S16384x1536 .bf16 :=
  truncf .bf16 (shapeCast S16384x1536 (pad S16384x12x128 ![0, 0, 0] ![0, 0, 64] ![0, 0, 0] (shapeCast S16384x12x64 x shapeCasts_S16384x768_S16384x12x64)
    (sitofp .f32 (constantI S_ 32 0#32)) pads_S16384x12x64_S16384x12x128_000_000_0640 h_S_) shapeCasts_S16384x12x128_S16384x1536) bitsLt_bf16_f32

/-- The host's layout of the decay: position block, head, position in the block. -/
def decay (x : FVec Ideal S12x16384 .f32) : FVec Ideal S32x16x512 .f32 :=
  transpose S32x16x512 [1, 0, 2] (shapeCast S16x32x512 (pad S16x16384 ![0, 0] ![4, 0] ![0, 0] x
    (sitofp .f32 (constantI S_ 32 0#32)) pads_S12x16384_S16x16384_040_000 h_S_) shapeCasts_S16x16384_S16x32x512) transposes_S16x32x512_S32x16x512_1_0_2

/-- The integer zero the host pads with. -/
theorem pad_zero : (FloatOps.sitofp FTy.f32 (0#32) : Ideal .f32) = (0 : EReal) := by
  show (((0#32 : BitVec 32).toInt : ℝ) : EReal) = 0
  simp

/-- The padded heads read at an index. -/
theorem heads_at (x : FVec Ideal S16384x768 .f32) (y) :
    heads x y = if (y 1).val % 128 < 64 then row x (y 0).val ((y 1).val / 128 * 64 + (y 1).val % 128) else 0 := by
  have h0 : (y 0).val < 16384 := (y 0).isLt
  have h1 : (y 1).val < 1536 := (y 1).isLt
  pointwise [heads]
  rw [pad_zero]
  have hd : (y 1).val / 128 < 12 := by omega
  by_cases h : (y 1).val % 128 < 64
  · rw [if_pos h, dif_pos ⟨hd, h⟩]
    exact row_fin x (y 0) ⟨(y 1).val / 128 * 64 + (y 1).val % 128, by omega⟩
  · have hn : ¬((y 1).val / 128 < 12 ∧ (y 1).val % 128 < 64) := fun h' => h h'.2
    rw [dif_neg hn, if_neg h]

/-- The decay layout read at an index. -/
theorem decay_at (x : FVec Ideal S12x16384 .f32) (y) : decay x y = dec x (y 1).val ((y 0).val * 512 + (y 2).val) := by
  pointwise [decay]
  rw [pad_zero]
  rfl

/-- The kernel finds the padded queries in its first operand, -/
theorem V_main_v3 (c : Dev nD) : V m c main_v3 = heads (m ((c : Thread nD τ).loc main_arg0)) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  rfl

/-- the padded keys in its second, -/
theorem V_main_v7 (c : Dev nD) : V m c main_v7 = heads (m ((c : Thread nD τ).loc main_arg1)) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  rfl

/-- the padded values in its third -/
theorem V_main_v11 (c : Dev nD) : V m c main_v11 = heads (m ((c : Thread nD τ).loc main_arg2)) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  rfl

/-- and the decay in its fourth. -/
theorem V_main_v14 (c : Dev nD) : V m c main_v14 = decay (m ((c : Thread nD τ).loc main_arg3)) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  rfl

/-- Where a place of the query block lies in the array, -/
theorem emb0 (t : Fin cfg0.N) (y : S512x128.Idx) : ((win0_0.blk t).view.emb y 0).val = t.val % 32 * 512 + (y 0).val
    ∧ ((win0_0.blk t).view.emb y 1).val = t.val / 32 * 128 + (y 1).val := by
  constructor
  · blk_ext [idx t]
  · blk_ext [idx t]

/-- a place of the key block, -/
theorem emb1 (t : Fin cfg0.N) (y : S16384x128.Idx) : ((win0_1.blk t).view.emb y 0).val = (y 0).val
    ∧ ((win0_1.blk t).view.emb y 1).val = t.val / 32 * 128 + (y 1).val := by
  constructor
  · blk_simp [idx t]
  · blk_ext [idx t]

/-- a place of the value block, -/
theorem emb2 (t : Fin cfg0.N) (y : S16384x128.Idx) : ((win0_2.blk t).view.emb y 0).val = (y 0).val
    ∧ ((win0_2.blk t).view.emb y 1).val = t.val / 32 * 128 + (y 1).val := by
  constructor
  · blk_simp [idx t]
  · blk_ext [idx t]

/-- A head's columns in the host's layout. -/
theorem heads_col (x : FVec Ideal S16384x768 .f32) (n h e : ℕ) (he : e < 128) (y : S16384x1536.Idx) (h0 : (y 0).val = n) (h1 : (y 1).val = h * 128 + e) :
    heads x y = if e < 64 then row x n (64 * h + e) else 0 := by
  rw [heads_at, h0, h1, show (h * 128 + e) % 128 = e by omega, show (h * 128 + e) / 128 * 64 = 64 * h by omega]

/-- The block of queries: its rows' positions, its head's columns. -/
theorem blk0 (c : Dev nD) (t : Fin cfg0.N) (r : Fin 512) (e : Fin 128) : iblk m c 0 t (ix2 r e)
    = if e.val < 64 then row (m ((c : Thread nD τ).loc main_arg0)) (512 * (t.val % 32) + r.val) (64 * (t.val / 32) + e.val) else 0 := by
  blk_simp [iblk]
  rw [V_main_v3]
  obtain ⟨h1, h2⟩ := emb0 t (ix2 r e)
  exact heads_col _ _ _ _ e.isLt _ (h1.trans (by rw [Nat.mul_comm]; rfl)) h2

/-- The head's keys, -/
theorem blk1 (c : Dev nD) (t : Fin cfg0.N) (n : Fin 16384) (e : Fin 128) : iblk m c 1 t (ix2 n e)
    = if e.val < 64 then row (m ((c : Thread nD τ).loc main_arg1)) n.val (64 * (t.val / 32) + e.val) else 0 := by
  blk_simp [iblk]
  rw [V_main_v7]
  obtain ⟨h1, h2⟩ := emb1 t (ix2 n e)
  exact heads_col _ _ _ _ e.isLt _ h1 h2

/-- its values, -/
theorem blk2 (c : Dev nD) (t : Fin cfg0.N) (n : Fin 16384) (e : Fin 128) : iblk m c 2 t (ix2 n e)
    = if e.val < 64 then row (m ((c : Thread nD τ).loc main_arg2)) n.val (64 * (t.val / 32) + e.val) else 0 := by
  blk_simp [iblk]
  rw [V_main_v11]
  obtain ⟨h1, h2⟩ := emb2 t (ix2 n e)
  exact heads_col _ _ _ _ e.isLt _ h1 h2

/-- and every head's decay. -/
theorem blk3 (c : Dev nD) (t : Fin cfg0.N) : iblk m c 3 t = decay (m ((c : Thread nD τ).loc main_arg3)) := by
  rw [← V_main_v14]
  blk_ext! [iblk, idx t]

end Cert.FoxKernelIdeal.FoxValue
-- ==== Proof.FoxPoint.lean ====
module

public import proofs.«01_k».proof.Proof.FoxArrays

@[expose] public section

set_option maxRecDepth 16384

noncomputable section

/-! What one grid point of the attention kernel leaves: each row's softmax average of the values. -/

namespace Cert.FoxKernelIdeal.FoxValue

open Idealize.ShloMosaic Idealize.ShloMosaic.TcCoe Idealize.SL.Sem
open Cert.FoxKernelIdeal Cert.FoxKernelIdeal.Gen Cert.FoxKernelIdeal.Hand

/-- A real among the extended ones is its own real part. -/
theorem IsReal.coe {x : EReal} (h : IsReal x) : ((x.toReal : ℝ) : EReal) = x := by
  obtain ⟨r, rfl⟩ := h; rw [EReal.toReal_coe]

/-- A sum over a padded head is the sum over the head. -/
theorem sum_half (g : Fin 128 → EReal) (h : ℕ → EReal) (hg : ∀ k, g k = if k.val < 64 then h k.val else 0) :
    ∑ k, g k = ∑ k : Fin 64, h k.val := by
  simp only [hg]
  rw [Fin.sum_univ_eq_sum_range (fun k => if k < 64 then h k else 0) 128, Fin.sum_univ_eq_sum_range h 64]
  symm
  rw [← Finset.sum_subset (Finset.range_mono (show 64 ≤ 128 by decide))
    (f := fun k => if k < 64 then h k else 0) (fun k _ hk => if_neg (by simpa using hk))]
  exact Finset.sum_congr rfl fun k hk => (if_pos (Finset.mem_range.mp hk)).symm

section Head

variable (q k v : FVec Ideal S16384x768 .f32) (f : FVec Ideal S12x16384 .f32)

/-- The scaled query at `T` against the key at `n`. -/
def dot (h T n : ℕ) : EReal := ∑ e : Fin 64, row q T (64 * h + e.val) * ((1 / 8 : ℝ) : EReal) * row k n (64 * h + e.val)

/-- The score of the query at `T` and the key at `n`, its decay counted from position `b`. -/
def sc (h T b n : ℕ) : ℝ := (dot q k h T n).toReal + ((dec f h b).toReal - (dec f h n).toReal)

/-- The value at `n` in column `d` of a padded head. -/
def vv (h d n : ℕ) : EReal := if d < 64 then row v n (64 * h + d) else 0

variable (hq : ∀ y, IsReal (q y)) (hk : ∀ y, IsReal (k y)) (hf : ∀ y, IsReal (f y))

include hq hk in
/-- A product of finite rows is real. -/
theorem dot_real (h T n : ℕ) : IsReal (dot q k h T n) :=
  IsReal.sum _ _ fun e => ((row_real q hq _ _).mul ⟨_, rfl⟩).mul (row_real k hk _ _)

include hq hk hf in
/-- The score as the kernel adds it up. -/
theorem sc_eq (h T b n : ℕ) : dot q k h T n + (dec f h b - dec f h n) = ((sc q k f h T b n : ℝ) : EReal) := by
  unfold sc
  rw [EReal.coe_add, EReal.coe_sub, (dot_real q k hq hk h T n).coe, (dec_real f hf h b).coe, (dec_real f hf h n).coe]

variable (i : grid0.Coords) (x2 : Vec Ideal S512x128 .bf16) (x3 x4 : Vec Ideal S16384x128 .bf16) (x5 : Vec Ideal S32x16x512 .f32)
  (h2 : ∀ (r : Fin 512) (e : Fin 128), x2 (ix2 r e) = if e.val < 64 then row q (512 * (i 1).val + r.val) (64 * (i 0).val + e.val) else 0)
  (h3 : ∀ (n : Fin 16384) (e : Fin 128), x3 (ix2 n e) = if e.val < 64 then row k n.val (64 * (i 0).val + e.val) else 0)
  (h4 : ∀ (n : Fin 16384) (e : Fin 128), x4 (ix2 n e) = if e.val < 64 then row v n.val (64 * (i 0).val + e.val) else 0)
  (h5 : ∀ y, x5 y = dec f (y 1).val ((y 0).val * 512 + (y 2).val))

include h5 in
/-- The decay at the query block's first position. -/
theorem f0_at : f0 i x5 (ix2 0 0) = dec f (i 0).val (512 * (i 1).val) := by
  have e : ∀ (a : Vec Ideal S1x1x512 .f32), k0_pay25 a (ix2 0 0) = a (ix3 0 0 0) := by intro a; pointwise [k0_pay25]
  have hi : (i 1).val < 32 := (i 1).isLt
  have hj : (i 0).val < 12 := (i 0).isLt
  unfold f0
  rw [e, ld3_at x5 _ _ (i 1).val (i 0).val (k0_off2_eq i) 0 hi (by omega), h5]
  show dec f (i 0).val ((i 1).val * 512 + 0) = _
  rw [Nat.add_zero, Nat.mul_comm]

/-- The scaled queries. -/
theorem pay24_at (y : S512x128.Idx) : k0_pay24 x2 y = x2 y * ((1 / 8 : ℝ) : EReal) := by
  rw [← eighth_bf16]; pointwise [k0_pay24]

include hq hk hf h2 h3 h5 in
/-- The scores against block `b` of the keys. -/
theorem score (b : ℕ) (hb : b < 32) (o1 : Fin 2 → ℕ) (ho1 : o1 = ![512 * b, 0]) (i1) (o2 : Fin 3 → ℕ) (ho2 : o2 = ![b, (i 0).val, 0]) (i2)
    (r j : Fin 512) :
    k0_pay5 (k0_pay24 x2) (f0 i x5) (View.ld x3 (Rect.unit (s := S16384x128) o1 S512x128.size i1))
      (View.ld x5 (Rect.unit (s := S32x16x512) o2 S1x1x512.size i2)) (ix2 r j)
      = ((sc q k f (i 0).val (512 * (i 1).val + r.val) (512 * (i 1).val) (512 * b + j.val) : ℝ) : EReal) := by
  have hj : (i 0).val < 12 := (i 0).isLt
  have hjl : j.val < 512 := j.isLt
  rw [pay5_at, f0_at f i x5 h5, ← sc_eq q k f hq hk hf]
  congr 1
  · refine sum_half _ (fun e => row q (512 * (i 1).val + r.val) (64 * (i 0).val + e) * ((1 / 8 : ℝ) : EReal) * row k (512 * b + j.val) (64 * (i 0).val + e)) fun e => ?_
    show k0_pay24 x2 (ix2 r e) * View.ld x3 (Rect.unit (s := S16384x128) o1 S512x128.size i1) (ix2 j e) = _
    rw [pay24_at, ld2_at x3 o1 i1 b ho1 j e (by omega), h2, h3]
    by_cases he : e.val < 64
    · simp only [if_pos he]
    · simp only [if_neg he, zero_mul]
  · congr 1
    show View.ld x5 (Rect.unit (s := S32x16x512) o2 S1x1x512.size i2) (ix3 0 0 j) = _
    rw [ld3_at x5 o2 i2 b (i 0).val ho2 j hb (by omega), h5]
    show dec f (i 0).val (b * 512 + j.val) = _
    rw [Nat.mul_comm b]

include h4 in
/-- The values of block `b`. -/
theorem val (b : ℕ) (hb : b < 32) (o1 : Fin 2 → ℕ) (ho1 : o1 = ![512 * b, 0]) (i1) (j : Fin 512) (d : Fin 128) :
    View.ld x4 (Rect.unit (s := S16384x128) o1 S512x128.size i1) (ix2 j d) = vv v (i 0).val d.val (512 * b + j.val) := by
  have hjl : j.val < 512 := j.isLt
  rw [ld2_at x4 o1 i1 b ho1 j d (by omega), h4]
  rfl

/-- The state before any block. -/
theorem init_at (r : Fin 512) (d : Fin 128) : (init (F := Ideal)).1 (ix3 0 r 0) = ⊥ ∧ (init (F := Ideal)).2.1 (ix3 0 r 0) = 0
    ∧ (init (F := Ideal)).2.2 (ix3 0 r d) = 0 := by
  refine ⟨?_, ?_, ?_⟩
  · rw [← mask_eq]; pointwise [init, k0_pay18]
  · rw [← Ideal.ofBits_zero_f32]; pointwise [init, k0_pay19]
  · rw [← Ideal.ofBits_zero_f32]; pointwise [init, k0_pay20]

include hq hk hf h2 h3 h4 h5 in
/-- The loop's state after `n` blocks, none left out. -/
theorem st2_inv (hc : k0_chk1 i 0#32) (r : Fin 512) (d : Fin 128) (n : ℕ) (hn : n ≤ (i 1).val) :
    Inv (sc q k f (i 0).val (512 * (i 1).val + r.val) (512 * (i 1).val)) (vv v (i 0).val d.val) (512 * (i 1).val + r.val + 1) n
      ((st2 i 0#32 hc (k0_pay24 x2) (f0 i x5) x3 x4 x5 n).1 (ix3 0 r 0))
      ((st2 i 0#32 hc (k0_pay24 x2) (f0 i x5) x3 x4 x5 n).2.1 (ix3 0 r 0))
      ((st2 i 0#32 hc (k0_pay24 x2) (f0 i x5) x3 x4 x5 n).2.2 (ix3 0 r d)) := by
  have hi : (i 1).val < 32 := (i 1).isLt
  induction n with
  | zero => exact Or.inl ⟨rfl, init_at r d⟩
  | succ n ih =>
    have hn' : n < (k0_t2_loop i 0#32).trips := by rw [t2_trips]; omega
    have hst : st2 i 0#32 hc (k0_pay24 x2) (f0 i x5) x3 x4 x5 (n + 1)
        = step (k0_pay24 x2) (f0 i x5) (View.ld x3 (Rect.unit (s := S16384x128) (k0_off4 i 0#32 ⟨n, hn'⟩) S512x128.size (k0_off4_inb i 0#32 hc ⟨n, hn'⟩)))
          (View.ld x4 (Rect.unit (s := S16384x128) (k0_off4 i 0#32 ⟨n, hn'⟩) S512x128.size (k0_off4_inb i 0#32 hc ⟨n, hn'⟩)))
          (View.ld x5 (Rect.unit (s := S32x16x512) (k0_off5 i 0#32 ⟨n, hn'⟩) S1x1x512.size (k0_off5_inb i 0#32 hc ⟨n, hn'⟩)))
          (st2 i 0#32 hc (k0_pay24 x2) (f0 i x5) x3 x4 x5 n) := dif_pos hn'
    rw [hst, step_l, step_a]
    refine Inv.step (ih (by omega)) (by omega) _ _ (fun j => ?_) (fun j => ?_) _ (step_m _ _ _ _ _ _ r)
    · rw [score q k f hq hk hf i x2 x3 x5 h2 h3 h5 n (by omega) _ (off4_zero i ⟨n, hn'⟩) _ _ (off5_zero i ⟨n, hn'⟩) _ r j]
      unfold msk
      rw [if_pos (by have := j.isLt; omega)]
    · exact val v i x4 h4 n (by omega) _ (off4_zero i ⟨n, hn'⟩) _ j d

include hq hk hf h2 h3 h4 h5 in
/-- The block of the result when no key block is left out. -/
theorem fin_soft (hc : k0_chk1 i 0#32) (r : Fin 512) (d : Fin 128) :
    fin (k0_pay24 x2) (f0 i x5) (View.ld x3 (Rect.unit (s := S16384x128) (k0_off8 i) S512x128.size (k0_off8_inb i)))
      (View.ld x4 (Rect.unit (s := S16384x128) (k0_off8 i) S512x128.size (k0_off8_inb i)))
      (View.ld x5 (Rect.unit (s := S32x16x512) (k0_off9 i) S1x1x512.size (k0_off9_inb i)))
      (st2 i 0#32 hc (k0_pay24 x2) (f0 i x5) x3 x4 x5 (k0_t2_loop i 0#32).trips) (ix2 r d)
      = soft (sc q k f (i 0).val (512 * (i 1).val + r.val) (512 * (i 1).val)) (vv v (i 0).val d.val) (512 * (i 1).val + r.val + 1) := by
  have hi : (i 1).val < 32 := (i 1).isLt
  have hr : r.val < 512 := r.isLt
  rw [t2_trips, fin_at _ _ _ _ _ _ r d _ rfl]
  refine Inv.final (k := (i 1).val + 1) (m := _) (Inv.step (st2_inv q k v f hq hk hf i x2 x3 x4 x5 h2 h3 h4 h5 hc r d (i 1).val le_rfl) (by omega) _ _
    (fun j => ?_) (fun j => ?_) _ (diag_m _ _ _ _ _ r)) (by omega) (by omega)
  · rw [pay33_at]
    show (if j.val ≤ r.val then _ else ⊥) = _
    rw [score q k f hq hk hf i x2 x3 x5 h2 h3 h5 (i 1).val hi _ (k0_off8_eq i) _ _ (k0_off9_eq i) _ r j]
    unfold msk
    by_cases h : j.val ≤ r.val
    · rw [if_pos h, if_pos (by omega)]
    · rw [if_neg h, if_neg (by omega)]
  · exact val v i x4 h4 (i 1).val hi _ (k0_off8_eq i) _ j d

include hq hk hf h2 h3 h4 h5 in
/-- The block of the result one grid point leaves, over finite queries, keys and decay. -/
theorem out_soft (x6 : Vec Ideal S16x128 .f32) (r : Fin 512) (d : Fin 128) :
    out i (kmax x3) x2 x3 x4 x5 x6 (ix2 r d)
      = soft (sc q k f (i 0).val (512 * (i 1).val + r.val) (512 * (i 1).val)) (vv v (i 0).val d.val) (512 * (i 1).val + r.val + 1) := by
  have r2 : ∀ y, IsReal (x2 y) := fun y => by
    rw [(congrArg x2 (eq_ix2 y)).trans (h2 (y 0) (y 1))]; split
    · exact row_real q hq _ _
    · exact IsReal.zero
  have r3 : ∀ y, IsReal (x3 y) := fun y => by
    rw [(congrArg x3 (eq_ix2 y)).trans (h3 (y 0) (y 1))]; split
    · exact row_real k hk _ _
    · exact IsReal.zero
  have hz : cnt i (kmax x3) x2 x5 x6 = 0#32 :=
    count_zero _ _ _ _ _ (by rw [f0_at f i x5 h5]; exact dec_real f hf _ _) (qmax_nonneg x2 r2) (kmax_nonneg x3 r3) _
  have gen : ∀ (w : BitVec 32) (hw : k0_chk1 i w), w = 0#32 →
      fin (k0_pay24 x2) (f0 i x5) (View.ld x3 (Rect.unit (s := S16384x128) (k0_off8 i) S512x128.size (k0_off8_inb i)))
        (View.ld x4 (Rect.unit (s := S16384x128) (k0_off8 i) S512x128.size (k0_off8_inb i)))
        (View.ld x5 (Rect.unit (s := S32x16x512) (k0_off9 i) S1x1x512.size (k0_off9_inb i)))
        (st2 i w hw (k0_pay24 x2) (f0 i x5) x3 x4 x5 (k0_t2_loop i w).trips) (ix2 r d)
        = soft (sc q k f (i 0).val (512 * (i 1).val + r.val) (512 * (i 1).val)) (vv v (i 0).val d.val) (512 * (i 1).val + r.val + 1) := by
    intro w hw e
    subst e
    exact fin_soft q k v f hq hk hf i x2 x3 x4 x5 h2 h3 h4 h5 hw r d
  exact gen _ (chk_cnt i (kmax x3) x2 x5 x6) hz

end Head

end Cert.FoxKernelIdeal.FoxValue
-- ==== Proof.FoxValue.lean ====
module

public import proofs.«01_k».proof.Proof.FoxPoint
public import Idealize.ShloMosaic.Lib.ReduceAll
public import proofs.«01_k».proof.Pre_fox_finite
public import proofs.«01_k».proof.Proof.Gen.FoxReferenceIdeal.Read

@[expose] public section

set_option maxRecDepth 16384

noncomputable section

/-! The attention kernel's result is the reference's. -/

namespace Cert.FoxKernelIdeal.FoxValue

open Idealize.ShloMosaic Idealize.ShloMosaic.TcCoe Idealize.SL.Sem
open Cert.FoxKernelIdeal Cert.FoxKernelIdeal.Gen Cert.FoxKernelIdeal.Hand
open Cert.FoxReferenceIdeal.Read

section Reference

variable (q k v : FVec Ideal S16384x768 .f32) (f : FVec Ideal S12x16384 .f32)

/-- The reference's score, its decay counted from the start. -/
theorem v12_at (h : Fin 12) (T n : Fin 16384) : val_main_v12 (F := Ideal) q k f (ix3 h T n)
    = dot q k h.val T.val n.val + dec f h.val T.val - dec f h.val n.val := by
  have hh : h.val < 12 := h.isLt
  pointwise [val_main_v12, val_main_v11, val_main_v10, val_main_v9, val_main_v8, val_main_v7, val_main_v6, val_main_v3, val_main_v2, val_main_v1, val_main_v0, val_main_cst]
  rw [dec_eq f h.val T.val hh T.isLt, dec_eq f h.val n.val hh n.isLt, eighth_f32]
  congr 2
  unfold dot
  refine Finset.sum_congr rfl fun x _ => ?_
  have hx : x.val < 64 := x.isLt
  rw [row_eq q T.val (64 * h.val + x.val) T.isLt (by omega), row_eq k n.val (64 * h.val + x.val) n.isLt (by omega)]
  simp only [Nat.mul_comm h.val 64]

variable (hq : ∀ y, IsReal (q y)) (hk : ∀ y, IsReal (k y)) (hf : ∀ y, IsReal (f y))

include hq hk hf in
/-- It differs from the kernel's by one number for the whole row. -/
theorem v12_sc (h : Fin 12) (T n : Fin 16384) (b : ℕ) : val_main_v12 (F := Ideal) q k f (ix3 h T n)
    = ((sc q k f h.val T.val b n.val + ((dec f h.val T.val).toReal - (dec f h.val b).toReal) : ℝ) : EReal) := by
  rw [v12_at, ← (dot_real q k hq hk h.val T.val n.val).coe, ← (dec_real f hf h.val T.val).coe, ← (dec_real f hf h.val n.val).coe,
    ← EReal.coe_add, ← EReal.coe_sub]
  congr 1
  unfold sc
  rw [EReal.toReal_coe]
  ring

/-- Later keys are masked. -/
theorem v18_at (h : Fin 12) (T n : Fin 16384) : val_main_v18 (F := Ideal) q k f (ix3 h T n)
    = if n.val ≤ T.val then val_main_v12 (F := Ideal) q k f (ix3 h T n) else ⊥ := by
  have hT : T.val < 16384 := T.isLt
  have hn : n.val < 16384 := n.isLt
  pointwise [val_main_v18, val_main_call0_v2, val_main_call0_v1, val_main_call0_v0, val_main_cst_0, val_main_v17, val_main_v16, val_main_v15, val_main_v14, val_main_v13, val_main_v5]
  have hc : IntOp.cmpi CmpIPredicate.sle (BitVec.ofNat 32 n.val) (BitVec.ofNat 32 T.val) = BitVec.ofBool (decide (n.val ≤ T.val)) := by
    show BitVec.ofBool (BitVec.sle _ _) = _
    congr 1
    rw [BitVec.sle_eq_decide, BitVec.toInt_eq_toNat_of_lt, BitVec.toInt_eq_toNat_of_lt]
    · simp only [BitVec.toNat_ofNat, decide_eq_decide]
      omega
    · simp only [BitVec.toNat_ofNat]; omega
    · simp only [BitVec.toNat_ofNat]; omega
  rw [hc]
  by_cases hl : n.val ≤ T.val
  · rw [if_pos hl, decide_eq_true hl]; rfl
  · rw [if_neg hl, decide_eq_false hl]
    exact ofBits_neg_inf

/-- The row's maximum. -/
theorem v19_at (h : Fin 12) (T : Fin 16384) : val_main_v19 (F := Ideal) q k f (ix2 h T)
    = Finset.fold max ⊥ (fun x => val_main_v18 (F := Ideal) q k f (ix3 h T x)) Finset.univ := by
  rw [← ofBits_neg_inf]
  pointwise [val_main_v19, val_main_cst_1]

/-- Plus infinity. -/
theorem ofBits_pos_inf : Ideal.ofBits FTy.f32 0x7F800000#32 = ⊤ := by
  simp [Ideal.ofBits, Ideal.ieee]

/-- A finite maximum is the one the scores are counted from. -/
theorem v24_at (h : Fin 12) (T : Fin 16384) (M : ℝ) (hM : val_main_v19 (F := Ideal) q k f (ix2 h T) = (M : EReal)) :
    val_main_v24 (F := Ideal) q k f (ix3 h T 0) = (M : EReal) := by
  have e : idx_main_v20 (ix3 h T 0) = ix2 h T := by
    funext a
    match a with
    | ⟨0, _⟩ => rfl
    | ⟨1, _⟩ => rfl
  rw [val_main_v24_apply, val_main_v23_apply, val_main_v21_apply, val_main_v22_apply, val_main_cst_2_apply, val_main_v20_apply, e, hM]
  have hc : (FloatOps.cmpf (F := Ideal) (φ := .f32) CmpFPredicate.olt (FloatOps.hostAbsf (F := Ideal) (φ := .f32) (M : EReal)) (FloatOps.ofBits FTy.f32 0x7F800000#32)) = 1#1 := by
    show BitVec.ofBool (decide (max (M : EReal) (-(M : EReal)) < Ideal.ofBits FTy.f32 0x7F800000#32)) = 1#1
    rw [ofBits_pos_inf, decide_eq_true]
    · rfl
    · exact max_lt (EReal.coe_lt_top _) (by rw [← EReal.coe_neg]; exact EReal.coe_lt_top _)
  rw [hc]
  rfl

/-- The softmax weight. -/
theorem v33_at (h : Fin 12) (T n : Fin 16384) (M : EReal) (hM : val_main_v24 (F := Ideal) q k f (ix3 h T 0) = M) :
    val_main_v33 (F := Ideal) q k f (ix3 h T n)
      = Ideal.div (Ideal.exp (val_main_v18 (F := Ideal) q k f (ix3 h T n) - M))
        (max (∑ x, Ideal.exp (val_main_v18 (F := Ideal) q k f (ix3 h T x) - M)) (Ideal.ofBits FTy.f32 0x00800000#32)) := by
  subst hM
  pointwise [val_main_v33, val_main_v32, val_main_v31, val_main_v30, val_main_cst_5, val_main_v29, val_main_v28, val_main_cst_4, val_main_v27, val_main_v26, val_main_v25]

/-- The smallest normal number is at most one. -/
theorem tiny_le : Ideal.ofBits FTy.f32 0x00800000#32 ≤ 1 := by
  have : Ideal.ofBits FTy.f32 0x00800000#32 = (((2 : ℝ) ^ (-126 : ℤ) : ℝ) : EReal) := by
    simp [Ideal.ofBits, Ideal.ieee, -EReal.coe_mul]
    norm_num
  rw [this, ← EReal.coe_one, EReal.coe_le_coe_iff]
  norm_num

include hq hk hf in
/-- The averaged values, in a head's own columns. -/
theorem avg (h : Fin 12) (T : Fin 16384) (b : ℕ) (V : Fin 16384 → EReal) (w : ℕ → EReal) (hV : ∀ n, V n = w n.val) :
    ∑ n, V n * val_main_v33 (F := Ideal) q k f (ix3 h T n) = soft (sc q k f h.val T.val b) w (T.val + 1) := by
  have hS : ∀ n : Fin 16384, val_main_v18 (F := Ideal) q k f (ix3 h T n)
      = msk (fun n => sc q k f h.val T.val b n + ((dec f h.val T.val).toReal - (dec f h.val b).toReal)) (T.val + 1) n.val := by
    intro n
    rw [v18_at, v12_sc q k f hq hk hf h T n b]
    unfold msk
    simp only [Nat.lt_succ_iff]
  obtain ⟨M, hM⟩ := max_real _ (T.val + 1) 0 16384 (Nat.succ_pos _) (by decide) ⊥ bot_ne_top
    (fun n => val_main_v18 (F := Ideal) q k f (ix3 h T n)) (fun n => by rw [hS n, Nat.zero_add])
  rw [max_bot_left] at hM
  have h24 := v24_at q k f h T M ((v19_at q k f h T).trans hM)
  simp only [v33_at q k f h T _ _ h24]
  rw [whole _ w (T.val + 1) 16384 (Nat.succ_pos _) T.isLt _ V hS hV _ tiny_le M hM, soft_shift]

include hq hk hf in
/-- One column of a head's averaged values. -/
theorem avg_col (T h d b : ℕ) (hd : d < 64) (H : Fin 12) (T' : Fin 16384) (C : Fin 768) (eH : H.val = h) (eT : T'.val = T) (eC : C.val = 64 * h + d) :
    ∑ x, v (ix2 x C) * val_main_v33 (F := Ideal) q k f (ix3 H T' x) = soft (sc q k f h T b) (vv v h d) (T + 1) := by
  subst eH
  subst eT
  refine avg q k f hq hk hf H T' b _ _ fun n => ?_
  unfold vv
  rw [if_pos hd, ← eC]
  exact row_fin v n C

include hq hk hf in
/-- The reference's result at a position, a head and a column of it. -/
theorem ref_at (T h d b : ℕ) (hT : T < 16384) (hh : h < 12) (hd : d < 128) (y : S16384x1536.Idx) (h0 : (y 0).val = T) (h1 : (y 1).val = h * 128 + d) :
    val_main_v38 (F := Ideal) q k v f y = soft (sc q k f h T b) (vv v h d) (T + 1) := by
  have e1 : (y 1).val / 128 = h := by omega
  have e2 : (y 1).val % 128 = d := by omega
  pointwise [val_main_v38, val_main_v37, val_main_v36, val_main_call2_v0, val_main_c, val_main_v35, val_main_v34, val_main_v4]
  by_cases hd' : d < 64
  · have hc : (y 1).val / 128 < 12 ∧ (y 1).val % 128 < 64 := ⟨by omega, by omega⟩
    rw [dif_pos hc]
    exact avg_col q k v f hq hk hf T h d b hd' ⟨(y 1).val / 128, hc.1⟩ (y 0) ⟨(y 1).val / 128 * 64 + (y 1).val % 128, by omega⟩ e1 h0
      (by show (y 1).val / 128 * 64 + (y 1).val % 128 = 64 * h + d; omega)
  · have hc : ¬((y 1).val / 128 < 12 ∧ (y 1).val % 128 < 64) := fun hc => hd' (by omega)
    rw [dif_neg hc, pad_zero]
    unfold soft vv
    simp only [if_neg hd', mul_zero, Finset.sum_const_zero]

end Reference

/-- Where a place of the result block lies in the array. -/
theorem emb5 (t : Fin cfg0.N) (y : S512x128.Idx) : ((win0_5.blk t).view.emb y 0).val = t.val % 32 * 512 + (y 0).val
    ∧ ((win0_5.blk t).view.emb y 1).val = t.val / 32 * 128 + (y 1).val := by
  constructor
  · blk_ext [idx t]
  · blk_ext [idx t]

variable (m : (ℓ : Loc nD τ sig) → Buf (Elt Ideal) ℓ)

/-- What one grid point leaves at `y` is the reference's element at the place in the array. -/
theorem point (c : Dev nD) (hq : ∀ y, IsReal (m ((c : Thread nD τ).loc main_arg0) y)) (hk : ∀ y, IsReal (m ((c : Thread nD τ).loc main_arg1) y))
    (hf : ∀ y, IsReal (m ((c : Thread nD τ).loc main_arg3) y)) (t : Fin cfg0.N) (y : S512x128.Idx) :
    outs m c t y = val_main_v38 (F := Ideal) (m ((c : Thread nD τ).loc main_arg0)) (m ((c : Thread nD τ).loc main_arg1))
      (m ((c : Thread nD τ).loc main_arg2)) (m ((c : Thread nD τ).loc main_arg3)) ((win0_5.blk t).view.emb y) := by
  obtain ⟨-, -, -, -, -, -, g0, g1⟩ := idx t
  obtain ⟨e0, e1⟩ := emb5 t y
  have ht : t.val < 384 := t.isLt
  have hr : (y 0).val < 512 := (y 0).isLt
  have hd : (y 1).val < 128 := (y 1).isLt
  refine (congrArg (outs m c t) (eq_ix2 y)).trans ?_
  refine (out_soft _ _ (m ((c : Thread nD τ).loc main_arg2)) _ hq hk hf (grid0.coords t) (iblk m c 0 t) (iblk m c 1 t) (iblk m c 2 t) (iblk m c 3 t)
    (fun r e => by rw [g0, g1]; exact blk0 m c t r e) (fun n e => by rw [g0]; exact blk1 m c t n e) (fun n e => by rw [g0]; exact blk2 m c t n e)
    (fun y => by rw [blk3]; exact decay_at _ y) (iblk m c 4 t) (y 0) (y 1)).trans ?_
  refine (ref_at _ _ _ _ hq hk hf (512 * (grid0.coords t 1).val + (y 0).val) (grid0.coords t 0).val (y 1).val _ (by omega) (by omega) hd _ ?_ ?_).symm
  · rw [e0, g1, Nat.mul_comm]
  · rw [e1, g0]

/-- The result array after the run is the reference's, over finite queries, keys and decay. -/
theorem final (c : Dev nD) (hq : ∀ y, IsReal (m ((c : Thread nD τ).loc main_arg0) y)) (hk : ∀ y, IsReal (m ((c : Thread nD τ).loc main_arg1) y))
    (hf : ∀ y, IsReal (m ((c : Thread nD τ).loc main_arg3) y)) : (dats m 0 c).arrAt 5 cfg0.N
    = val_main_v38 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  exact point m c hq hk hf t y

/-- An extended real whose absolute value is below plus infinity is a real number. -/
theorem real_of_abs_lt (x : Ideal .f32)
    (h : FloatOps.cmpf CmpFPredicate.olt (FloatOps.hostAbsf x) (FloatOps.ofBits FTy.f32 0x7F800000#32) = 1#1) : IsReal x := by
  have h' : BitVec.ofBool (decide (max (x : EReal) (-(x : EReal)) < Ideal.ofBits FTy.f32 0x7F800000#32)) = 1#1 := h
  rw [ofBits_pos_inf] at h'
  have hl : max (x : EReal) (-(x : EReal)) < ⊤ := by
    by_contra hn
    rw [decide_eq_false hn] at h'
    exact absurd h' (by decide)
  obtain ⟨h1, h2⟩ := max_lt_iff.mp hl
  refine ⟨EReal.toReal x, (EReal.coe_toReal h1.ne ?_).symm⟩
  intro hb
  rw [hb, EReal.neg_bot] at h2
  exact lt_irrefl _ h2

/-- The precondition says every query, key and decay is a real number. -/
theorem finite_of_pre (q k v : FVec Ideal S16384x768 .f32) (f : FVec Ideal S12x16384 .f32) [Cert.Pre_fox_finite.Facts]
    (h : Cert.Pre_fox_finite.fn (F := Ideal) q k v f = fun _ => 1#1) :
    (∀ y, IsReal (q y)) ∧ (∀ y, IsReal (k y)) ∧ (∀ y, IsReal (f y)) := by
  have h' := congrFun h ix0
  unfold Cert.Pre_fox_finite.fn at h'
  obtain ⟨h12, h3⟩ := IntOp.andi_eq_one.1 h'
  obtain ⟨h1, h2⟩ := IntOp.andi_eq_one.1 h12
  haveI : Subsingleton Cert.Pre_fox_finite.S_.Idx := ⟨fun a b => funext fun z => z.elim0⟩
  exact ⟨fun y => real_of_abs_lt _ (Host.reduce_andi_all _ _ _ _ _ h1 y), fun y => real_of_abs_lt _ (Host.reduce_andi_all _ _ _ _ _ h2 y),
    fun y => real_of_abs_lt _ (Host.reduce_andi_all _ _ _ _ _ h3 y)⟩

end Cert.FoxKernelIdeal.FoxValue
-- ==== Proof.FoxClaims.lean ====
module

public import proofs.«01_k».proof.Defs
public import proofs.«01_k».proof.Proof.Gen.Pre_fox_finite
public import proofs.«01_k».proof.Proof.FoxKernelRun
public import proofs.«01_k».proof.Proof.FoxValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.FoxKernel.Gen.facts Cert.FoxKernelIdeal.Gen.facts Cert.FoxReferenceIdeal.Gen.facts Cert.Pre_fox_finite.Gen.facts

/-- The printed kernel runs, keeps its arguments and ends with every counter at zero. -/
theorem frame_FoxKernel : Cert.quiescent_FoxKernel := fun m g _ => Cert.FoxKernel.Hand.frame m g

/-- The idealized kernel runs, keeps its arguments and ends with every counter at zero. -/
theorem frame_FoxKernelIdeal : Cert.quiescent_FoxKernelIdeal := fun m g _ => Cert.FoxKernelIdeal.Hand.frame m g

/-- The reference runs, keeps its arguments and ends with every counter at zero. -/
theorem frame_FoxReferenceIdeal : Cert.quiescent_FoxReferenceIdeal := fun m g _ =>
  (θ_run Cert.FoxReferenceIdeal.defs _ _).mono (fun r h => ⟨fun c => (h c).2, sem_eq_zero_of_no_sems (by decide) r.2⟩)
    (Cert.FoxReferenceIdeal.Value.run (F := Ideal) m g)

/-- The same on the arguments the value claim is about. -/
theorem frame_FoxKernelIdeal_pre : Cert.quiescent_FoxKernelIdeal_pre_fox_finite := fun m g _ => frame_FoxKernelIdeal m g trivial

/-- The same on the arguments the value claim is about. -/
theorem frame_FoxReferenceIdeal_pre : Cert.quiescent_FoxReferenceIdeal_pre_fox_finite := fun m g _ => frame_FoxReferenceIdeal m g trivial

/-- The mask is minus infinity and the exponent below which a weight counts as none is plus infinity. -/
theorem preserves_Fox : Cert.preserves_FoxKernel_FoxKernelIdeal :=
  ⟨IdealRules.named_const.statement _ "mask" .f32 0xF149F2CA#32 ⊥ rfl, IdealRules.named_const.statement _ "underflow" .f32 0x42DC0000#32 ⊤ rfl⟩

/-- Over the reals the kernel and the reference end with the same result. -/
theorem algebraic_Fox : Cert.algebraic_FoxKernelIdeal_FoxReferenceIdeal_pre_fox_finite := by
  pair_intro
  · run_from Cert.FoxKernelIdeal.Hand.run_main m g
    exacts [Cert.FoxKernelIdeal.Gen.V_main_arg0 m c, Cert.FoxKernelIdeal.Gen.V_main_arg1 m c, Cert.FoxKernelIdeal.Gen.V_main_arg2 m c,
      Cert.FoxKernelIdeal.Gen.V_main_arg3 m c]
  · run_from Cert.FoxReferenceIdeal.Value.run m' g'
    obtain ⟨hq, hk, hf⟩ := Cert.FoxKernelIdeal.FoxValue.finite_of_pre _ _ _ _ (hpre c)
    obtain ⟨h0, h1, h2, h3⟩ := hagree c
    rw [Cert.FoxReferenceIdeal.Read.val_main_v38_eq, h0, h1, h2, h3]; exact (Cert.FoxKernelIdeal.FoxValue.final m c hq hk hf).symm

end Cert.Proof

end
-- ==== Proof.FfnValue.lean ====
module

public import proofs.«01_k».proof.Proof.Gen.FfnKernelIdeal.Value
public import proofs.«01_k».proof.Proof.Gen.FfnReferenceIdeal.Read
public import Idealize.ShloMosaic.Lib.Pipeline.ValueKit
public import Idealize.ShloMosaic.Lib.Pointwise

@[expose] public section

set_option maxRecDepth 16384

noncomputable section

namespace Cert.FfnKernelIdeal.FfnValue

open Idealize.ShloMosaic Idealize.ShloMosaic.TcCoe Idealize.SL.Sem
open Idealize.ShloMosaic.Pipeline (Dat)
open Cert.FfnKernelIdeal Cert.FfnKernelIdeal.Gen Cert.FfnReferenceIdeal.Read

variable (m : (ℓ : Loc nD τ sig) → Buf (Elt Ideal) ℓ)

/-- Which block each window stages at grid point `t`. -/
theorem idx : ∀ t : Fin cfg0.N, win0_0.index t = ![t.val, 0] ∧ win0_1.index t = ![0, 0] ∧ win0_2.index t = ![0, 0] ∧ win0_3.index t = ![0, 1] ∧ win0_4.index t = ![0, 0] ∧ win0_5.index t = ![0, 0] ∧ win0_6.index t = ![t.val, 0] :=
  (by decide +kernel : ∀ t : Fin grid0.N, _)

/-- What the body leaves at row `y` of block `t` is the reference's element at the row's place in the array. -/
theorem point (c : Dev nD) (t : Fin cfg0.N) (y) :
    outsAt0 m c t y = val_main_v21 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  unfold outsAt0
  frame_out

  pointwise [k0_pay1, k0_pay2, k0_pay3, k0_pay4, k0_pay5, val_main_v21, val_main_v20, val_main_v19, val_main_cst_2, val_main_v18, val_main_v17, val_main_v16, val_main_call0_v5, val_main_call0_v4, val_main_call0_cst_0, val_main_call0_v3, val_main_call0_v2, val_main_call0_cst, val_main_call0_v1, val_main_call0_v0, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

  simp only [Ideal.logistic]
  blk_point [iblk, V, idx t]

/-- The result array after the run is the reference's. -/
theorem final (c : Dev nD) : (dats m 0 c).arrAt 6 cfg0.N
    = val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point m c t y

end Cert.FfnKernelIdeal.FfnValue

end
-- ==== Proof.FfnClaims.lean ====
module

public import proofs.«01_k».proof.Defs
public import proofs.«01_k».proof.Proof.Gen.FfnKernel
public import proofs.«01_k».proof.Proof.Gen.FfnKernel.Frame
public import proofs.«01_k».proof.Proof.FfnValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.FfnKernel.Gen.facts Cert.FfnKernelIdeal.Gen.facts Cert.FfnReferenceIdeal.Gen.facts

/-- The printed kernel runs, keeps its arguments and ends with every counter at zero. -/
theorem frame_FfnKernel : Cert.quiescent_FfnKernel := fun m g _ => Cert.FfnKernel.Gen.frame m g

/-- The idealized kernel runs, keeps its arguments and ends with every counter at zero. -/
theorem frame_FfnKernelIdeal : Cert.quiescent_FfnKernelIdeal := fun m g _ => Cert.FfnKernelIdeal.Gen.frame m g

/-- The reference runs, keeps its arguments and ends with every counter at zero. -/
theorem frame_FfnReferenceIdeal : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run (F := Ideal) m g)

/-- Over the reals the kernel and the reference end with the same result. -/
theorem algebraic_Ffn : Cert.algebraic_FfnKernelIdeal_FfnReferenceIdeal := by
  pair_intro
  · run_from Cert.FfnKernelIdeal.Gen.run_main m g
  · run_from Cert.FfnReferenceIdeal.Value.run m' g'
    exact (Cert.FfnReferenceIdeal.Read.val_main_v21_eq _ _ _ _).trans (Cert.FfnKernelIdeal.FfnValue.final m c).symm

end Cert.Proof

end
-- ==== Proof.LastValue.lean ====
module

public import proofs.«01_k».proof.Proof.Gen.LastKernelIdeal.Value
public import proofs.«01_k».proof.Proof.Gen.LastReferenceIdeal.Read
public import Idealize.ShloMosaic.Lib.Pipeline.ValueKit
public import Idealize.ShloMosaic.Lib.Pointwise

@[expose] public section

set_option maxRecDepth 16384

noncomputable section

namespace Cert.LastKernelIdeal.FfnValue

open Idealize.ShloMosaic Idealize.ShloMosaic.TcCoe Idealize.SL.Sem
open Idealize.ShloMosaic.Pipeline (Dat)
open Cert.LastKernelIdeal Cert.LastKernelIdeal.Gen Cert.LastReferenceIdeal.Read

variable (m : (ℓ : Loc nD τ sig) → Buf (Elt Ideal) ℓ)

/-- Which block each window stages at grid point `t`. -/
theorem idx : ∀ t : Fin cfg0.N, win0_0.index t = ![t.val, 0] ∧ win0_1.index t = ![0, 0] ∧ win0_2.index t = ![0, 0] ∧ win0_3.index t = ![0, 1] ∧ win0_4.index t = ![0, 0] ∧ win0_5.index t = ![0, 0] ∧ win0_6.index t = ![t.val, 0] :=
  (by decide +kernel : ∀ t : Fin grid0.N, _)

/-- What the body leaves at row `y` of block `t` is the reference's element at the row's place in the array. -/
theorem point (c : Dev nD) (t : Fin cfg0.N) (y) :
    outsAt0 m c t y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  unfold outsAt0
  frame_out

  pointwise [k0_pay1, k0_pay2, k0_pay3, k0_pay4, k0_pay5, val_main_v34, val_main_v33, val_main_v32, val_main_v31, val_main_v30, val_main_v29, val_main_v28, val_main_v27, val_main_cst_5, val_main_v26, val_main_v25, val_main_cst_4, val_main_v24, val_main_v23, val_main_cst_3, val_main_v22, val_main_v21, val_main_v20, val_main_v19, val_main_cst_2, val_main_v18, val_main_v17, val_main_v16, val_main_call0_v5, val_main_call0_v4, val_main_call0_cst_0, val_main_call0_v3, val_main_call0_v2, val_main_call0_cst, val_main_call0_v1, val_main_call0_v0, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

  simp only [Ideal.logistic]
  blk_point [iblk, V, idx t]

/-- The result array after the run is the reference's. -/
theorem final (c : Dev nD) : (dats m 0 c).arrAt 6 cfg0.N
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.LastKernelIdeal.FfnValue

end
-- ==== Proof.LastClaims.lean ====
module

public import proofs.«01_k».proof.Defs
public import proofs.«01_k».proof.Proof.Gen.LastKernel
public import proofs.«01_k».proof.Proof.Gen.LastKernel.Frame
public import proofs.«01_k».proof.Proof.LastValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.LastKernel.Gen.facts Cert.LastKernelIdeal.Gen.facts Cert.LastReferenceIdeal.Gen.facts

/-- The printed kernel runs, keeps its arguments and ends with every counter at zero. -/
theorem frame_LastKernel : Cert.quiescent_LastKernel := fun m g _ => Cert.LastKernel.Gen.frame m g

/-- The idealized kernel runs, keeps its arguments and ends with every counter at zero. -/
theorem frame_LastKernelIdeal : Cert.quiescent_LastKernelIdeal := fun m g _ => Cert.LastKernelIdeal.Gen.frame m g

/-- The reference runs, keeps its arguments and ends with every counter at zero. -/
theorem frame_LastReferenceIdeal : Cert.quiescent_LastReferenceIdeal := fun m g _ =>
  (θ_run Cert.LastReferenceIdeal.defs _ _).mono (fun r h => ⟨fun c => (h c).2, sem_eq_zero_of_no_sems (by decide) r.2⟩)
    (Cert.LastReferenceIdeal.Value.run (F := Ideal) m g)

/-- Over the reals the kernel and the reference end with the same result. -/
theorem algebraic_Last : Cert.algebraic_LastKernelIdeal_LastReferenceIdeal := by
  pair_intro
  · run_from Cert.LastKernelIdeal.Gen.run_main m g
  · run_from Cert.LastReferenceIdeal.Value.run m' g'
    obtain ⟨h0, h1, h2, h3, h4⟩ := hagree c; rw [Cert.LastReferenceIdeal.Read.val_main_v34_eq, h0, h1, h2, h3, h4]; exact (Cert.LastKernelIdeal.FfnValue.final m c).symm

end Cert.Proof

end
-- ==== Proof.FoxProjValue.lean ====
module

public import proofs.«01_k».proof.Proof.Gen.FoxProjKernelIdeal.Frame
public import proofs.«01_k».proof.Proof.Gen.FoxProjReferenceIdeal.Read
public import Idealize.ShloMosaic.Lib.Pipeline.ValueKit
public import Idealize.ShloMosaic.Lib.Pointwise

@[expose] public section

set_option maxRecDepth 16384

noncomputable section

namespace Cert.FoxProjKernelIdeal.FoxProjValue

open Idealize.ShloMosaic Idealize.ShloMosaic.TcCoe Idealize.SL.Sem
open Idealize.ShloMosaic.Pipeline (Dat)
open Cert.FoxProjKernelIdeal Cert.FoxProjKernelIdeal.Gen Cert.FoxProjReferenceIdeal.Read

/-- The normalised row's element. -/
def hn (x0 : FVec Ideal S512x1024 .f32) (x1 : FVec Ideal S1x1024 .f32) (r : Fin 512) (k : Fin 1024) : EReal := k0_pay2 (F := Ideal) x0 x1 (ix2 r k)

/-- The block of the queries is the product with its columns of the weights. -/
theorem out3_at (x0 : FVec Ideal S512x1024 .f32) (x1 : FVec Ideal S1x1024 .f32) (x2 : FVec Ideal S1024x5248 .bf16) (y : S512x1536.Idx) :
    out0_3 (F := Ideal) x0 x1 x2 y = ∑ k, hn x0 x1 (y 0) k * x2 (ix2 k ⟨0 + (y 1).val, by have : (y 1).val < 1536 := (y 1).isLt; omega⟩) := by
  unfold out0_3
  canon_tiles y h
  all_goals
    pointwise [hn, k0_pay3, k0_pay4, k0_pay5, k0_pay6, k0_pay7, k0_pay8, k0_pay23, k0_pay2]
    blk_point []

/-- The block of the keys is the product with its columns of the weights. -/
theorem out4_at (x0 : FVec Ideal S512x1024 .f32) (x1 : FVec Ideal S1x1024 .f32) (x2 : FVec Ideal S1024x5248 .bf16) (y : S512x1536.Idx) :
    out0_4 (F := Ideal) x0 x1 x2 y = ∑ k, hn x0 x1 (y 0) k * x2 (ix2 k ⟨1536 + (y 1).val, by have : (y 1).val < 1536 := (y 1).isLt; omega⟩) := by
  unfold out0_4
  canon_tiles y h
  all_goals
    pointwise [hn, k0_pay9, k0_pay10, k0_pay11, k0_pay12, k0_pay13, k0_pay14, k0_pay23, k0_pay2]
    blk_point []

/-- The block of the values is the product with its columns of the weights. -/
theorem out5_at (x0 : FVec Ideal S512x1024 .f32) (x1 : FVec Ideal S1x1024 .f32) (x2 : FVec Ideal S1024x5248 .bf16) (y : S512x1536.Idx) :
    out0_5 (F := Ideal) x0 x1 x2 y = ∑ k, hn x0 x1 (y 0) k * x2 (ix2 k ⟨3072 + (y 1).val, by have : (y 1).val < 1536 := (y 1).isLt; omega⟩) := by
  unfold out0_5
  canon_tiles y h
  all_goals
    pointwise [hn, k0_pay15, k0_pay16, k0_pay17, k0_pay18, k0_pay19, k0_pay20, k0_pay23, k0_pay2]
    blk_point []

/-- The block of the memory's queries is the product with its columns of the weights. -/
theorem out6_at (x0 : FVec Ideal S512x1024 .f32) (x1 : FVec Ideal S1x1024 .f32) (x2 : FVec Ideal S1024x5248 .bf16) (y : S512x512.Idx) :
    out0_6 (F := Ideal) x0 x1 x2 y = ∑ k, hn x0 x1 (y 0) k * x2 (ix2 k ⟨4608 + (y 1).val, by have : (y 1).val < 512 := (y 1).isLt; omega⟩) := by
  unfold out0_6
  canon_tiles y h
  all_goals
    pointwise [hn, k0_pay21, k0_pay22, k0_pay23, k0_pay2]
    blk_point []

/-- The block of the gate is the product with its columns of the weights. -/
theorem out7_at (x0 : FVec Ideal S512x1024 .f32) (x1 : FVec Ideal S1x1024 .f32) (x2 : FVec Ideal S1024x5248 .bf16) (y : S512x128.Idx) :
    out0_7 (F := Ideal) x0 x1 x2 y = ∑ k, hn x0 x1 (y 0) k * x2 (ix2 k ⟨5120 + (y 1).val, by have : (y 1).val < 128 := (y 1).isLt; omega⟩) := by
  unfold out0_7
  canon_tiles y h
  all_goals
    pointwise [hn, k0_pay1, k0_pay23, k0_pay2]
    blk_point []

variable (m : (ℓ : Loc nD τ sig) → Buf (Elt Ideal) ℓ)

/-- The integer zero the host pads with. -/
theorem pad_zero : (FloatOps.sitofp FTy.f32 (0#32) : Ideal .f32) = (0 : EReal) := by
  show (((0#32 : BitVec 32).toInt : ℝ) : EReal) = 0
  simp

/-- A projection's weights as the host lays them out: each head's 64 columns in 128, the rest zero. -/
def heads12 (x : FVec Ideal S1024x768 .f32) : FVec Ideal S1024x1536 .f32 :=
  shapeCast S1024x1536 (pad S1024x12x128 ![0, 0, 0] ![0, 0, 64] ![0, 0, 0] (shapeCast S1024x12x64 x shapeCasts_S1024x768_S1024x12x64)
    (sitofp .f32 (constantI S_ 32 0#32)) pads_S1024x12x64_S1024x12x128_000_000_0640 h_S_) shapeCasts_S1024x12x128_S1024x1536

/-- The same for the memory's four heads. -/
def heads4 (x : FVec Ideal S1024x256 .f32) : FVec Ideal S1024x512 .f32 :=
  shapeCast S1024x512 (pad S1024x4x128 ![0, 0, 0] ![0, 0, 64] ![0, 0, 0] (shapeCast S1024x4x64 x shapeCasts_S1024x256_S1024x4x64)
    (sitofp .f32 (constantI S_ 32 0#32)) pads_S1024x4x64_S1024x4x128_000_000_0640 h_S_) shapeCasts_S1024x4x128_S1024x512

/-- The gate's 12 columns in 128. -/
def cols12 (x : FVec Ideal S1024x12 .f32) : FVec Ideal S1024x128 .f32 :=
  pad S1024x128 ![0, 0] ![0, 116] ![0, 0] x (sitofp .f32 (constantI S_ 32 0#32)) pads_S1024x12_S1024x128_000_01160 h_S_

/-- The weights the call reads. -/
def wp (w : FVec Ideal S1024x2572 .f32) : FVec Ideal S1024x5248 .bf16 :=
  truncf .bf16 (concatenate S1024x5248 1 [⟨S1024x1536, heads12 (extractStridedSlice S1024x768 ![0, 0] w slices_S1024x2572_S1024x768_0_0)⟩,
    ⟨S1024x1536, heads12 (extractStridedSlice S1024x768 ![0, 768] w slices_S1024x2572_S1024x768_0_768)⟩,
    ⟨S1024x1536, heads12 (extractStridedSlice S1024x768 ![0, 1536] w slices_S1024x2572_S1024x768_0_1536)⟩,
    ⟨S1024x512, heads4 (extractStridedSlice S1024x256 ![0, 2316] w slices_S1024x2572_S1024x256_0_2316)⟩,
    ⟨S1024x128, cols12 (extractStridedSlice S1024x12 ![0, 2304] w slices_S1024x2572_S1024x12_0_2304)⟩]
    concatenates_S1024x1536_S1024x1536_S1024x1536_S1024x512_S1024x128_S1024x5248_d1) bitsLt_bf16_f32

/-- The contents before the host's last operations. -/
abbrev W (c : Dev nD) : Valuation τ sig (Elt Ideal) :=
  StableHlo.after (hostOps0 ++ hostOps0_1 ++ hostOps0_2 ++ hostOps0_3 ++ hostOps0_4 ++ hostOps0_5 ++ hostOps0_6 ++ hostOps0_7 ++ hostOps0_8 ++ hostOps0_9) (fun b => m (c, b))

/-- The host's last operations put the five pieces side by side. -/
theorem last (M : Valuation τ sig (Elt Ideal)) :
    StableHlo.after (hostOps0_10 (F := Ideal)) M (Proc.devRef .tc main_v19)
    = (truncf .bf16 (concatenate S1024x5248 1 [⟨S1024x1536, (M (Proc.devRef .tc main_v7) : FVec Ideal S1024x1536 .f32)⟩,
    ⟨S1024x1536, (M (Proc.devRef .tc main_v10) : FVec Ideal S1024x1536 .f32)⟩,
    ⟨S1024x1536, (M (Proc.devRef .tc main_v13) : FVec Ideal S1024x1536 .f32)⟩,
    ⟨S1024x512, (M (Proc.devRef .tc main_v16) : FVec Ideal S1024x512 .f32)⟩,
    ⟨S1024x128, (M (Proc.devRef .tc main_v17) : FVec Ideal S1024x128 .f32)⟩]
    concatenates_S1024x1536_S1024x1536_S1024x1536_S1024x512_S1024x128_S1024x5248_d1) bitsLt_bf16_f32 : FVec Ideal S1024x5248 .bf16) := by
  after_results
  rfl

/-- The queries' columns as the host pads them. -/
theorem W_q (c : Dev nD) : W m c (Proc.devRef .tc main_v7) = heads12 (extractStridedSlice S1024x768 ![0, 0] (m ((c : Thread nD τ).loc main_arg2)) slices_S1024x2572_S1024x768_0_0) := by
  simp only [W, List.cons_append, List.nil_append]
  entry_read
  rfl

/-- The keys' columns as the host pads them. -/
theorem W_k (c : Dev nD) : W m c (Proc.devRef .tc main_v10) = heads12 (extractStridedSlice S1024x768 ![0, 768] (m ((c : Thread nD τ).loc main_arg2)) slices_S1024x2572_S1024x768_0_768) := by
  simp only [W, List.cons_append, List.nil_append]
  entry_read
  rfl

/-- The values' columns as the host pads them. -/
theorem W_v (c : Dev nD) : W m c (Proc.devRef .tc main_v13) = heads12 (extractStridedSlice S1024x768 ![0, 1536] (m ((c : Thread nD τ).loc main_arg2)) slices_S1024x2572_S1024x768_0_1536) := by
  simp only [W, List.cons_append, List.nil_append]
  entry_read
  rfl

/-- The memory's queries' columns as the host pads them. -/
theorem W_x (c : Dev nD) : W m c (Proc.devRef .tc main_v16) = heads4 (extractStridedSlice S1024x256 ![0, 2316] (m ((c : Thread nD τ).loc main_arg2)) slices_S1024x2572_S1024x256_0_2316) := by
  simp only [W, List.cons_append, List.nil_append]
  entry_read
  rfl

/-- The gate's columns as the host pads them. -/
theorem W_f (c : Dev nD) : W m c (Proc.devRef .tc main_v17) = cols12 (extractStridedSlice S1024x12 ![0, 2304] (m ((c : Thread nD τ).loc main_arg2)) slices_S1024x2572_S1024x12_0_2304) := by
  simp only [W, List.cons_append, List.nil_append]
  entry_read
  rfl

/-- The call finds the padded weights in its third operand. -/
theorem V_main_v19 (c : Dev nD) : V m c main_v19 = wp (m ((c : Thread nD τ).loc main_arg2)) := by
  have h : V m c main_v19 = StableHlo.after hostOps0_10 (W m c) (Proc.devRef .tc main_v19) := rfl
  rw [h, last, W_q, W_k, W_v, W_x, W_f]
  rfl

/-- The call finds the gain in its second operand. -/
theorem V_main_v20 (c : Dev nD) : V m c main_v20 = shapeCast S1x1024 (m ((c : Thread nD τ).loc main_arg1) : FVec Ideal S1024 .f32) shapeCasts_S1024_S1x1024 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl

/-- Padded heads at an index. -/
theorem heads12_at (x : FVec Ideal S1024x768 .f32) (k : Fin 1024) (z : Fin 1536) :
    heads12 x (ix2 k z) = if h : z.val % 128 < 64 then x (ix2 k ⟨z.val / 128 * 64 + z.val % 128, by omega⟩) else 0 := by
  pointwise [heads12]
  rw [pad_zero]
  have hd : z.val / 128 < 12 := by omega
  by_cases h : z.val % 128 < 64
  · rw [dif_pos h, dif_pos ⟨hd, h⟩]
  · have hn : ¬(z.val / 128 < 12 ∧ z.val % 128 < 64) := fun h' => h h'.2
    rw [dif_neg hn, dif_neg h]

/-- Padded memory heads at an index. -/
theorem heads4_at (x : FVec Ideal S1024x256 .f32) (k : Fin 1024) (z : Fin 512) :
    heads4 x (ix2 k z) = if h : z.val % 128 < 64 then x (ix2 k ⟨z.val / 128 * 64 + z.val % 128, by omega⟩) else 0 := by
  pointwise [heads4]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- The padded gate at an index. -/
theorem cols12_at (x : FVec Ideal S1024x12 .f32) (k : Fin 1024) (z : Fin 128) :
    cols12 x (ix2 k z) = if h : z.val < 12 then x (ix2 k ⟨z.val, h⟩) else 0 := by
  pointwise [cols12]
  rw [pad_zero]

/-- The weights' query columns, -/
theorem wp_q (w : FVec Ideal S1024x2572 .f32) (k : Fin 1024) (z : Fin 1536) : wp w (ix2 k ⟨0 + z.val, by omega⟩)
    = if h : z.val % 128 < 64 then w (ix2 k ⟨0 + (z.val / 128 * 64 + z.val % 128), by omega⟩) else 0 := by
  pointwise [wp, heads12_at]

/-- key columns, -/
theorem wp_k (w : FVec Ideal S1024x2572 .f32) (k : Fin 1024) (z : Fin 1536) : wp w (ix2 k ⟨1536 + z.val, by omega⟩)
    = if h : z.val % 128 < 64 then w (ix2 k ⟨768 + (z.val / 128 * 64 + z.val % 128), by omega⟩) else 0 := by
  pointwise [wp, heads12_at]

/-- value columns, -/
theorem wp_v (w : FVec Ideal S1024x2572 .f32) (k : Fin 1024) (z : Fin 1536) : wp w (ix2 k ⟨3072 + z.val, by omega⟩)
    = if h : z.val % 128 < 64 then w (ix2 k ⟨1536 + (z.val / 128 * 64 + z.val % 128), by omega⟩) else 0 := by
  pointwise [wp]
  have h0 : ¬(3072 + z.val < 1536) := by omega
  have h1 : ¬(3072 + z.val - 1536 < 1536) := by omega
  have hl : 3072 + z.val - 1536 - 1536 < 1536 := by omega
  rw [dif_neg h0, dif_neg h1, dif_pos hl, heads12_at]
  have e : 3072 + z.val - 1536 - 1536 = z.val := by omega
  pointwise [e]

/-- memory query columns -/
theorem wp_x (w : FVec Ideal S1024x2572 .f32) (k : Fin 1024) (z : Fin 512) : wp w (ix2 k ⟨4608 + z.val, by omega⟩)
    = if h : z.val % 128 < 64 then w (ix2 k ⟨2316 + (z.val / 128 * 64 + z.val % 128), by omega⟩) else 0 := by
  pointwise [wp]
  have h0 : ¬(4608 + z.val < 1536) := by omega
  have h1 : ¬(4608 + z.val - 1536 < 1536) := by omega
  have h2 : ¬(4608 + z.val - 1536 - 1536 < 1536) := by omega
  have hl : 4608 + z.val - 1536 - 1536 - 1536 < 512 := by omega
  rw [dif_neg h0, dif_neg h1, dif_neg h2, dif_pos hl, heads4_at]
  have e : 4608 + z.val - 1536 - 1536 - 1536 = z.val := by omega
  pointwise [e]

/-- and gate columns. -/
theorem wp_f (w : FVec Ideal S1024x2572 .f32) (k : Fin 1024) (z : Fin 128) : wp w (ix2 k ⟨5120 + z.val, by omega⟩)
    = if h : z.val < 12 then w (ix2 k ⟨2304 + z.val, by omega⟩) else 0 := by
  pointwise [wp]
  have h0 : ¬(5120 + z.val < 1536) := by omega
  have h1 : ¬(5120 + z.val - 1536 < 1536) := by omega
  have h2 : ¬(5120 + z.val - 1536 - 1536 < 1536) := by omega
  have h3 : ¬(5120 + z.val - 1536 - 1536 - 1536 < 512) := by omega
  rw [dif_neg h0, dif_neg h1, dif_neg h2, dif_neg h3, cols12_at]
  have e : 5120 + z.val - 1536 - 1536 - 1536 - 512 = z.val := by omega
  pointwise [e]

/-- Which block each window stages at grid point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The whole weights are staged. -/
theorem blk2 (c : Dev nD) (t : Fin cfg0.N) : iblk m c 2 t = wp (m ((c : Thread nD τ).loc main_arg2)) := by
  rw [← V_main_v19]
  blk_ext! [iblk, idx t]

/-- The whole gain is staged. -/
theorem blk1 (c : Dev nD) (t : Fin cfg0.N) (k : Fin 1024) : iblk m c 1 t (ix2 0 k) = (m ((c : Thread nD τ).loc main_arg1) : FVec Ideal S1024 .f32) (ix1 k) := by
  have h : iblk m c 1 t = V m c main_v20 := by blk_ext! [iblk, idx t]
  rw [h, V_main_v20]
  pointwise

/-- The normalised row of a block is the reference's. -/
theorem hn_at (c : Dev nD) (t : Fin cfg0.N) (r : Fin 512) (k : Fin 1024) : hn (iblk m c 0 t) (iblk m c 1 t) r k
    = val_main_v12 (F := Ideal) (m ((c : Thread nD τ).loc main_arg0)) (m ((c : Thread nD τ).loc main_arg1)) (ix2 ⟨t.val * 512 + r.val, by have : t.val < 32 := t.isLt; omega⟩ k) := by
  pointwise [hn, k0_pay2, val_main_v12, val_main_v11, val_main_v10, val_main_v9, val_main_v8, val_main_v7, val_main_v6, val_main_v5, val_main_cst_1, val_main_v4, val_main_v3, val_main_cst_0, val_main_v2, val_main_v1, val_main_cst, val_main_v0]
  simp only [blk1]
  blk_point [iblk, V, idx t]

/-- The product at a row and a column is the reference's. -/
theorem dot_at (c : Dev nD) (t : Fin cfg0.N) (r : Fin 512) (j : Fin 2572) :
    ∑ k, hn (iblk m c 0 t) (iblk m c 1 t) r k * (m ((c : Thread nD τ).loc main_arg2) : FVec Ideal S1024x2572 .f32) (ix2 k j)
    = val_main_v13 (F := Ideal) (m ((c : Thread nD τ).loc main_arg0)) (m ((c : Thread nD τ).loc main_arg1)) (m ((c : Thread nD τ).loc main_arg2)) (ix2 ⟨t.val * 512 + r.val, by have : t.val < 32 := t.isLt; omega⟩ j) := by
  pointwise [val_main_v13]
  exact Finset.sum_congr rfl fun k _ => by rw [hn_at]

/-- The reference's queries at a row and a column. -/
theorem ref_q (x0 : FVec Ideal S16384x1024 .f32) (x1 : FVec Ideal S1024 .f32) (x2 : FVec Ideal S1024x2572 .f32) (T : Fin 16384) (z : Fin 1536) :
    val_main_v22 (F := Ideal) x0 x1 x2 (ix2 T z) = if h : z.val % 128 < 64 then val_main_v13 (F := Ideal) x0 x1 x2 (ix2 T ⟨0 + (z.val / 128 * 64 + z.val % 128), by omega⟩) else 0 := by
  pointwise [val_main_v22, val_main_v21, val_main_v20, val_main_call0_v0, val_main_c, val_main_v19, val_main_v14]
  rw [pad_zero]
  have hd : z.val / 128 < 12 := by omega
  by_cases h : z.val % 128 < 64
  · rw [dif_pos h, dif_pos ⟨hd, h⟩]
  · have hn : ¬(z.val / 128 < 12 ∧ z.val % 128 < 64) := fun h' => h h'.2
    rw [dif_neg hn, dif_neg h]

/-- What the body leaves of the queries at `y` of block `t` is the reference's element at its place in the array. -/
theorem point_q (c : Dev nD) (t : Fin cfg0.N) (y : S512x1536.Idx) : out0_3 (iblk m c 0 t) (iblk m c 1 t) (iblk m c 2 t) y
    = val_main_v22 (F := Ideal) (m ((c : Thread nD τ).loc main_arg0)) (m ((c : Thread nD τ).loc main_arg1)) (m ((c : Thread nD τ).loc main_arg2)) (((cfg0.win 3).blk t).view.emb y) := by
  have hr : (y 0).val < 512 := (y 0).isLt
  have hy : (y 1).val < 1536 := (y 1).isLt
  have ht : t.val < 32 := t.isLt
  have e : (((cfg0.win 3).blk t).view.emb y : S16384x1536.Idx) = ix2 ⟨t.val * 512 + (y 0).val, by omega⟩ ⟨(y 1).val, hy⟩ := by
    blk_ext [idx t]
  refine Eq.trans ?_ (congrArg (val_main_v22 (F := Ideal) (m ((c : Thread nD τ).loc main_arg0)) (m ((c : Thread nD τ).loc main_arg1)) (m ((c : Thread nD τ).loc main_arg2))) e).symm
  rw [ref_q, out3_at, blk2]
  refine (Finset.sum_congr rfl fun k _ => congrArg (hn (iblk m c 0 t) (iblk m c 1 t) (y 0) k * ·) (wp_q (m ((c : Thread nD τ).loc main_arg2)) k ⟨(y 1).val, hy⟩)).trans ?_
  split
  · exact dot_at m c t (y 0) _
  · simp only [mul_zero, Finset.sum_const_zero]

/-- The array of the queries after the run is the reference's. -/
theorem final_q (c : Dev nD) : (dats m 0 c).arrAt 3 cfg0.N = val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point_q m c t y

/-- The reference's keys at a row and a column. -/
theorem ref_k (x0 : FVec Ideal S16384x1024 .f32) (x1 : FVec Ideal S1024 .f32) (x2 : FVec Ideal S1024x2572 .f32) (T : Fin 16384) (z : Fin 1536) :
    val_main_v26 (F := Ideal) x0 x1 x2 (ix2 T z) = if h : z.val % 128 < 64 then val_main_v13 (F := Ideal) x0 x1 x2 (ix2 T ⟨768 + (z.val / 128 * 64 + z.val % 128), by omega⟩) else 0 := by
  pointwise [val_main_v26, val_main_v25, val_main_v24, val_main_call1_v0, val_main_c_2, val_main_v23, val_main_v15]
  rw [pad_zero]
  have hd : z.val / 128 < 12 := by omega
  by_cases h : z.val % 128 < 64
  · rw [dif_pos h, dif_pos ⟨hd, h⟩]
  · have hn : ¬(z.val / 128 < 12 ∧ z.val % 128 < 64) := fun h' => h h'.2
    rw [dif_neg hn, dif_neg h]

/-- What the body leaves of the keys at `y` of block `t` is the reference's element at its place in the array. -/
theorem point_k (c : Dev nD) (t : Fin cfg0.N) (y : S512x1536.Idx) : out0_4 (iblk m c 0 t) (iblk m c 1 t) (iblk m c 2 t) y
    = val_main_v26 (F := Ideal) (m ((c : Thread nD τ).loc main_arg0)) (m ((c : Thread nD τ).loc main_arg1)) (m ((c : Thread nD τ).loc main_arg2)) (((cfg0.win 4).blk t).view.emb y) := by
  have hr : (y 0).val < 512 := (y 0).isLt
  have hy : (y 1).val < 1536 := (y 1).isLt
  have ht : t.val < 32 := t.isLt
  have e : (((cfg0.win 4).blk t).view.emb y : S16384x1536.Idx) = ix2 ⟨t.val * 512 + (y 0).val, by omega⟩ ⟨(y 1).val, hy⟩ := by
    blk_ext [idx t]
  refine Eq.trans ?_ (congrArg (val_main_v26 (F := Ideal) (m ((c : Thread nD τ).loc main_arg0)) (m ((c : Thread nD τ).loc main_arg1)) (m ((c : Thread nD τ).loc main_arg2))) e).symm
  rw [ref_k, out4_at, blk2]
  refine (Finset.sum_congr rfl fun k _ => congrArg (hn (iblk m c 0 t) (iblk m c 1 t) (y 0) k * ·) (wp_k (m ((c : Thread nD τ).loc main_arg2)) k ⟨(y 1).val, hy⟩)).trans ?_
  split
  · exact dot_at m c t (y 0) _
  · simp only [mul_zero, Finset.sum_const_zero]

/-- The array of the keys after the run is the reference's. -/
theorem final_k (c : Dev nD) : (dats m 0 c).arrAt 4 cfg0.N = val_main_v26 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point_k m c t y

/-- The reference's values at a row and a column. -/
theorem ref_v (x0 : FVec Ideal S16384x1024 .f32) (x1 : FVec Ideal S1024 .f32) (x2 : FVec Ideal S1024x2572 .f32) (T : Fin 16384) (z : Fin 1536) :
    val_main_v30 (F := Ideal) x0 x1 x2 (ix2 T z) = if h : z.val % 128 < 64 then val_main_v13 (F := Ideal) x0 x1 x2 (ix2 T ⟨1536 + (z.val / 128 * 64 + z.val % 128), by omega⟩) else 0 := by
  pointwise [val_main_v30, val_main_v29, val_main_v28, val_main_call2_v0, val_main_c_3, val_main_v27, val_main_v16]
  rw [pad_zero]
  have hd : z.val / 128 < 12 := by omega
  by_cases h : z.val % 128 < 64
  · rw [dif_pos h, dif_pos ⟨hd, h⟩]
  · have hn : ¬(z.val / 128 < 12 ∧ z.val % 128 < 64) := fun h' => h h'.2
    rw [dif_neg hn, dif_neg h]

/-- What the body leaves of the values at `y` of block `t` is the reference's element at its place in the array. -/
theorem point_v (c : Dev nD) (t : Fin cfg0.N) (y : S512x1536.Idx) : out0_5 (iblk m c 0 t) (iblk m c 1 t) (iblk m c 2 t) y
    = val_main_v30 (F := Ideal) (m ((c : Thread nD τ).loc main_arg0)) (m ((c : Thread nD τ).loc main_arg1)) (m ((c : Thread nD τ).loc main_arg2)) (((cfg0.win 5).blk t).view.emb y) := by
  have hr : (y 0).val < 512 := (y 0).isLt
  have hy : (y 1).val < 1536 := (y 1).isLt
  have ht : t.val < 32 := t.isLt
  have e : (((cfg0.win 5).blk t).view.emb y : S16384x1536.Idx) = ix2 ⟨t.val * 512 + (y 0).val, by omega⟩ ⟨(y 1).val, hy⟩ := by
    blk_ext [idx t]
  refine Eq.trans ?_ (congrArg (val_main_v30 (F := Ideal) (m ((c : Thread nD τ).loc main_arg0)) (m ((c : Thread nD τ).loc main_arg1)) (m ((c : Thread nD τ).loc main_arg2))) e).symm
  rw [ref_v, out5_at, blk2]
  refine (Finset.sum_congr rfl fun k _ => congrArg (hn (iblk m c 0 t) (iblk m c 1 t) (y 0) k * ·) (wp_v (m ((c : Thread nD τ).loc main_arg2)) k ⟨(y 1).val, hy⟩)).trans ?_
  split
  · exact dot_at m c t (y 0) _
  · simp only [mul_zero, Finset.sum_const_zero]

/-- The array of the values after the run is the reference's. -/
theorem final_v (c : Dev nD) : (dats m 0 c).arrAt 5 cfg0.N = val_main_v30 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point_v m c t y

/-- The reference's memory's queries at a row and a column. -/
theorem ref_x (x0 : FVec Ideal S16384x1024 .f32) (x1 : FVec Ideal S1024 .f32) (x2 : FVec Ideal S1024x2572 .f32) (T : Fin 16384) (z : Fin 512) :
    val_main_v34 (F := Ideal) x0 x1 x2 (ix2 T z) = if h : z.val % 128 < 64 then val_main_v13 (F := Ideal) x0 x1 x2 (ix2 T ⟨2316 + (z.val / 128 * 64 + z.val % 128), by omega⟩) else 0 := by
  pointwise [val_main_v34, val_main_v33, val_main_v32, val_main_call3_v0, val_main_c_4, val_main_v31, val_main_v18]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- What the body leaves of the memory's queries at `y` of block `t` is the reference's element at its place in the array. -/
theorem point_x (c : Dev nD) (t : Fin cfg0.N) (y : S512x512.Idx) : out0_6 (iblk m c 0 t) (iblk m c 1 t) (iblk m c 2 t) y
    = val_main_v34 (F := Ideal) (m ((c : Thread nD τ).loc main_arg0)) (m ((c : Thread nD τ).loc main_arg1)) (m ((c : Thread nD τ).loc main_arg2)) (((cfg0.win 6).blk t).view.emb y) := by
  have hr : (y 0).val < 512 := (y 0).isLt
  have hy : (y 1).val < 512 := (y 1).isLt
  have ht : t.val < 32 := t.isLt
  have e : (((cfg0.win 6).blk t).view.emb y : S16384x512.Idx) = ix2 ⟨t.val * 512 + (y 0).val, by omega⟩ ⟨(y 1).val, hy⟩ := by
    blk_ext [idx t]
  refine Eq.trans ?_ (congrArg (val_main_v34 (F := Ideal) (m ((c : Thread nD τ).loc main_arg0)) (m ((c : Thread nD τ).loc main_arg1)) (m ((c : Thread nD τ).loc main_arg2))) e).symm
  rw [ref_x, out6_at, blk2]
  refine (Finset.sum_congr rfl fun k _ => congrArg (hn (iblk m c 0 t) (iblk m c 1 t) (y 0) k * ·) (wp_x (m ((c : Thread nD τ).loc main_arg2)) k ⟨(y 1).val, hy⟩)).trans ?_
  split
  · exact dot_at m c t (y 0) _
  · simp only [mul_zero, Finset.sum_const_zero]

/-- The array of the memory's queries after the run is the reference's. -/
theorem final_x (c : Dev nD) : (dats m 0 c).arrAt 6 cfg0.N = val_main_v34 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact point_x m c t y

/-- The reference's gate at a row and a column. -/
theorem ref_f (x0 : FVec Ideal S16384x1024 .f32) (x1 : FVec Ideal S1024 .f32) (x2 : FVec Ideal S1024x2572 .f32) (T : Fin 16384) (z : Fin 128) :
    val_main_v35 (F := Ideal) x0 x1 x2 (ix2 T z) = if h : z.val < 12 then val_main_v13 (F := Ideal) x0 x1 x2 (ix2 T ⟨2304 + z.val, by omega⟩) else 0 := by
  pointwise [val_main_v35, val_main_call4_v0, val_main_c_5, val_main_v17]
  rw [pad_zero]

/-- What the body leaves of the gate at `y` of block `t` is the reference's element at its place in the array. -/
theorem point_f (c : Dev nD) (t : Fin cfg0.N) (y : S512x128.Idx) : out0_7 (iblk m c 0 t) (iblk m c 1 t) (iblk m c 2 t) y
    = val_main_v35 (F := Ideal) (m ((c : Thread nD τ).loc main_arg0)) (m ((c : Thread nD τ).loc main_arg1)) (m ((c : Thread nD τ).loc main_arg2)) (((cfg0.win 7).blk t).view.emb y) := by
  have hr : (y 0).val < 512 := (y 0).isLt
  have hy : (y 1).val < 128 := (y 1).isLt
  have ht : t.val < 32 := t.isLt
  have e : (((cfg0.win 7).blk t).view.emb y : S16384x128.Idx) = ix2 ⟨t.val * 512 + (y 0).val, by omega⟩ ⟨(y 1).val, hy⟩ := by
    blk_ext [idx t]
  refine Eq.trans ?_ (congrArg (val_main_v35 (F := Ideal) (m ((c : Thread nD τ).loc main_arg0)) (m ((c : Thread nD τ).loc main_arg1)) (m ((c : Thread nD τ).loc main_arg2))) e).symm
  rw [ref_f, out7_at, blk2]
  refine (Finset.sum_congr rfl fun k _ => congrArg (hn (iblk m c 0 t) (iblk m c 1 t) (y 0) k * ·) (wp_f (m ((c : Thread nD τ).loc main_arg2)) k ⟨(y 1).val, hy⟩)).trans ?_
  split
  · exact dot_at m c t (y 0) _
  · simp only [mul_zero, Finset.sum_const_zero]

/-- The array of the gate after the run is the reference's. -/
theorem final_f (c : Dev nD) : (dats m 0 c).arrAt 7 cfg0.N = val_main_v35 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point_f m c t y

end Cert.FoxProjKernelIdeal.FoxProjValue

end
-- ==== Proof.FoxProjClaims.lean ====
module

public import proofs.«01_k».proof.Defs
public import proofs.«01_k».proof.Proof.Gen.FoxProjKernel
public import proofs.«01_k».proof.Proof.Gen.FoxProjKernel.Frame
public import proofs.«01_k».proof.Proof.FoxProjValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.FoxProjKernel.Gen.facts Cert.FoxProjKernelIdeal.Gen.facts Cert.FoxProjReferenceIdeal.Gen.facts

/-- The printed kernel runs, keeps its arguments and ends with every counter at zero. -/
theorem frame_FoxProjKernel : Cert.quiescent_FoxProjKernel := fun m g _ => Cert.FoxProjKernel.Gen.frame m g

/-- The idealized kernel runs, keeps its arguments and ends with every counter at zero. -/
theorem frame_FoxProjKernelIdeal : Cert.quiescent_FoxProjKernelIdeal := fun m g _ => Cert.FoxProjKernelIdeal.Gen.frame m g

/-- The reference runs, keeps its arguments and ends with every counter at zero. -/
theorem frame_FoxProjReferenceIdeal : Cert.quiescent_FoxProjReferenceIdeal := fun m g _ =>
  (θ_run Cert.FoxProjReferenceIdeal.defs _ _).mono (fun r h => ⟨fun c => (h c).2.2.2.2.2, sem_eq_zero_of_no_sems (by decide) r.2⟩)
    (Cert.FoxProjReferenceIdeal.Value.run (F := Ideal) m g)

set_option maxHeartbeats 2000000 in
/-- Over the reals the kernel and the reference end with the same result. -/
theorem algebraic_FoxProj : Cert.algebraic_FoxProjKernelIdeal_FoxProjReferenceIdeal := by
  pair_intro
  · run_from Cert.FoxProjKernelIdeal.Gen.run_main m g
    exact Cert.FoxProjKernelIdeal.Gen.V_main_arg1 m c
    exact Cert.FoxProjKernelIdeal.Gen.V_main_arg2 m c
  · refine (θ_run Cert.FoxProjReferenceIdeal.defs _ _).mono (fun r h c => ?_) (Cert.FoxProjReferenceIdeal.Value.run m' g')
    obtain ⟨h0, h1, h2⟩ := hagree c
    obtain ⟨a0, a1, a2, a3, a4, b⟩ := h c
    refine ⟨a0.trans ((Cert.FoxProjReferenceIdeal.Read.val_main_v22_eq _ _ _).trans ?_),
      a1.trans ((Cert.FoxProjReferenceIdeal.Read.val_main_v26_eq _ _ _).trans ?_),
      a2.trans ((Cert.FoxProjReferenceIdeal.Read.val_main_v30_eq _ _ _).trans ?_),
      a3.trans ((Cert.FoxProjReferenceIdeal.Read.val_main_v34_eq _ _ _).trans ?_),
      a4.trans ((Cert.FoxProjReferenceIdeal.Read.val_main_v35_eq _ _ _).trans ?_), b⟩
    · rw [h0, h1, h2]; exact (Cert.FoxProjKernelIdeal.FoxProjValue.final_q m c).symm
    · rw [h0, h1, h2]; exact (Cert.FoxProjKernelIdeal.FoxProjValue.final_k m c).symm
    · rw [h0, h1, h2]; exact (Cert.FoxProjKernelIdeal.FoxProjValue.final_v m c).symm
    · rw [h0, h1, h2]; exact (Cert.FoxProjKernelIdeal.FoxProjValue.final_x m c).symm
    · rw [h0, h1, h2]; exact (Cert.FoxProjKernelIdeal.FoxProjValue.final_f m c).symm

end Cert.Proof

end
-- ==== Proof.ConvProjValue.lean ====
module

public import proofs.«01_k».proof.Proof.Gen.ConvProjKernelIdeal.Frame
public import proofs.«01_k».proof.Proof.Gen.ConvProjReferenceIdeal.Read
public import Idealize.ShloMosaic.Lib.Pipeline.ValueKit
public import Idealize.ShloMosaic.Lib.Pointwise

@[expose] public section

set_option maxRecDepth 16384

noncomputable section

namespace Cert.ConvProjKernelIdeal.ConvProjValue

open Idealize.ShloMosaic Idealize.ShloMosaic.TcCoe Idealize.SL.Sem
open Idealize.ShloMosaic.Pipeline (Dat)
open Cert.ConvProjKernelIdeal Cert.ConvProjKernelIdeal.Gen Cert.ConvProjReferenceIdeal.Read

/-- The normalised row's element. -/
def hn (x0 : FVec Ideal S512x1024 .f32) (x1 : FVec Ideal S1x1024 .f32) (r : Fin 512) (k : Fin 1024) : EReal := k0_pay3 (F := Ideal) x0 x1 (ix2 r k)

/-- The block of the first gate is the product with its columns of the weights. -/
theorem out3_at (x0 : FVec Ideal S512x1024 .f32) (x1 : FVec Ideal S1x1024 .f32) (x2 : FVec Ideal S1024x2816 .bf16) (y : S512x768.Idx) :
    out0_3 (F := Ideal) x0 x1 x2 y = ∑ k, hn x0 x1 (y 0) k * x2 (ix2 k ⟨0 + (y 1).val, by have : (y 1).val < 768 := (y 1).isLt; omega⟩) := by
  unfold out0_3
  canon_tiles y h
  all_goals
    pointwise [hn, k0_pay4, k0_pay5, k0_pay6, k0_pay14, k0_pay3]
    blk_point []

/-- The block of the second gate is the product with its columns of the weights. -/
theorem out4_at (x0 : FVec Ideal S512x1024 .f32) (x1 : FVec Ideal S1x1024 .f32) (x2 : FVec Ideal S1024x2816 .bf16) (y : S512x768.Idx) :
    out0_4 (F := Ideal) x0 x1 x2 y = ∑ k, hn x0 x1 (y 0) k * x2 (ix2 k ⟨768 + (y 1).val, by have : (y 1).val < 768 := (y 1).isLt; omega⟩) := by
  unfold out0_4
  canon_tiles y h
  all_goals
    pointwise [hn, k0_pay7, k0_pay8, k0_pay9, k0_pay14, k0_pay3]
    blk_point []

/-- The block of the values is the product with its columns of the weights. -/
theorem out5_at (x0 : FVec Ideal S512x1024 .f32) (x1 : FVec Ideal S1x1024 .f32) (x2 : FVec Ideal S1024x2816 .bf16) (y : S512x768.Idx) :
    out0_5 (F := Ideal) x0 x1 x2 y = ∑ k, hn x0 x1 (y 0) k * x2 (ix2 k ⟨1536 + (y 1).val, by have : (y 1).val < 768 := (y 1).isLt; omega⟩) := by
  unfold out0_5
  canon_tiles y h
  all_goals
    pointwise [hn, k0_pay10, k0_pay11, k0_pay12, k0_pay14, k0_pay3]
    blk_point []

/-- The block of the memory's queries is the product with its columns of the weights. -/
theorem out6_at (x0 : FVec Ideal S512x1024 .f32) (x1 : FVec Ideal S1x1024 .f32) (x2 : FVec Ideal S1024x2816 .bf16) (y : S512x512.Idx) :
    out0_6 (F := Ideal) x0 x1 x2 y = ∑ k, hn x0 x1 (y 0) k * x2 (ix2 k ⟨2304 + (y 1).val, by have : (y 1).val < 512 := (y 1).isLt; omega⟩) := by
  unfold out0_6
  canon_tiles y h
  all_goals
    pointwise [hn, k0_pay1, k0_pay13, k0_pay2, k0_pay14, k0_pay3]
    blk_point []

variable (m : (ℓ : Loc nD τ sig) → Buf (Elt Ideal) ℓ)

/-- The integer zero the host pads with. -/
theorem pad_zero : (FloatOps.sitofp FTy.f32 (0#32) : Ideal .f32) = (0 : EReal) := by
  show (((0#32 : BitVec 32).toInt : ℝ) : EReal) = 0
  simp

/-- The weights of the memory's heads as the host lays them out: each head's 64 columns in 128, the rest zero. -/
def heads4 (x : FVec Ideal S1024x256 .f32) : FVec Ideal S1024x512 .f32 :=
  shapeCast S1024x512 (pad S1024x4x128 ![0, 0, 0] ![0, 0, 64] ![0, 0, 0] (shapeCast S1024x4x64 x shapeCasts_S1024x256_S1024x4x64)
    (sitofp .f32 (constantI S_ 32 0#32)) pads_S1024x4x64_S1024x4x128_000_000_0640 h_S_) shapeCasts_S1024x4x128_S1024x512

/-- The weights the call reads. -/
def wp (w : FVec Ideal S1024x2560 .f32) : FVec Ideal S1024x2816 .bf16 :=
  truncf .bf16 (concatenate S1024x2816 1 [⟨S1024x2304, extractStridedSlice S1024x2304 ![0, 0] w slices_S1024x2560_S1024x2304_0_0⟩,
    ⟨S1024x512, heads4 (extractStridedSlice S1024x256 ![0, 2304] w slices_S1024x2560_S1024x256_0_2304)⟩] concatenates_S1024x2304_S1024x512_S1024x2816_d1) bitsLt_bf16_f32

/-- The call finds the padded weights in its third operand. -/
theorem V_main_v6 (c : Dev nD) : V m c main_v6 = wp (m ((c : Thread nD τ).loc main_arg2)) := by
  simp only [V, hostOps0, hostOps0_1, hostOps0_2, List.flatten_cons, List.flatten_nil, List.append_nil, List.cons_append, List.nil_append]
  entry_read
  rfl

/-- The call finds the gain in its second operand. -/
theorem V_main_v7 (c : Dev nD) : V m c main_v7 = shapeCast S1x1024 (m ((c : Thread nD τ).loc main_arg1) : FVec Ideal S1024 .f32) shapeCasts_S1024_S1x1024 := by
  simp only [V, hostOps0, hostOps0_1, hostOps0_2, List.flatten_cons, List.flatten_nil, List.append_nil, List.cons_append, List.nil_append]
  entry_read
  rfl

/-- Padded memory heads at an index. -/
theorem heads4_at (x : FVec Ideal S1024x256 .f32) (k : Fin 1024) (z : Fin 512) :
    heads4 x (ix2 k z) = if h : z.val % 128 < 64 then x (ix2 k ⟨z.val / 128 * 64 + z.val % 128, by omega⟩) else 0 := by
  pointwise [heads4]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- The weights' columns for the first gate. -/
theorem wp_b (w : FVec Ideal S1024x2560 .f32) (k : Fin 1024) (z : Fin 768) : wp w (ix2 k ⟨0 + z.val, by omega⟩)
    = w (ix2 k ⟨0 + z.val, by omega⟩) := by
  pointwise [wp, heads4_at]
  exact dif_pos (by omega)

/-- The weights' columns for the second gate. -/
theorem wp_c (w : FVec Ideal S1024x2560 .f32) (k : Fin 1024) (z : Fin 768) : wp w (ix2 k ⟨768 + z.val, by omega⟩)
    = w (ix2 k ⟨768 + z.val, by omega⟩) := by
  pointwise [wp, heads4_at]
  exact dif_pos (by omega)

/-- The weights' columns for the values. -/
theorem wp_v (w : FVec Ideal S1024x2560 .f32) (k : Fin 1024) (z : Fin 768) : wp w (ix2 k ⟨1536 + z.val, by omega⟩)
    = w (ix2 k ⟨1536 + z.val, by omega⟩) := by
  pointwise [wp, heads4_at]
  exact dif_pos (by omega)

/-- The weights' columns for the memory's queries. -/
theorem wp_x (w : FVec Ideal S1024x2560 .f32) (k : Fin 1024) (z : Fin 512) : wp w (ix2 k ⟨2304 + z.val, by omega⟩)
    = if h : z.val % 128 < 64 then w (ix2 k ⟨2304 + (z.val / 128 * 64 + z.val % 128), by omega⟩) else 0 := by
  pointwise [wp, heads4_at]

/-- Which block each window stages at grid point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] :=
  (by decide +kernel : ∀ t : Fin grid0.N, _)

/-- The whole weights are staged. -/
theorem blk2 (c : Dev nD) (t : Fin cfg0.N) : iblk m c 2 t = wp (m ((c : Thread nD τ).loc main_arg2)) := by
  rw [← V_main_v6]
  blk_ext! [iblk, idx t]

/-- The whole gain is staged. -/
theorem blk1 (c : Dev nD) (t : Fin cfg0.N) (k : Fin 1024) : iblk m c 1 t (ix2 0 k) = (m ((c : Thread nD τ).loc main_arg1) : FVec Ideal S1024 .f32) (ix1 k) := by
  have h : iblk m c 1 t = V m c main_v7 := by blk_ext! [iblk, idx t]
  rw [h, V_main_v7]
  pointwise

/-- The normalised row of a block is the reference's. -/
theorem hn_at (c : Dev nD) (t : Fin cfg0.N) (r : Fin 512) (k : Fin 1024) : hn (iblk m c 0 t) (iblk m c 1 t) r k
    = val_main_v12 (F := Ideal) (m ((c : Thread nD τ).loc main_arg0)) (m ((c : Thread nD τ).loc main_arg1)) (ix2 ⟨t.val * 512 + r.val, by have : t.val < 32 := t.isLt; omega⟩ k) := by
  pointwise [hn, k0_pay3, val_main_v12, val_main_v11, val_main_v10, val_main_v9, val_main_v8, val_main_v7, val_main_v6, val_main_v5, val_main_cst_1, val_main_v4, val_main_v3, val_main_cst_0, val_main_v2, val_main_v1, val_main_cst, val_main_v0]
  simp only [blk1]
  blk_point [iblk, V, idx t]

/-- The product at a row and a column is the reference's. -/
theorem dot_at (c : Dev nD) (t : Fin cfg0.N) (r : Fin 512) (j : Fin 2560) :
    ∑ k, hn (iblk m c 0 t) (iblk m c 1 t) r k * (m ((c : Thread nD τ).loc main_arg2) : FVec Ideal S1024x2560 .f32) (ix2 k j)
    = val_main_v13 (F := Ideal) (m ((c : Thread nD τ).loc main_arg0)) (m ((c : Thread nD τ).loc main_arg1)) (m ((c : Thread nD τ).loc main_arg2)) (ix2 ⟨t.val * 512 + r.val, by have : t.val < 32 := t.isLt; omega⟩ j) := by
  pointwise [val_main_v13]
  exact Finset.sum_congr rfl fun k _ => by rw [hn_at]

/-- The reference's array of the first gate at a row and a column. -/
theorem ref_b (x0 : FVec Ideal S16384x1024 .f32) (x1 : FVec Ideal S1024 .f32) (x2 : FVec Ideal S1024x2560 .f32) (T : Fin 16384) (z : Fin 768) :
    val_main_v14 (F := Ideal) x0 x1 x2 (ix2 T z) = val_main_v13 (F := Ideal) x0 x1 x2 (ix2 T ⟨0 + z.val, by omega⟩) := by
  pointwise [val_main_v14]

/-- What the body leaves of the first gate at `y` of block `t` is the reference's element at its place in the array. -/
theorem point_b (c : Dev nD) (t : Fin cfg0.N) (y : S512x768.Idx) : out0_3 (iblk m c 0 t) (iblk m c 1 t) (iblk m c 2 t) y
    = val_main_v14 (F := Ideal) (m ((c : Thread nD τ).loc main_arg0)) (m ((c : Thread nD τ).loc main_arg1)) (m ((c : Thread nD τ).loc main_arg2)) (((cfg0.win 3).blk t).view.emb y) := by
  have hr : (y 0).val < 512 := (y 0).isLt
  have hy : (y 1).val < 768 := (y 1).isLt
  have ht : t.val < 32 := t.isLt
  have e : (((cfg0.win 3).blk t).view.emb y : S16384x768.Idx) = ix2 ⟨t.val * 512 + (y 0).val, by omega⟩ ⟨(y 1).val, hy⟩ := by
    blk_ext [idx t]
  refine Eq.trans ?_ (congrArg (val_main_v14 (F := Ideal) (m ((c : Thread nD τ).loc main_arg0)) (m ((c : Thread nD τ).loc main_arg1)) (m ((c : Thread nD τ).loc main_arg2))) e).symm
  rw [ref_b, out3_at, blk2]
  refine (Finset.sum_congr rfl fun k _ => congrArg (hn (iblk m c 0 t) (iblk m c 1 t) (y 0) k * ·) (wp_b (m ((c : Thread nD τ).loc main_arg2)) k ⟨(y 1).val, hy⟩)).trans ?_
  exact dot_at m c t (y 0) _

/-- The array of the first gate after the run is the reference's. -/
theorem final_b (c : Dev nD) : (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point_b m c t y

/-- The reference's array of the second gate at a row and a column. -/
theorem ref_c (x0 : FVec Ideal S16384x1024 .f32) (x1 : FVec Ideal S1024 .f32) (x2 : FVec Ideal S1024x2560 .f32) (T : Fin 16384) (z : Fin 768) :
    val_main_v15 (F := Ideal) x0 x1 x2 (ix2 T z) = val_main_v13 (F := Ideal) x0 x1 x2 (ix2 T ⟨768 + z.val, by omega⟩) := by
  pointwise [val_main_v15]

/-- What the body leaves of the second gate at `y` of block `t` is the reference's element at its place in the array. -/
theorem point_c (c : Dev nD) (t : Fin cfg0.N) (y : S512x768.Idx) : out0_4 (iblk m c 0 t) (iblk m c 1 t) (iblk m c 2 t) y
    = val_main_v15 (F := Ideal) (m ((c : Thread nD τ).loc main_arg0)) (m ((c : Thread nD τ).loc main_arg1)) (m ((c : Thread nD τ).loc main_arg2)) (((cfg0.win 4).blk t).view.emb y) := by
  have hr : (y 0).val < 512 := (y 0).isLt
  have hy : (y 1).val < 768 := (y 1).isLt
  have ht : t.val < 32 := t.isLt
  have e : (((cfg0.win 4).blk t).view.emb y : S16384x768.Idx) = ix2 ⟨t.val * 512 + (y 0).val, by omega⟩ ⟨(y 1).val, hy⟩ := by
    blk_ext [idx t]
  refine Eq.trans ?_ (congrArg (val_main_v15 (F := Ideal) (m ((c : Thread nD τ).loc main_arg0)) (m ((c : Thread nD τ).loc main_arg1)) (m ((c : Thread nD τ).loc main_arg2))) e).symm
  rw [ref_c, out4_at, blk2]
  refine (Finset.sum_congr rfl fun k _ => congrArg (hn (iblk m c 0 t) (iblk m c 1 t) (y 0) k * ·) (wp_c (m ((c : Thread nD τ).loc main_arg2)) k ⟨(y 1).val, hy⟩)).trans ?_
  exact dot_at m c t (y 0) _

/-- The array of the second gate after the run is the reference's. -/
theorem final_c (c : Dev nD) : (dats m 0 c).arrAt 4 cfg0.N = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point_c m c t y

/-- The reference's array of the values at a row and a column. -/
theorem ref_v (x0 : FVec Ideal S16384x1024 .f32) (x1 : FVec Ideal S1024 .f32) (x2 : FVec Ideal S1024x2560 .f32) (T : Fin 16384) (z : Fin 768) :
    val_main_v16 (F := Ideal) x0 x1 x2 (ix2 T z) = val_main_v13 (F := Ideal) x0 x1 x2 (ix2 T ⟨1536 + z.val, by omega⟩) := by
  pointwise [val_main_v16]

/-- What the body leaves of the values at `y` of block `t` is the reference's element at its place in the array. -/
theorem point_v (c : Dev nD) (t : Fin cfg0.N) (y : S512x768.Idx) : out0_5 (iblk m c 0 t) (iblk m c 1 t) (iblk m c 2 t) y
    = val_main_v16 (F := Ideal) (m ((c : Thread nD τ).loc main_arg0)) (m ((c : Thread nD τ).loc main_arg1)) (m ((c : Thread nD τ).loc main_arg2)) (((cfg0.win 5).blk t).view.emb y) := by
  have hr : (y 0).val < 512 := (y 0).isLt
  have hy : (y 1).val < 768 := (y 1).isLt
  have ht : t.val < 32 := t.isLt
  have e : (((cfg0.win 5).blk t).view.emb y : S16384x768.Idx) = ix2 ⟨t.val * 512 + (y 0).val, by omega⟩ ⟨(y 1).val, hy⟩ := by
    blk_ext [idx t]
  refine Eq.trans ?_ (congrArg (val_main_v16 (F := Ideal) (m ((c : Thread nD τ).loc main_arg0)) (m ((c : Thread nD τ).loc main_arg1)) (m ((c : Thread nD τ).loc main_arg2))) e).symm
  rw [ref_v, out5_at, blk2]
  refine (Finset.sum_congr rfl fun k _ => congrArg (hn (iblk m c 0 t) (iblk m c 1 t) (y 0) k * ·) (wp_v (m ((c : Thread nD τ).loc main_arg2)) k ⟨(y 1).val, hy⟩)).trans ?_
  exact dot_at m c t (y 0) _

/-- The array of the values after the run is the reference's. -/
theorem final_v (c : Dev nD) : (dats m 0 c).arrAt 5 cfg0.N = val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point_v m c t y

/-- The reference's array of the memory's queries at a row and a column. -/
theorem ref_x (x0 : FVec Ideal S16384x1024 .f32) (x1 : FVec Ideal S1024 .f32) (x2 : FVec Ideal S1024x2560 .f32) (T : Fin 16384) (z : Fin 512) :
    val_main_v21 (F := Ideal) x0 x1 x2 (ix2 T z) = if h : z.val % 128 < 64 then val_main_v13 (F := Ideal) x0 x1 x2 (ix2 T ⟨2304 + (z.val / 128 * 64 + z.val % 128), by omega⟩) else 0 := by
  pointwise [val_main_v21, val_main_v20, val_main_v19, val_main_call0_v0, val_main_c, val_main_v18, val_main_v17]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- What the body leaves of the memory's queries at `y` of block `t` is the reference's element at its place in the array. -/
theorem point_x (c : Dev nD) (t : Fin cfg0.N) (y : S512x512.Idx) : out0_6 (iblk m c 0 t) (iblk m c 1 t) (iblk m c 2 t) y
    = val_main_v21 (F := Ideal) (m ((c : Thread nD τ).loc main_arg0)) (m ((c : Thread nD τ).loc main_arg1)) (m ((c : Thread nD τ).loc main_arg2)) (((cfg0.win 6).blk t).view.emb y) := by
  have hr : (y 0).val < 512 := (y 0).isLt
  have hy : (y 1).val < 512 := (y 1).isLt
  have ht : t.val < 32 := t.isLt
  have e : (((cfg0.win 6).blk t).view.emb y : S16384x512.Idx) = ix2 ⟨t.val * 512 + (y 0).val, by omega⟩ ⟨(y 1).val, hy⟩ := by
    blk_ext [idx t]
  refine Eq.trans ?_ (congrArg (val_main_v21 (F := Ideal) (m ((c : Thread nD τ).loc main_arg0)) (m ((c : Thread nD τ).loc main_arg1)) (m ((c : Thread nD τ).loc main_arg2))) e).symm
  rw [ref_x, out6_at, blk2]
  refine (Finset.sum_congr rfl fun k _ => congrArg (hn (iblk m c 0 t) (iblk m c 1 t) (y 0) k * ·) (wp_x (m ((c : Thread nD τ).loc main_arg2)) k ⟨(y 1).val, hy⟩)).trans ?_
  split
  · exact dot_at m c t (y 0) _
  · simp only [mul_zero, Finset.sum_const_zero]

/-- The array of the memory's queries after the run is the reference's. -/
theorem final_x (c : Dev nD) : (dats m 0 c).arrAt 6 cfg0.N = val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact point_x m c t y

end Cert.ConvProjKernelIdeal.ConvProjValue

end
-- ==== Proof.ConvProjClaims.lean ====
module

public import proofs.«01_k».proof.Defs
public import proofs.«01_k».proof.Proof.Gen.ConvProjKernel
public import proofs.«01_k».proof.Proof.Gen.ConvProjKernel.Frame
public import proofs.«01_k».proof.Proof.ConvProjValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.ConvProjKernel.Gen.facts Cert.ConvProjKernelIdeal.Gen.facts Cert.ConvProjReferenceIdeal.Gen.facts

/-- The printed kernel runs, keeps its arguments and ends with every counter at zero. -/
theorem frame_ConvProjKernel : Cert.quiescent_ConvProjKernel := fun m g _ => Cert.ConvProjKernel.Gen.frame m g

/-- The idealized kernel runs, keeps its arguments and ends with every counter at zero. -/
theorem frame_ConvProjKernelIdeal : Cert.quiescent_ConvProjKernelIdeal := fun m g _ => Cert.ConvProjKernelIdeal.Gen.frame m g

/-- The reference runs, keeps its arguments and ends with every counter at zero. -/
theorem frame_ConvProjReferenceIdeal : Cert.quiescent_ConvProjReferenceIdeal := fun m g _ =>
  (θ_run Cert.ConvProjReferenceIdeal.defs _ _).mono (fun r h => ⟨fun c => (h c).2.2.2.2, sem_eq_zero_of_no_sems (by decide) r.2⟩)
    (Cert.ConvProjReferenceIdeal.Value.run (F := Ideal) m g)

set_option maxHeartbeats 2000000 in
/-- Over the reals the kernel and the reference end with the same results. -/
theorem algebraic_ConvProj : Cert.algebraic_ConvProjKernelIdeal_ConvProjReferenceIdeal := by
  pair_intro
  · run_from Cert.ConvProjKernelIdeal.Gen.run_main m g
    exact Cert.ConvProjKernelIdeal.Gen.V_main_arg1 m c
    exact Cert.ConvProjKernelIdeal.Gen.V_main_arg2 m c
  · refine (θ_run Cert.ConvProjReferenceIdeal.defs _ _).mono (fun r h c => ?_) (Cert.ConvProjReferenceIdeal.Value.run m' g')
    obtain ⟨h0, h1, h2⟩ := hagree c
    obtain ⟨a0, a1, a2, a3, b⟩ := h c
    refine ⟨a0.trans ((Cert.ConvProjReferenceIdeal.Read.val_main_v14_eq _ _ _).trans ?_),
      a1.trans ((Cert.ConvProjReferenceIdeal.Read.val_main_v15_eq _ _ _).trans ?_),
      a2.trans ((Cert.ConvProjReferenceIdeal.Read.val_main_v16_eq _ _ _).trans ?_),
      a3.trans ((Cert.ConvProjReferenceIdeal.Read.val_main_v21_eq _ _ _).trans ?_), b⟩
    · rw [h0, h1, h2]; exact (Cert.ConvProjKernelIdeal.ConvProjValue.final_b m c).symm
    · rw [h0, h1, h2]; exact (Cert.ConvProjKernelIdeal.ConvProjValue.final_c m c).symm
    · rw [h0, h1, h2]; exact (Cert.ConvProjKernelIdeal.ConvProjValue.final_v m c).symm
    · rw [h0, h1, h2]; exact (Cert.ConvProjKernelIdeal.ConvProjValue.final_x m c).symm

end Cert.Proof

end
-- ==== Proof.MemProjValue.lean ====
module

public import proofs.«01_k».proof.Proof.Gen.MemProjKernelIdeal.Frame
public import proofs.«01_k».proof.Proof.Gen.MemProjReferenceIdeal.Read
public import Idealize.ShloMosaic.Lib.Pipeline.ValueKit
public import Idealize.ShloMosaic.Lib.Pointwise

@[expose] public section

set_option maxRecDepth 16384

noncomputable section

namespace Cert.MemProjKernelIdeal.MemProjValue

open Idealize.ShloMosaic Idealize.ShloMosaic.TcCoe Idealize.SL.Sem
open Idealize.ShloMosaic.Pipeline (Dat)
open Cert.MemProjKernelIdeal Cert.MemProjKernelIdeal.Gen Cert.MemProjReferenceIdeal.Read

/-- The normalised row's element. -/
def hn (x0 : FVec Ideal S256x1024 .f32) (x1 : FVec Ideal S1x1024 .f32) (r : Fin 256) (k : Fin 1024) : EReal := k0_pay2 (F := Ideal) x0 x1 (ix2 r k)

/-- The block of the memory's keys is the product with its columns of the weights. -/
theorem out3_at (x0 : FVec Ideal S256x1024 .f32) (x1 : FVec Ideal S1x1024 .f32) (x2 : FVec Ideal S1024x1024 .bf16) (y : S256x512.Idx) :
    out0_3 (F := Ideal) x0 x1 x2 y = ∑ k, hn x0 x1 (y 0) k * x2 (ix2 k ⟨0 + (y 1).val, by have : (y 1).val < 512 := (y 1).isLt; omega⟩) := by
  unfold out0_3
  canon_tiles y h
  all_goals
    pointwise [hn, k0_pay3, k0_pay4, k0_pay2]
    blk_point []

/-- The block of the memory's values is the product with its columns of the weights. -/
theorem out4_at (x0 : FVec Ideal S256x1024 .f32) (x1 : FVec Ideal S1x1024 .f32) (x2 : FVec Ideal S1024x1024 .bf16) (y : S256x512.Idx) :
    out0_4 (F := Ideal) x0 x1 x2 y = ∑ k, hn x0 x1 (y 0) k * x2 (ix2 k ⟨512 + (y 1).val, by have : (y 1).val < 512 := (y 1).isLt; omega⟩) := by
  unfold out0_4
  canon_tiles y h
  all_goals
    pointwise [hn, k0_pay5, k0_pay1, k0_pay2]
    blk_point []

variable (m : (ℓ : Loc nD τ sig) → Buf (Elt Ideal) ℓ)

/-- The integer zero the host pads with. -/
theorem pad_zero : (FloatOps.sitofp FTy.f32 (0#32) : Ideal .f32) = (0 : EReal) := by
  show (((0#32 : BitVec 32).toInt : ℝ) : EReal) = 0
  simp

/-- The weights of the memory's heads as the host lays them out: each head's 64 columns in 128, the rest zero. -/
def heads4 (x : FVec Ideal S1024x256 .f32) : FVec Ideal S1024x512 .f32 :=
  shapeCast S1024x512 (pad S1024x4x128 ![0, 0, 0] ![0, 0, 64] ![0, 0, 0] (shapeCast S1024x4x64 x shapeCasts_S1024x256_S1024x4x64)
    (sitofp .f32 (constantI S_ 32 0#32)) pads_S1024x4x64_S1024x4x128_000_000_0640 h_S_) shapeCasts_S1024x4x128_S1024x512

/-- The weights the call reads. -/
def wp (w : FVec Ideal S1024x512 .f32) : FVec Ideal S1024x1024 .bf16 :=
  truncf .bf16 (concatenate S1024x1024 1 [⟨S1024x512, heads4 (extractStridedSlice S1024x256 ![0, 0] w slices_S1024x512_S1024x256_0_0)⟩,
    ⟨S1024x512, heads4 (extractStridedSlice S1024x256 ![0, 256] w slices_S1024x512_S1024x256_0_256)⟩] concatenates_S1024x512_S1024x512_S1024x1024_d1) bitsLt_bf16_f32

/-- The call finds the padded weights in its third operand. -/
theorem V_main_v9 (c : Dev nD) : V m c main_v9 = wp (m ((c : Thread nD τ).loc main_arg2)) := by
  simp only [V, hostOps0, hostOps0_1, hostOps0_2, hostOps0_3, hostOps0_4, List.flatten_cons, List.flatten_nil, List.append_nil, List.cons_append, List.nil_append]
  entry_read
  rfl

/-- The call finds the gain in its second operand. -/
theorem V_main_v10 (c : Dev nD) : V m c main_v10 = shapeCast S1x1024 (m ((c : Thread nD τ).loc main_arg1) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-- Padded memory heads at an index. -/
theorem heads4_at (x : FVec Ideal S1024x256 .f32) (k : Fin 1024) (z : Fin 512) :
    heads4 x (ix2 k z) = if h : z.val % 128 < 64 then x (ix2 k ⟨z.val / 128 * 64 + z.val % 128, by omega⟩) else 0 := by
  pointwise [heads4]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- The weights' columns for the memory's keys. -/
theorem wp_k (w : FVec Ideal S1024x512 .f32) (k : Fin 1024) (z : Fin 512) : wp w (ix2 k ⟨0 + z.val, by omega⟩)
    = if h : z.val % 128 < 64 then w (ix2 k ⟨0 + (z.val / 128 * 64 + z.val % 128), by omega⟩) else 0 := by
  pointwise [wp, heads4_at]

/-- The weights' columns for the memory's values. -/
theorem wp_v (w : FVec Ideal S1024x512 .f32) (k : Fin 1024) (z : Fin 512) : wp w (ix2 k ⟨512 + z.val, by omega⟩)
    = if h : z.val % 128 < 64 then w (ix2 k ⟨256 + (z.val / 128 * 64 + z.val % 128), by omega⟩) else 0 := by
  pointwise [wp, heads4_at]

/-- Which block each window stages at grid point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The whole weights are staged. -/
theorem blk2 (c : Dev nD) (t : Fin cfg0.N) : iblk m c 2 t = wp (m ((c : Thread nD τ).loc main_arg2)) := by
  rw [← V_main_v9]
  blk_ext! [iblk, idx t]

/-- The whole gain is staged. -/
theorem blk1 (c : Dev nD) (t : Fin cfg0.N) (k : Fin 1024) : iblk m c 1 t (ix2 0 k) = (m ((c : Thread nD τ).loc main_arg1) : FVec Ideal S1024 .f32) (ix1 k) := by
  have h : iblk m c 1 t = V m c main_v10 := by blk_ext! [iblk, idx t]
  rw [h, V_main_v10]
  pointwise

/-- The normalised row of a block is the reference's. -/
theorem hn_at (c : Dev nD) (t : Fin cfg0.N) (r : Fin 256) (k : Fin 1024) : hn (iblk m c 0 t) (iblk m c 1 t) r k
    = val_main_v12 (F := Ideal) (m ((c : Thread nD τ).loc main_arg0)) (m ((c : Thread nD τ).loc main_arg1)) (ix2 ⟨t.val * 256 + r.val, by have : t.val < 1 := t.isLt; omega⟩ k) := by
  pointwise [hn, k0_pay2, val_main_v12, val_main_v11, val_main_v10, val_main_v9, val_main_v8, val_main_v7, val_main_v6, val_main_v5, val_main_cst_1, val_main_v4, val_main_v3, val_main_cst_0, val_main_v2, val_main_v1, val_main_cst, val_main_v0]
  simp only [blk1]
  blk_point [iblk, V, idx t]

/-- The product at a row and a column is the reference's. -/
theorem dot_at (c : Dev nD) (t : Fin cfg0.N) (r : Fin 256) (j : Fin 512) :
    ∑ k, hn (iblk m c 0 t) (iblk m c 1 t) r k * (m ((c : Thread nD τ).loc main_arg2) : FVec Ideal S1024x512 .f32) (ix2 k j)
    = val_main_v13 (F := Ideal) (m ((c : Thread nD τ).loc main_arg0)) (m ((c : Thread nD τ).loc main_arg1)) (m ((c : Thread nD τ).loc main_arg2)) (ix2 ⟨t.val * 256 + r.val, by have : t.val < 1 := t.isLt; omega⟩ j) := by
  pointwise [val_main_v13]
  exact Finset.sum_congr rfl fun k _ => by
    have e : (⟨t.val * 256 + r.val, by have : t.val < 1 := t.isLt; omega⟩ : Fin 256) = r := Fin.ext (by have : t.val < 1 := t.isLt; show t.val * 256 + r.val = r.val; omega)
    rw [hn_at, e]

/-- The reference's array of the memory's keys at a row and a column. -/
theorem ref_k (x0 : FVec Ideal S256x1024 .f32) (x1 : FVec Ideal S1024 .f32) (x2 : FVec Ideal S1024x512 .f32) (T : Fin 256) (z : Fin 512) :
    val_main_v19 (F := Ideal) x0 x1 x2 (ix2 T z) = if h : z.val % 128 < 64 then val_main_v13 (F := Ideal) x0 x1 x2 (ix2 T ⟨0 + (z.val / 128 * 64 + z.val % 128), by omega⟩) else 0 := by
  pointwise [val_main_v19, val_main_v18, val_main_v17, val_main_call0_v0, val_main_c, val_main_v16, val_main_v14]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- What the body leaves of the memory's keys at `y` of block `t` is the reference's element at its place in the array. -/
theorem point_k (c : Dev nD) (t : Fin cfg0.N) (y : S256x512.Idx) : out0_3 (iblk m c 0 t) (iblk m c 1 t) (iblk m c 2 t) y
    = val_main_v19 (F := Ideal) (m ((c : Thread nD τ).loc main_arg0)) (m ((c : Thread nD τ).loc main_arg1)) (m ((c : Thread nD τ).loc main_arg2)) (((cfg0.win 3).blk t).view.emb y) := by
  have hr : (y 0).val < 256 := (y 0).isLt
  have hy : (y 1).val < 512 := (y 1).isLt
  have ht : t.val < 1 := t.isLt
  have e : (((cfg0.win 3).blk t).view.emb y : S256x512.Idx) = ix2 ⟨t.val * 256 + (y 0).val, by omega⟩ ⟨(y 1).val, hy⟩ := by
    blk_ext [idx t]
  refine Eq.trans ?_ (congrArg (val_main_v19 (F := Ideal) (m ((c : Thread nD τ).loc main_arg0)) (m ((c : Thread nD τ).loc main_arg1)) (m ((c : Thread nD τ).loc main_arg2))) e).symm
  rw [ref_k, out3_at, blk2]
  refine (Finset.sum_congr rfl fun k _ => congrArg (hn (iblk m c 0 t) (iblk m c 1 t) (y 0) k * ·) (wp_k (m ((c : Thread nD τ).loc main_arg2)) k ⟨(y 1).val, hy⟩)).trans ?_
  split
  · exact dot_at m c t (y 0) _
  · simp only [mul_zero, Finset.sum_const_zero]

/-- The array of the memory's keys after the run is the reference's. -/
theorem final_k (c : Dev nD) : (dats m 0 c).arrAt 3 cfg0.N = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point_k m c t y

/-- The reference's array of the memory's values at a row and a column. -/
theorem ref_v (x0 : FVec Ideal S256x1024 .f32) (x1 : FVec Ideal S1024 .f32) (x2 : FVec Ideal S1024x512 .f32) (T : Fin 256) (z : Fin 512) :
    val_main_v23 (F := Ideal) x0 x1 x2 (ix2 T z) = if h : z.val % 128 < 64 then val_main_v13 (F := Ideal) x0 x1 x2 (ix2 T ⟨256 + (z.val / 128 * 64 + z.val % 128), by omega⟩) else 0 := by
  pointwise [val_main_v23, val_main_v22, val_main_v21, val_main_call1_v0, val_main_c_2, val_main_v20, val_main_v15]
  rw [pad_zero]
  have hd : z.val / 128 < 4 := by omega
  by_cases h : z.val % 128 < 64
  · rw [dif_pos h, dif_pos ⟨hd, h⟩]
  · have hn : ¬(z.val / 128 < 4 ∧ z.val % 128 < 64) := fun h' => h h'.2
    rw [dif_neg hn, dif_neg h]

/-- What the body leaves of the memory's values at `y` of block `t` is the reference's element at its place in the array. -/
theorem point_v (c : Dev nD) (t : Fin cfg0.N) (y : S256x512.Idx) : out0_4 (iblk m c 0 t) (iblk m c 1 t) (iblk m c 2 t) y
    = val_main_v23 (F := Ideal) (m ((c : Thread nD τ).loc main_arg0)) (m ((c : Thread nD τ).loc main_arg1)) (m ((c : Thread nD τ).loc main_arg2)) (((cfg0.win 4).blk t).view.emb y) := by
  have hr : (y 0).val < 256 := (y 0).isLt
  have hy : (y 1).val < 512 := (y 1).isLt
  have ht : t.val < 1 := t.isLt
  have e : (((cfg0.win 4).blk t).view.emb y : S256x512.Idx) = ix2 ⟨t.val * 256 + (y 0).val, by omega⟩ ⟨(y 1).val, hy⟩ := by
    blk_ext [idx t]
  refine Eq.trans ?_ (congrArg (val_main_v23 (F := Ideal) (m ((c : Thread nD τ).loc main_arg0)) (m ((c : Thread nD τ).loc main_arg1)) (m ((c : Thread nD τ).loc main_arg2))) e).symm
  rw [ref_v, out4_at, blk2]
  refine (Finset.sum_congr rfl fun k _ => congrArg (hn (iblk m c 0 t) (iblk m c 1 t) (y 0) k * ·) (wp_v (m ((c : Thread nD τ).loc main_arg2)) k ⟨(y 1).val, hy⟩)).trans ?_
  split
  · exact dot_at m c t (y 0) _
  · simp only [mul_zero, Finset.sum_const_zero]

/-- The array of the memory's values after the run is the reference's. -/
theorem final_v (c : Dev nD) : (dats m 0 c).arrAt 4 cfg0.N = val_main_v23 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point_v m c t y

end Cert.MemProjKernelIdeal.MemProjValue

end
-- ==== Proof.MemProjClaims.lean ====
module

public import proofs.«01_k».proof.Defs
public import proofs.«01_k».proof.Proof.Gen.MemProjKernel
public import proofs.«01_k».proof.Proof.Gen.MemProjKernel.Frame
public import proofs.«01_k».proof.Proof.MemProjValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.MemProjKernel.Gen.facts Cert.MemProjKernelIdeal.Gen.facts Cert.MemProjReferenceIdeal.Gen.facts

/-- The printed kernel runs, keeps its arguments and ends with every counter at zero. -/
theorem frame_MemProjKernel : Cert.quiescent_MemProjKernel := fun m g _ => Cert.MemProjKernel.Gen.frame m g

/-- The idealized kernel runs, keeps its arguments and ends with every counter at zero. -/
theorem frame_MemProjKernelIdeal : Cert.quiescent_MemProjKernelIdeal := fun m g _ => Cert.MemProjKernelIdeal.Gen.frame m g

/-- The reference runs, keeps its arguments and ends with every counter at zero. -/
theorem frame_MemProjReferenceIdeal : Cert.quiescent_MemProjReferenceIdeal := fun m g _ =>
  (θ_run Cert.MemProjReferenceIdeal.defs _ _).mono (fun r h => ⟨fun c => (h c).2.2, sem_eq_zero_of_no_sems (by decide) r.2⟩)
    (Cert.MemProjReferenceIdeal.Value.run (F := Ideal) m g)

set_option maxHeartbeats 2000000 in
/-- Over the reals the kernel and the reference end with the same results. -/
theorem algebraic_MemProj : Cert.algebraic_MemProjKernelIdeal_MemProjReferenceIdeal := by
  pair_intro
  · run_from Cert.MemProjKernelIdeal.Gen.run_main m g
    exact Cert.MemProjKernelIdeal.Gen.V_main_arg1 m c
    exact Cert.MemProjKernelIdeal.Gen.V_main_arg2 m c
  · refine (θ_run Cert.MemProjReferenceIdeal.defs _ _).mono (fun r h c => ?_) (Cert.MemProjReferenceIdeal.Value.run m' g')
    obtain ⟨h0, h1, h2⟩ := hagree c
    obtain ⟨a0, a1, b⟩ := h c
    refine ⟨a0.trans ((Cert.MemProjReferenceIdeal.Read.val_main_v19_eq _ _ _).trans ?_),
      a1.trans ((Cert.MemProjReferenceIdeal.Read.val_main_v23_eq _ _ _).trans ?_), b⟩
    · rw [h0, h1, h2]; exact (Cert.MemProjKernelIdeal.MemProjValue.final_k m c).symm
    · rw [h0, h1, h2]; exact (Cert.MemProjKernelIdeal.MemProjValue.final_v m c).symm

end Cert.Proof

end
-- ==== Proof.OutValue.lean ====
module

public import proofs.«01_k».proof.Proof.Gen.OutKernelIdeal.Frame
public import proofs.«01_k».proof.Proof.Gen.OutReferenceIdeal.Read
public import Idealize.ShloMosaic.Lib.Pipeline.ValueKit
public import Idealize.ShloMosaic.Lib.Pointwise

@[expose] public section

set_option maxRecDepth 16384

noncomputable section

namespace Cert.OutKernelIdeal.OutValue

open Idealize.ShloMosaic Idealize.ShloMosaic.TcCoe Idealize.SL.Sem
open Idealize.ShloMosaic.Pipeline (Dat)
open Cert.OutKernelIdeal Cert.OutKernelIdeal.Gen Cert.OutReferenceIdeal.Read

/-- A row's maximum. -/
def smax (s : Fin 256 → EReal) : EReal := Finset.fold max (Ideal.ofBits FTy.f32 0xFF800000#32) s Finset.univ

/-- A row's softmax weights. -/
def soft (s : Fin 256 → EReal) (n : Fin 256) : EReal := Ideal.div (Ideal.exp (s n - smax s)) (∑ x, Ideal.exp (s x - smax s))

/-- A row's scores from its query and the keys. -/
def score {J : ℕ} (q : Fin J → EReal) (k : Fin 256 → Fin J → EReal) (n : Fin 256) : EReal := (∑ j, q j * k n j) * Ideal.ofBits FTy.f32 0x3E000000#32

/-- The values averaged by the softmax of the scores. -/
def att {J : ℕ} (q : Fin J → EReal) (k : Fin 256 → Fin J → EReal) (v : Fin 256 → EReal) : EReal := ∑ x, soft (score q k) x * v x

/-! ## The kernel's block -/

/-- The third head's averaged values. -/
theorem pay5_at (x2 : FVec Ideal S512x128 .bf16) (x3 x4 : FVec Ideal S256x128 .bf16) (r : Fin 512) (e : Fin 128) :
    k0_pay5 (F := Ideal) x2 x3 x4 (ix2 r e) = att (fun j => x2 (ix2 r j)) (fun n j => x3 (ix2 n j)) (fun n => x4 (ix2 n e)) := by
  pointwise [k0_pay5, att, soft, smax, score]

/-- The second head's products. -/
theorem pay3_at (x2 : FVec Ideal S512x128 .bf16) (x3 : FVec Ideal S256x128 .bf16) (r : Fin 512) (n : Fin 256) :
    k0_pay3 (F := Ideal) x2 x3 (ix2 r n) = ∑ j, x2 (ix2 r j) * x3 (ix2 n j) := by
  pointwise [k0_pay3]

/-- The mixer's part and the first head's. -/
theorem pay2_at (x1 : FVec Ideal S512x1536 .bf16) (x5 : FVec Ideal S1536x1024 .bf16) (x2 : FVec Ideal S512x128 .bf16) (x3 x4 : FVec Ideal S256x128 .bf16) (w : FVec Ideal S128x1024 .bf16) (r : Fin 512) (c : Fin 1024) :
    k0_pay2 (F := Ideal) x1 x5 x2 x3 x4 w (ix2 r c) = (∑ j, x1 (ix2 r j) * x5 (ix2 j c))
      + ∑ e, att (fun j => x2 (ix2 r j)) (fun n j => x3 (ix2 n j)) (fun n => x4 (ix2 n e)) * w (ix2 e c) := by
  pointwise [k0_pay2, att, soft, smax, score]

/-- The second head added. -/
theorem pay4_at (a : FVec Ideal S512x1024 .f32) (s : FVec Ideal S512x256 .f32) (x4 : FVec Ideal S256x128 .bf16) (w : FVec Ideal S128x1024 .bf16) (r : Fin 512) (c : Fin 1024) :
    k0_pay4 (F := Ideal) a s x4 w (ix2 r c) = a (ix2 r c)
      + ∑ e, (∑ x, soft (fun n => s (ix2 r n) * Ideal.ofBits FTy.f32 0x3E000000#32) x * x4 (ix2 x e)) * w (ix2 e c) := by
  pointwise [k0_pay4, soft, smax]

/-- The second head added to what is there. -/
theorem pay43_at (a : FVec Ideal S512x1024 .f32) (x2 : FVec Ideal S512x128 .bf16) (x3 x4 : FVec Ideal S256x128 .bf16) (w : FVec Ideal S128x1024 .bf16) (r : Fin 512) (c : Fin 1024) :
    k0_pay4 (F := Ideal) a (k0_pay3 (F := Ideal) x2 x3) x4 w (ix2 r c) = a (ix2 r c)
      + ∑ e, att (fun j => x2 (ix2 r j)) (fun n j => x3 (ix2 n j)) (fun n => x4 (ix2 n e)) * w (ix2 e c) := by
  rw [pay4_at]
  simp only [pay3_at]
  rfl

/-- The third and the fourth head and the residual added. -/
theorem pay1_at (a : FVec Ideal S512x1024 .f32) (b : FVec Ideal S512x128 .f32) (w : FVec Ideal S128x1024 .bf16) (x2 : FVec Ideal S512x128 .bf16) (x3 x4 : FVec Ideal S256x128 .bf16) (w' : FVec Ideal S128x1024 .bf16)
    (x0 : FVec Ideal S512x1024 .f32) (r : Fin 512) (c : Fin 1024) :
    k0_pay1 (F := Ideal) a b w x2 x3 x4 w' x0 (ix2 r c) = x0 (ix2 r c) + ((a (ix2 r c) + ∑ e, b (ix2 r e) * w (ix2 e c))
      + ∑ e, att (fun j => x2 (ix2 r j)) (fun n j => x3 (ix2 n j)) (fun n => x4 (ix2 n e)) * w' (ix2 e c)) := by
  pointwise [k0_pay1, att, soft, smax, score]

/-- A head's part of the result. -/
def mem (x2 : FVec Ideal S512x512 .bf16) (x3 x4 : FVec Ideal S256x512 .bf16) (x6 : FVec Ideal S512x1024 .bf16) (h : Fin 4) (r : Fin 512) (c : Fin 1024) : EReal :=
  ∑ e : Fin 128, att (fun j : Fin 128 => x2 (ix2 r ⟨128 * h.val + j.val, by omega⟩)) (fun n j => x3 (ix2 n ⟨128 * h.val + j.val, by omega⟩))
    (fun n => x4 (ix2 n ⟨128 * h.val + e.val, by omega⟩)) * x6 (ix2 ⟨128 * h.val + e.val, by omega⟩ c)

/-- The block the body leaves. -/
theorem out7_at (x0 : FVec Ideal S512x1024 .f32) (x1 : FVec Ideal S512x1536 .bf16) (x2 : FVec Ideal S512x512 .bf16) (x3 x4 : FVec Ideal S256x512 .bf16)
    (x5 : FVec Ideal S1536x1024 .bf16) (x6 : FVec Ideal S512x1024 .bf16) (r : Fin 512) (c : Fin 1024) :
    out0_7 (F := Ideal) x0 x1 x2 x3 x4 x5 x6 (ix2 r c) = x0 (ix2 r c) + (((((∑ j, x1 (ix2 r j) * x5 (ix2 j c)) + mem x2 x3 x4 x6 0 r c) + mem x2 x3 x4 x6 1 r c)
      + mem x2 x3 x4 x6 2 r c) + mem x2 x3 x4 x6 3 r c) := by
  generalize hy : (ix2 r c : S512x1024.Idx) = y
  unfold out0_7
  canon_tiles y h
  all_goals
    subst hy
    have e : y = ix2 r c := by
      funext a
      match a with
      | ⟨0, _⟩ => exact Fin.ext h0.symm
      | ⟨1, _⟩ => exact Fin.ext h1.symm
    rw [e, pay1_at, pay43_at, pay2_at]
    simp only [pay5_at]
    pointwise [mem, att]

/-! ## The reference -/

/-- Minus infinity. -/
theorem ofBits_neg_inf : Ideal.ofBits FTy.f32 0xFF800000#32 = ⊥ := by
  simp [Ideal.ofBits, Ideal.ieee]

/-- The reference's maximum of a row. -/
theorem v6_at (x2 : FVec Ideal S16384x256 .f32) (x3 : FVec Ideal S256x256 .f32) (h : Fin 4) (T : Fin 16384) (z : EReal) (hz : z = Ideal.ofBits FTy.f32 0xFF800000#32) :
    val_main_v6 (F := Ideal) x2 x3 (ix2 h T) = Finset.fold max z (fun n => val_main_v5 (F := Ideal) x2 x3 (ix3 h T n)) Finset.univ := by
  pointwise [val_main_v6, val_main_cst_0]
  rw [hz]

/-- The maximum with minus infinity is the maximum. -/
theorem v8_at (x2 : FVec Ideal S16384x256 .f32) (x3 : FVec Ideal S256x256 .f32) (h : Fin 4) (T : Fin 16384) :
    val_main_v8 (F := Ideal) x2 x3 (ix2 h T) = val_main_v6 (F := Ideal) x2 x3 (ix2 h T) := by
  rw [val_main_v8_apply]
  generalize val_main_v6 (F := Ideal) x2 x3 (ix2 h T) = M
  have hz : val_main_v7 (F := Ideal) (ix2 h T) = (⊥ : EReal) := by
    rw [← ofBits_neg_inf]
    pointwise [val_main_v7, val_main_cst_1]
  rw [hz]
  exact max_bot_left M

/-- The maximum as the scores read it. -/
theorem v10_at (x2 : FVec Ideal S16384x256 .f32) (x3 : FVec Ideal S256x256 .f32) (h : Fin 4) (T : Fin 16384) (n : Fin 256) :
    val_main_v10 (F := Ideal) x2 x3 (ix3 h T n) = smax (fun n => val_main_v5 (F := Ideal) x2 x3 (ix3 h T n)) := by
  refine Eq.trans ?_ (v6_at x2 x3 h T _ rfl)
  rw [← v8_at]
  generalize hy : val_main_v8 (F := Ideal) x2 x3 = y
  unfold val_main_v10 val_main_v9
  rw [hy]
  pointwise

/-- The exponential of a score. -/
theorem v12_at (x2 : FVec Ideal S16384x256 .f32) (x3 : FVec Ideal S256x256 .f32) (h : Fin 4) (T : Fin 16384) (n : Fin 256) :
    val_main_v12 (F := Ideal) x2 x3 (ix3 h T n) = Ideal.exp (val_main_v5 (F := Ideal) x2 x3 (ix3 h T n) - smax (fun n => val_main_v5 (F := Ideal) x2 x3 (ix3 h T n))) := by
  rw [← v10_at x2 x3 h T n]
  pointwise [val_main_v12, val_main_v11]

/-- The reference's softmax weights. -/
theorem v16_at (x2 : FVec Ideal S16384x256 .f32) (x3 : FVec Ideal S256x256 .f32) (h : Fin 4) (T : Fin 16384) (n : Fin 256) :
    val_main_v16 (F := Ideal) x2 x3 (ix3 h T n) = soft (fun n => val_main_v5 (F := Ideal) x2 x3 (ix3 h T n)) n := by
  unfold soft
  pointwise [val_main_v16, val_main_v15, val_main_v14, val_main_v13, val_main_cst_2]
  simp only [v12_at]

/-- The reference's scores. -/
theorem v5_at (x2 : FVec Ideal S16384x256 .f32) (x3 : FVec Ideal S256x256 .f32) (h : Fin 4) (T : Fin 16384) (n : Fin 256) :
    val_main_v5 (F := Ideal) x2 x3 (ix3 h T n) = score (fun j : Fin 64 => x2 (ix2 T ⟨64 * h.val + j.val, by omega⟩)) (fun n j => x3 (ix2 n ⟨64 * h.val + j.val, by omega⟩)) n := by
  pointwise [val_main_v5, val_main_v4, val_main_cst, val_main_v3, val_main_v0, val_main_v1, score]
  simp only [Nat.mul_comm]

/-- The reference's averaged values. -/
theorem v18_at (x2 : FVec Ideal S16384x256 .f32) (x3 x4 : FVec Ideal S256x256 .f32) (T : Fin 16384) (h : Fin 4) (e : Fin 64) :
    val_main_v18 (F := Ideal) x2 x3 x4 (ix3 T h e) = att (fun j : Fin 64 => x2 (ix2 T ⟨64 * h.val + j.val, by omega⟩)) (fun n j => x3 (ix2 n ⟨64 * h.val + j.val, by omega⟩))
      (fun n => x4 (ix2 n ⟨64 * h.val + e.val, by omega⟩)) := by
  have h5 : (fun n => val_main_v5 (F := Ideal) x2 x3 (ix3 h T n)) = score (fun j : Fin 64 => x2 (ix2 T ⟨64 * h.val + j.val, by omega⟩)) (fun n j => x3 (ix2 n ⟨64 * h.val + j.val, by omega⟩)) :=
    funext fun n => v5_at x2 x3 h T n
  unfold att
  rw [← h5]
  simp only [← v16_at]
  pointwise [val_main_v18, val_main_v17, val_main_v2]
  refine Finset.sum_congr rfl fun x _ => ?_
  rw [mul_comm]
  simp only [Nat.mul_comm]

/-- The reference's result. -/
theorem v22_at (x0 : FVec Ideal S16384x1024 .f32) (x1 : FVec Ideal S16384x768 .f32) (x2 : FVec Ideal S16384x256 .f32) (x3 x4 : FVec Ideal S256x256 .f32) (x5 : FVec Ideal S1024x1024 .f32)
    (T : Fin 16384) (c : Fin 1024) :
    val_main_v22 (F := Ideal) x0 x1 x2 x3 x4 x5 (ix2 T c) = x0 (ix2 T c) + ((∑ j : Fin 768, x1 (ix2 T j) * x5 (ix2 ⟨j.val, by omega⟩ c))
      + ∑ j : Fin 256, val_main_v18 (F := Ideal) x2 x3 x4 (ix3 T ⟨j.val / 64, by omega⟩ ⟨j.val % 64, by omega⟩) * x5 (ix2 ⟨768 + j.val, by omega⟩ c)) := by
  pointwise [val_main_v22, val_main_v21, val_main_v20, val_main_v19]

/-! ## What the host lays out -/

/-- The integer zero the host pads with. -/
theorem pad_zero : (FloatOps.sitofp FTy.f32 (0#32) : Ideal .f32) = (0 : EReal) := by
  show (((0#32 : BitVec 32).toInt : ℝ) : EReal) = 0
  simp

/-- The mixer's result as the host lays it out: each head's 64 columns in 128, the rest zero. -/
def mixc (x : FVec Ideal S16384x768 .f32) : FVec Ideal S16384x1536 .bf16 :=
  truncf .bf16 (shapeCast S16384x1536 (pad S16384x12x128 ![0, 0, 0] ![0, 0, 64] ![0, 0, 0] (shapeCast S16384x12x64 x shapeCasts_S16384x768_S16384x12x64)
    (sitofp .f32 (constantI S_ 32 0#32)) pads_S16384x12x64_S16384x12x128_000_000_0640 h_S_) shapeCasts_S16384x12x128_S16384x1536) bitsLt_bf16_f32

/-- It at a row and a head's column. -/
theorem mixc_at (x : FVec Ideal S16384x768 .f32) (r : Fin 16384) (h : Fin 12) (e : Fin 128) :
    mixc x (ix2 r ⟨128 * h.val + e.val, by omega⟩) = if he : e.val < 64 then x (ix2 r ⟨64 * h.val + e.val, by omega⟩) else 0 := by
  pointwise [mixc]
  rw [pad_zero]
  by_cases he : e.val < 64
  · rw [dif_pos he, dif_pos he]
    refine congrArg (fun j => x (ix2 r j)) (Fin.ext ?_)
    show h.val * 64 + e.val = 64 * h.val + e.val
    omega
  · rw [dif_neg he, dif_neg he]

/-- The memory's queries as the host lays it out: each head's 64 columns in 128, the rest zero. -/
def qc (x : FVec Ideal S16384x256 .f32) : FVec Ideal S16384x512 .bf16 :=
  truncf .bf16 (shapeCast S16384x512 (pad S16384x4x128 ![0, 0, 0] ![0, 0, 64] ![0, 0, 0] (shapeCast S16384x4x64 x shapeCasts_S16384x256_S16384x4x64)
    (sitofp .f32 (constantI S_ 32 0#32)) pads_S16384x4x64_S16384x4x128_000_000_0640 h_S_) shapeCasts_S16384x4x128_S16384x512) bitsLt_bf16_f32

/-- It at a row and a head's column. -/
theorem qc_at (x : FVec Ideal S16384x256 .f32) (r : Fin 16384) (h : Fin 4) (e : Fin 128) :
    qc x (ix2 r ⟨128 * h.val + e.val, by omega⟩) = if he : e.val < 64 then x (ix2 r ⟨64 * h.val + e.val, by omega⟩) else 0 := by
  pointwise [qc]
  rw [pad_zero]
  by_cases he : e.val < 64
  · rw [dif_pos he, dif_pos he]
    refine congrArg (fun j => x (ix2 r j)) (Fin.ext ?_)
    show h.val * 64 + e.val = 64 * h.val + e.val
    omega
  · rw [dif_neg he, dif_neg he]

/-- The memory's keys or values as the host lays it out: each head's 64 columns in 128, the rest zero. -/
def mc (x : FVec Ideal S256x256 .f32) : FVec Ideal S256x512 .bf16 :=
  truncf .bf16 (shapeCast S256x512 (pad S256x4x128 ![0, 0, 0] ![0, 0, 64] ![0, 0, 0] (shapeCast S256x4x64 x shapeCasts_S256x256_S256x4x64)
    (sitofp .f32 (constantI S_ 32 0#32)) pads_S256x4x64_S256x4x128_000_000_0640 h_S_) shapeCasts_S256x4x128_S256x512) bitsLt_bf16_f32

/-- It at a row and a head's column. -/
theorem mc_at (x : FVec Ideal S256x256 .f32) (r : Fin 256) (h : Fin 4) (e : Fin 128) :
    mc x (ix2 r ⟨128 * h.val + e.val, by omega⟩) = if he : e.val < 64 then x (ix2 r ⟨64 * h.val + e.val, by omega⟩) else 0 := by
  pointwise [mc]
  rw [pad_zero]
  by_cases he : e.val < 64
  · rw [dif_pos he, dif_pos he]
    refine congrArg (fun j => x (ix2 r j)) (Fin.ext ?_)
    show h.val * 64 + e.val = 64 * h.val + e.val
    omega
  · rw [dif_neg he, dif_neg he]

/-- The mixer's weights as the host lays them out: each head's 64 rows in 128, the rest zero. -/
def mixw (w : FVec Ideal S1024x1024 .f32) : FVec Ideal S1536x1024 .bf16 :=
  truncf .bf16 (shapeCast S1536x1024 (pad S12x128x1024 ![0, 0, 0] ![0, 64, 0] ![0, 0, 0] (shapeCast S12x64x1024 (extractStridedSlice S768x1024 ![0, 0] w slices_S1024x1024_S768x1024_0_0) shapeCasts_S768x1024_S12x64x1024)
    (sitofp .f32 (constantI S_ 32 0#32)) pads_S12x64x1024_S12x128x1024_000_0640_000 h_S_) shapeCasts_S12x128x1024_S1536x1024) bitsLt_bf16_f32

/-- They at a head's row and a column. -/
theorem mixw_at (w : FVec Ideal S1024x1024 .f32) (h : Fin 12) (e : Fin 128) (c : Fin 1024) :
    mixw w (ix2 ⟨128 * h.val + e.val, by omega⟩ c) = if he : e.val < 64 then w (ix2 ⟨64 * h.val + e.val, by omega⟩ c) else 0 := by
  pointwise [mixw]
  rw [pad_zero]
  by_cases he : e.val < 64
  · rw [dif_pos he, dif_pos he]
    refine congrArg (fun j => w (ix2 j c)) (Fin.ext ?_)
    show h.val * 64 + e.val = 64 * h.val + e.val
    omega
  · rw [dif_neg he, dif_neg he]

/-- The memory's weights as the host lays them out: each head's 64 rows in 128, the rest zero. -/
def memw (w : FVec Ideal S1024x1024 .f32) : FVec Ideal S512x1024 .bf16 :=
  truncf .bf16 (shapeCast S512x1024 (pad S4x128x1024 ![0, 0, 0] ![0, 64, 0] ![0, 0, 0] (shapeCast S4x64x1024 (extractStridedSlice S256x1024 ![768, 0] w slices_S1024x1024_S256x1024_768_0) shapeCasts_S256x1024_S4x64x1024)
    (sitofp .f32 (constantI S_ 32 0#32)) pads_S4x64x1024_S4x128x1024_000_0640_000 h_S_) shapeCasts_S4x128x1024_S512x1024) bitsLt_bf16_f32

/-- They at a head's row and a column. -/
theorem memw_at (w : FVec Ideal S1024x1024 .f32) (h : Fin 4) (e : Fin 128) (c : Fin 1024) :
    memw w (ix2 ⟨128 * h.val + e.val, by omega⟩ c) = if he : e.val < 64 then w (ix2 ⟨768 + (64 * h.val + e.val), by omega⟩ c) else 0 := by
  pointwise [memw]
  rw [pad_zero]
  by_cases he : e.val < 64
  · rw [dif_pos he, dif_pos he]
    refine congrArg (fun j => w (ix2 j c)) (Fin.ext ?_)
    show 768 + (h.val * 64 + e.val) = 768 + (64 * h.val + e.val)
    omega
  · rw [dif_neg he, dif_neg he]

variable (m : (ℓ : Loc nD τ sig) → Buf (Elt Ideal) ℓ)

/-- The call finds the mixer's padded result in its operand. -/
theorem V_main_v3 (c : Dev nD) : V m c main_v3 = mixc (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The call finds the padded queries in its operand. -/
theorem V_main_v7 (c : Dev nD) : V m c main_v7 = qc (m ((c : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The call finds the padded keys in its operand. -/
theorem V_main_v11 (c : Dev nD) : V m c main_v11 = mc (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The call finds the padded values in its operand. -/
theorem V_main_v15 (c : Dev nD) : V m c main_v15 = mc (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The call finds the mixer's padded weights in its operand. -/
theorem V_main_v20 (c : Dev nD) : V m c main_v20 = mixw (m ((c : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The call finds the memory's padded weights in its operand. -/
theorem V_main_v25 (c : Dev nD) : V m c main_v25 = memw (m ((c : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- Which block each window stages at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The residual's block. -/
theorem blk0 (c : Dev nD) (t : Fin cfg0.N) (r : Fin 512) (k : Fin 1024) : iblk m c 0 t (ix2 r k) = (m ((c : Thread nD τ).loc main_arg0) : FVec Ideal S16384x1024 .f32) (ix2 ⟨t.val * 512 + r.val, by have : t.val < 32 := t.isLt; omega⟩ k) := by
  blk_point [iblk, V, idx t]

/-- The mixer's block. -/
theorem blk1 (c : Dev nD) (t : Fin cfg0.N) (r : Fin 512) (k : Fin 1536) : iblk m c 1 t (ix2 r k) = mixc (m ((c : Thread nD τ).loc main_arg1)) (ix2 ⟨t.val * 512 + r.val, by have : t.val < 32 := t.isLt; omega⟩ k) := by
  rw [← V_main_v3]
  blk_point [iblk, idx t]

/-- The queries' block. -/
theorem blk2 (c : Dev nD) (t : Fin cfg0.N) (r : Fin 512) (k : Fin 512) : iblk m c 2 t (ix2 r k) = qc (m ((c : Thread nD τ).loc main_arg2)) (ix2 ⟨t.val * 512 + r.val, by have : t.val < 32 := t.isLt; omega⟩ k) := by
  rw [← V_main_v7]
  blk_point [iblk, idx t]

/-- The keys are staged whole, -/
theorem blk3 (c : Dev nD) (t : Fin cfg0.N) : iblk m c 3 t = mc (m ((c : Thread nD τ).loc main_arg3)) := by
  rw [← V_main_v11]
  blk_ext! [iblk, idx t]

/-- the values, -/
theorem blk4 (c : Dev nD) (t : Fin cfg0.N) : iblk m c 4 t = mc (m ((c : Thread nD τ).loc main_arg4)) := by
  rw [← V_main_v15]
  blk_ext! [iblk, idx t]

/-- the mixer's weights -/
theorem blk5 (c : Dev nD) (t : Fin cfg0.N) : iblk m c 5 t = mixw (m ((c : Thread nD τ).loc main_arg5)) := by
  rw [← V_main_v20]
  blk_ext! [iblk, idx t]

/-- and the memory's weights. -/
theorem blk6 (c : Dev nD) (t : Fin cfg0.N) : iblk m c 6 t = memw (m ((c : Thread nD τ).loc main_arg5)) := by
  rw [← V_main_v25]
  blk_ext! [iblk, idx t]

/-! ## The sums -/

/-- A sum over groups. -/
theorem sum_groups (a b : ℕ) (f : Fin (a * b) → EReal) (hb : ∀ (h : Fin a) (e : Fin b), b * h.val + e.val < a * b) :
    ∑ i, f i = ∑ h : Fin a, ∑ e : Fin b, f ⟨b * h.val + e.val, hb h e⟩ := by
  rw [← finProdFinEquiv.sum_comp, Fintype.sum_prod_type]
  exact Finset.sum_congr rfl fun h _ => Finset.sum_congr rfl fun e _ => congrArg f (Fin.ext (Nat.add_comm _ _))

/-- A sum of 128 whose last 64 are zero. -/
theorem sum_half (f : Fin 128 → EReal) (g : Fin 64 → EReal) (h0 : ∀ e : Fin 64, f ⟨e.val, by omega⟩ = g e) (h1 : ∀ e : Fin 128, ¬e.val < 64 → f e = 0) :
    ∑ e, f e = ∑ e, g e := by
  refine (Fin.sum_univ_add (a := 64) (b := 64) f).trans ?_
  have z : ∑ i : Fin 64, f (Fin.natAdd 64 i) = 0 := Finset.sum_eq_zero fun i _ => h1 _ (by show ¬(64 + i.val < 64); omega)
  rw [z, add_zero]
  exact Finset.sum_congr rfl fun e _ => h0 e

/-- Padding queries and keys with zeros changes no score. -/
theorem score_half (q : Fin 128 → EReal) (k : Fin 256 → Fin 128 → EReal) (q' : Fin 64 → EReal) (k' : Fin 256 → Fin 64 → EReal)
    (hq : ∀ j, q j = if h : j.val < 64 then q' ⟨j.val, h⟩ else 0) (hk : ∀ n j, k n j = if h : j.val < 64 then k' n ⟨j.val, h⟩ else 0) : score q k = score q' k' := by
  funext n
  unfold score
  refine congrArg (· * _) (sum_half _ _ (fun e => ?_) fun e he => ?_)
  · rw [hq, hk, dif_pos e.isLt, dif_pos e.isLt]
  · rw [hq, dif_neg he, zero_mul]

/-- The mixer's part is the reference's. -/
theorem mix_eq (a : FVec Ideal S512x1536 .bf16) (x : FVec Ideal S16384x768 .f32) (w : FVec Ideal S1024x1024 .f32) (T : Fin 16384) (r : Fin 512) (k : Fin 1024)
    (ha : ∀ j, a (ix2 r j) = mixc x (ix2 T j)) : ∑ j, a (ix2 r j) * mixw w (ix2 j k) = ∑ j : Fin 768, x (ix2 T j) * w (ix2 ⟨j.val, by omega⟩ k) := by
  refine (sum_groups 12 128 _ fun h e => by omega).trans ((sum_groups 12 64 _ fun h e => by omega).trans (Finset.sum_congr rfl fun h _ => (sum_half _ _ (fun e => ?_) fun e he => ?_).symm)).symm
  · have a' := mixc_at x T h ⟨e.val, by omega⟩
    have b := mixw_at w h ⟨e.val, by omega⟩ k
    rw [dif_pos e.isLt] at a' b
    exact congr (congrArg HMul.hMul ((ha _).trans a')) b
  · have b := mixw_at w h e k
    rw [dif_neg he] at b
    exact (congrArg (_ * ·) b).trans (mul_zero _)

/-- A head's part is the reference's. -/
theorem mem_eq (b : FVec Ideal S512x512 .bf16) (q : FVec Ideal S16384x256 .f32) (x y : FVec Ideal S256x256 .f32) (w : FVec Ideal S1024x1024 .f32) (T : Fin 16384) (r : Fin 512) (k : Fin 1024)
    (hb : ∀ j, b (ix2 r j) = qc q (ix2 T j)) (h : Fin 4) : mem b (mc x) (mc y) (memw w) h r k
    = ∑ e : Fin 64, val_main_v18 (F := Ideal) q x y (ix3 T h e) * w (ix2 ⟨768 + (64 * h.val + e.val), by omega⟩ k) := by
  refine sum_half _ _ (fun e => ?_) fun e he => ?_
  · have a := memw_at w h ⟨e.val, by omega⟩ k
    rw [dif_pos e.isLt] at a
    refine congr (congrArg HMul.hMul ?_) a
    rw [v18_at]
    unfold att
    have s := score_half (fun j : Fin 128 => b (ix2 r ⟨128 * h.val + j.val, by omega⟩)) (fun n j => mc x (ix2 n ⟨128 * h.val + j.val, by omega⟩))
      (fun j : Fin 64 => q (ix2 T ⟨64 * h.val + j.val, by omega⟩)) (fun n j => x (ix2 n ⟨64 * h.val + j.val, by omega⟩))
      (fun j => (hb _).trans (qc_at _ _ h j)) (fun n j => mc_at _ n h j)
    refine Finset.sum_congr rfl fun z _ => ?_
    have v := mc_at y z h ⟨e.val, by omega⟩
    rw [dif_pos e.isLt] at v
    exact congr (congrArg HMul.hMul (congrArg (fun s => soft s z) s)) v
  · have a := memw_at w h e k
    rw [dif_neg he] at a
    exact (congrArg (_ * ·) a).trans (mul_zero _)

/-- The memory's part is the four heads'. -/
theorem mem_sum (b : FVec Ideal S512x512 .bf16) (q : FVec Ideal S16384x256 .f32) (x y : FVec Ideal S256x256 .f32) (w : FVec Ideal S1024x1024 .f32) (T : Fin 16384) (r : Fin 512) (k : Fin 1024)
    (hb : ∀ j, b (ix2 r j) = qc q (ix2 T j)) :
    ∑ j : Fin 256, val_main_v18 (F := Ideal) q x y (ix3 T ⟨j.val / 64, by omega⟩ ⟨j.val % 64, by omega⟩) * w (ix2 ⟨768 + j.val, by omega⟩ k)
    = ∑ h : Fin 4, mem b (mc x) (mc y) (memw w) h r k := by
  refine (sum_groups 4 64 _ fun h e => by omega).trans (Finset.sum_congr rfl fun h _ => ?_)
  rw [mem_eq b q x y w T r k hb]
  refine Finset.sum_congr rfl fun e _ => ?_
  have eh : (⟨(64 * h.val + e.val) / 64, by omega⟩ : Fin 4) = h := Fin.ext (by show (64 * h.val + e.val) / 64 = h.val; omega)
  have ee : (⟨(64 * h.val + e.val) % 64, by omega⟩ : Fin 64) = e := Fin.ext (by show (64 * h.val + e.val) % 64 = e.val; omega)
  have key : ∀ (a : Fin 4) (c : Fin 64), a = h → c = e → val_main_v18 (F := Ideal) q x y (ix3 T a c) = val_main_v18 (F := Ideal) q x y (ix3 T h e) := by
    rintro _ _ rfl rfl
    rfl
  exact congrArg (· * _) (key _ _ eh ee)

/-- What the body leaves at a row and a column of block `t` is the reference's element. -/
theorem point (c : Dev nD) (t : Fin cfg0.N) (r : Fin 512) (k : Fin 1024) : out0_7 (iblk m c 0 t) (iblk m c 1 t) (iblk m c 2 t) (iblk m c 3 t) (iblk m c 4 t) (iblk m c 5 t) (iblk m c 6 t) (ix2 r k)
    = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, by have : t.val < 32 := t.isLt; omega⟩ k) := by
  rw [out7_at, v22_at, blk3, blk4, blk5, blk6, mix_eq _ (m ((c : Thread nD τ).loc main_arg1)) (m ((c : Thread nD τ).loc main_arg5)) ⟨t.val * 512 + r.val, by have : t.val < 32 := t.isLt; omega⟩ r k (blk1 m c t r), mem_sum _ (m ((c : Thread nD τ).loc main_arg2)) (m ((c : Thread nD τ).loc main_arg3)) (m ((c : Thread nD τ).loc main_arg4)) (m ((c : Thread nD τ).loc main_arg5)) ⟨t.val * 512 + r.val, by have : t.val < 32 := t.isLt; omega⟩ r k (blk2 m c t r), Fin.sum_univ_four, blk0]
  simp only [add_assoc]

/-- The array after the run is the reference's. -/
theorem final (c : Dev nD) : (dats m 0 c).arrAt 7 cfg0.N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hr : (y 0).val < 512 := (y 0).isLt
  have hy : (y 1).val < 1024 := (y 1).isLt
  have ht : t.val < 32 := t.isLt
  have e : (((cfg0.win 7).blk t).view.emb y : S16384x1024.Idx) = ix2 ⟨t.val * 512 + (y 0).val, by omega⟩ ⟨(y 1).val, hy⟩ := by
    blk_ext [idx t]
  have ey : (y : S512x1024.Idx) = ix2 ⟨(y 0).val, hr⟩ ⟨(y 1).val, hy⟩ := by
    blk_ext []
  refine (congrArg _ ey).trans ((point m c t ⟨(y 0).val, hr⟩ ⟨(y 1).val, hy⟩).trans (congrArg (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e).symm)

end Cert.OutKernelIdeal.OutValue

end
-- ==== Proof.OutClaims.lean ====
module

public import proofs.«01_k».proof.Defs
public import proofs.«01_k».proof.Proof.Gen.OutKernel
public import proofs.«01_k».proof.Proof.Gen.OutKernel.Frame
public import proofs.«01_k».proof.Proof.OutValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.OutKernel.Gen.facts Cert.OutKernelIdeal.Gen.facts Cert.OutReferenceIdeal.Gen.facts

/-- The printed kernel runs, keeps its arguments and ends with every counter at zero. -/
theorem frame_OutKernel : Cert.quiescent_OutKernel := fun m g _ => Cert.OutKernel.Gen.frame m g

/-- The idealized kernel runs, keeps its arguments and ends with every counter at zero. -/
theorem frame_OutKernelIdeal : Cert.quiescent_OutKernelIdeal := fun m g _ => Cert.OutKernelIdeal.Gen.frame m g

/-- The reference runs, keeps its arguments and ends with every counter at zero. -/
theorem frame_OutReferenceIdeal : Cert.quiescent_OutReferenceIdeal := fun m g _ =>
  (θ_run Cert.OutReferenceIdeal.defs _ _).mono (fun r h => ⟨fun c => (h c).2, sem_eq_zero_of_no_sems (by decide) r.2⟩)
    (Cert.OutReferenceIdeal.Value.run (F := Ideal) m g)

set_option maxHeartbeats 2000000 in
/-- Over the reals the kernel and the reference end with the same result. -/
theorem algebraic_Out : Cert.algebraic_OutKernelIdeal_OutReferenceIdeal := by
  pair_intro
  · run_from Cert.OutKernelIdeal.Gen.run_main m g
    exact Cert.OutKernelIdeal.Gen.V_main_arg1 m c
    exact Cert.OutKernelIdeal.Gen.V_main_arg2 m c
    exact Cert.OutKernelIdeal.Gen.V_main_arg3 m c
    exact Cert.OutKernelIdeal.Gen.V_main_arg4 m c
    exact Cert.OutKernelIdeal.Gen.V_main_arg5 m c
  · refine (θ_run Cert.OutReferenceIdeal.defs _ _).mono (fun r h c => ?_) (Cert.OutReferenceIdeal.Value.run m' g')
    obtain ⟨h0, h1, h2, h3, h4, h5⟩ := hagree c
    obtain ⟨a0, b⟩ := h c
    refine ⟨a0.trans ((Cert.OutReferenceIdeal.Read.val_main_v22_eq _ _ _ _ _ _).trans ?_), b⟩
    rw [h0, h1, h2, h3, h4, h5]; exact (Cert.OutKernelIdeal.OutValue.final m c).symm

end Cert.Proof

end
-- ==== Proof.ConvOutValue.lean ====
module

public import proofs.«01_k».proof.Proof.Gen.ConvOutKernelIdeal.Frame
public import proofs.«01_k».proof.Proof.OutValue
public import Idealize.ShloMosaic.Lib.Pipeline.ValueKit
public import Idealize.ShloMosaic.Lib.Pointwise

@[expose] public section

set_option maxRecDepth 16384

noncomputable section

namespace Cert.ConvOutKernelIdeal.ConvOutValue

open Idealize.ShloMosaic Idealize.ShloMosaic.TcCoe Idealize.SL.Sem
open Idealize.ShloMosaic.Pipeline (Dat)
open Cert.ConvOutKernelIdeal Cert.ConvOutKernelIdeal.Gen Cert.OutReferenceIdeal.Read
open Cert.OutKernelIdeal.OutValue (att soft smax score mem qc mc memw v22_at mem_sum)

/-! ## The kernel's block: the heads' parts are those of the other layers' call -/

/-- The mixer's part and the first head's. -/
theorem pay2_at (x1 : FVec Ideal S512x768 .bf16) (x5 : FVec Ideal S768x1024 .bf16) (x2 : FVec Ideal S512x128 .bf16) (x3 x4 : FVec Ideal S256x128 .bf16) (w : FVec Ideal S128x1024 .bf16) (r : Fin 512) (c : Fin 1024) :
    k0_pay2 (F := Ideal) x1 x5 x2 x3 x4 w (ix2 r c) = (∑ j, x1 (ix2 r j) * x5 (ix2 j c))
      + ∑ e, att (fun j => x2 (ix2 r j)) (fun n j => x3 (ix2 n j)) (fun n => x4 (ix2 n e)) * w (ix2 e c) := by
  pointwise [k0_pay2, att, soft, smax, score]

/-- The second head added to what is there. -/
theorem pay43_at (a : FVec Ideal S512x1024 .f32) (x2 : FVec Ideal S512x128 .bf16) (x3 x4 : FVec Ideal S256x128 .bf16) (w : FVec Ideal S128x1024 .bf16) (r : Fin 512) (c : Fin 1024) :
    k0_pay4 (F := Ideal) a (k0_pay3 (F := Ideal) x2 x3) x4 w (ix2 r c) = a (ix2 r c)
      + ∑ e, att (fun j => x2 (ix2 r j)) (fun n j => x3 (ix2 n j)) (fun n => x4 (ix2 n e)) * w (ix2 e c) :=
  Cert.OutKernelIdeal.OutValue.pay43_at a x2 x3 x4 w r c

/-- The third head's averaged values. -/
theorem pay5_at (x2 : FVec Ideal S512x128 .bf16) (x3 x4 : FVec Ideal S256x128 .bf16) (r : Fin 512) (e : Fin 128) :
    k0_pay5 (F := Ideal) x2 x3 x4 (ix2 r e) = att (fun j => x2 (ix2 r j)) (fun n j => x3 (ix2 n j)) (fun n => x4 (ix2 n e)) :=
  Cert.OutKernelIdeal.OutValue.pay5_at x2 x3 x4 r e

/-- The third and the fourth head and the residual added. -/
theorem pay1_at (a : FVec Ideal S512x1024 .f32) (b : FVec Ideal S512x128 .f32) (w : FVec Ideal S128x1024 .bf16) (x2 : FVec Ideal S512x128 .bf16) (x3 x4 : FVec Ideal S256x128 .bf16) (w' : FVec Ideal S128x1024 .bf16)
    (x0 : FVec Ideal S512x1024 .f32) (r : Fin 512) (c : Fin 1024) :
    k0_pay1 (F := Ideal) a b w x2 x3 x4 w' x0 (ix2 r c) = x0 (ix2 r c) + ((a (ix2 r c) + ∑ e, b (ix2 r e) * w (ix2 e c))
      + ∑ e, att (fun j => x2 (ix2 r j)) (fun n j => x3 (ix2 n j)) (fun n => x4 (ix2 n e)) * w' (ix2 e c)) :=
  Cert.OutKernelIdeal.OutValue.pay1_at a b w x2 x3 x4 w' x0 r c

/-- The block the body leaves. -/
theorem out7_at (x0 : FVec Ideal S512x1024 .f32) (x1 : FVec Ideal S512x768 .bf16) (x2 : FVec Ideal S512x512 .bf16) (x3 x4 : FVec Ideal S256x512 .bf16)
    (x5 : FVec Ideal S768x1024 .bf16) (x6 : FVec Ideal S512x1024 .bf16) (r : Fin 512) (c : Fin 1024) :
    out0_7 (F := Ideal) x0 x1 x2 x3 x4 x5 x6 (ix2 r c) = x0 (ix2 r c) + (((((∑ j, x1 (ix2 r j) * x5 (ix2 j c)) + mem x2 x3 x4 x6 0 r c) + mem x2 x3 x4 x6 1 r c)
      + mem x2 x3 x4 x6 2 r c) + mem x2 x3 x4 x6 3 r c) := by
  generalize hy : (ix2 r c : S512x1024.Idx) = y
  unfold out0_7
  canon_tiles y h
  all_goals
    subst hy
    have e : y = ix2 r c := by
      funext a
      match a with
      | ⟨0, _⟩ => exact Fin.ext h0.symm
      | ⟨1, _⟩ => exact Fin.ext h1.symm
    rw [e, pay1_at, pay43_at, pay2_at]
    simp only [pay5_at]
    pointwise [mem, att]

/-! ## What the host lays out -/

/-- The mixer's weights as the call reads them: the first 768 rows. -/
def mixw (w : FVec Ideal S1024x1024 .f32) : FVec Ideal S768x1024 .bf16 := truncf .bf16 (extractStridedSlice S768x1024 ![0, 0] w slices_S1024x1024_S768x1024_0_0) bitsLt_bf16_f32

variable (m : (ℓ : Loc nD τ sig) → Buf (Elt Ideal) ℓ)

/-- The call finds the mixer's result in its operand. -/
theorem V_main_v12 (c : Dev nD) : V m c main_v12 = (truncf .bf16 (m ((c : Thread nD τ).loc main_arg1) : FVec Ideal S16384x768 .f32) bitsLt_bf16_f32 : FVec Ideal S16384x768 .bf16) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The call finds the padded queries in its operand. -/
theorem V_main_v3 (c : Dev nD) : V m c main_v3 = qc (m ((c : Thread nD τ).loc main_arg2)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The call finds the padded keys in its operand. -/
theorem V_main_v7 (c : Dev nD) : V m c main_v7 = mc (m ((c : Thread nD τ).loc main_arg3)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The call finds the padded values in its operand. -/
theorem V_main_v11 (c : Dev nD) : V m c main_v11 = mc (m ((c : Thread nD τ).loc main_arg4)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The call finds the mixer's weights in its operand. -/
theorem V_main_v14 (c : Dev nD) : V m c main_v14 = mixw (m ((c : Thread nD τ).loc main_arg5)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The call finds the memory's padded weights in its operand. -/
theorem V_main_v19 (c : Dev nD) : V m c main_v19 = memw (m ((c : Thread nD τ).loc main_arg5)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rfl

/-- Which block each window stages at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The residual's block. -/
theorem blk0 (c : Dev nD) (t : Fin cfg0.N) (r : Fin 512) (k : Fin 1024) : iblk m c 0 t (ix2 r k) = (m ((c : Thread nD τ).loc main_arg0) : FVec Ideal S16384x1024 .f32) (ix2 ⟨t.val * 512 + r.val, by have : t.val < 32 := t.isLt; omega⟩ k) := by
  blk_point [iblk, V, idx t]

/-- The mixer's block. -/
theorem blk1 (c : Dev nD) (t : Fin cfg0.N) (r : Fin 512) (k : Fin 768) : iblk m c 1 t (ix2 r k) = (m ((c : Thread nD τ).loc main_arg1) : FVec Ideal S16384x768 .f32) (ix2 ⟨t.val * 512 + r.val, by have : t.val < 32 := t.isLt; omega⟩ k) := by
  have h : iblk m c 1 t (ix2 r k) = V m c main_v12 (ix2 ⟨t.val * 512 + r.val, by have : t.val < 32 := t.isLt; omega⟩ k) := by
    blk_point [iblk, idx t]
  rw [h, V_main_v12]
  rfl

/-- The queries' block. -/
theorem blk2 (c : Dev nD) (t : Fin cfg0.N) (r : Fin 512) (k : Fin 512) : iblk m c 2 t (ix2 r k) = qc (m ((c : Thread nD τ).loc main_arg2)) (ix2 ⟨t.val * 512 + r.val, by have : t.val < 32 := t.isLt; omega⟩ k) := by
  rw [← V_main_v3]
  blk_point [iblk, idx t]

/-- The keys are staged whole, -/
theorem blk3 (c : Dev nD) (t : Fin cfg0.N) : iblk m c 3 t = mc (m ((c : Thread nD τ).loc main_arg3)) := by
  rw [← V_main_v7]
  blk_ext! [iblk, idx t]

/-- the values, -/
theorem blk4 (c : Dev nD) (t : Fin cfg0.N) : iblk m c 4 t = mc (m ((c : Thread nD τ).loc main_arg4)) := by
  rw [← V_main_v11]
  blk_ext! [iblk, idx t]

/-- the mixer's weights -/
theorem blk5 (c : Dev nD) (t : Fin cfg0.N) : iblk m c 5 t = mixw (m ((c : Thread nD τ).loc main_arg5)) := by
  rw [← V_main_v14]
  blk_ext! [iblk, idx t]

/-- and the memory's weights. -/
theorem blk6 (c : Dev nD) (t : Fin cfg0.N) : iblk m c 6 t = memw (m ((c : Thread nD τ).loc main_arg5)) := by
  rw [← V_main_v19]
  blk_ext! [iblk, idx t]

/-- The mixer's part is the reference's. -/
theorem mix_eq (a : FVec Ideal S512x768 .bf16) (x : FVec Ideal S16384x768 .f32) (w : FVec Ideal S1024x1024 .f32) (T : Fin 16384) (r : Fin 512) (k : Fin 1024)
    (ha : ∀ j, a (ix2 r j) = x (ix2 T j)) : ∑ j, a (ix2 r j) * mixw w (ix2 j k) = ∑ j : Fin 768, x (ix2 T j) * w (ix2 ⟨j.val, by omega⟩ k) := by
  refine Finset.sum_congr rfl fun j _ => ?_
  rw [ha]
  pointwise [mixw]

/-- What the body leaves at a row and a column of block `t` is the reference's element. -/
theorem point (c : Dev nD) (t : Fin cfg0.N) (r : Fin 512) (k : Fin 1024) : out0_7 (iblk m c 0 t) (iblk m c 1 t) (iblk m c 2 t) (iblk m c 3 t) (iblk m c 4 t) (iblk m c 5 t) (iblk m c 6 t) (ix2 r k)
    = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, by have : t.val < 32 := t.isLt; omega⟩ k) := by
  rw [out7_at, v22_at, blk3, blk4, blk5, blk6, mix_eq _ (m ((c : Thread nD τ).loc main_arg1)) (m ((c : Thread nD τ).loc main_arg5)) ⟨t.val * 512 + r.val, by have : t.val < 32 := t.isLt; omega⟩ r k (blk1 m c t r), mem_sum _ (m ((c : Thread nD τ).loc main_arg2)) (m ((c : Thread nD τ).loc main_arg3)) (m ((c : Thread nD τ).loc main_arg4)) (m ((c : Thread nD τ).loc main_arg5)) ⟨t.val * 512 + r.val, by have : t.val < 32 := t.isLt; omega⟩ r k (blk2 m c t r), Fin.sum_univ_four, blk0]
  simp only [add_assoc]

/-- The array after the run is the reference's. -/
theorem final (c : Dev nD) : (dats m 0 c).arrAt 7 cfg0.N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hr : (y 0).val < 512 := (y 0).isLt
  have hy : (y 1).val < 1024 := (y 1).isLt
  have ht : t.val < 32 := t.isLt
  have e : (((cfg0.win 7).blk t).view.emb y : S16384x1024.Idx) = ix2 ⟨t.val * 512 + (y 0).val, by omega⟩ ⟨(y 1).val, hy⟩ := by
    blk_ext [idx t]
  have ey : (y : S512x1024.Idx) = ix2 ⟨(y 0).val, hr⟩ ⟨(y 1).val, hy⟩ := by
    blk_ext []
  refine (congrArg _ ey).trans ((point m c t ⟨(y 0).val, hr⟩ ⟨(y 1).val, hy⟩).trans (congrArg (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e).symm)

end Cert.ConvOutKernelIdeal.ConvOutValue

end
-- ==== Proof.ConvOutClaims.lean ====
module

public import proofs.«01_k».proof.Defs
public import proofs.«01_k».proof.Proof.Gen.ConvOutKernel
public import proofs.«01_k».proof.Proof.Gen.ConvOutKernel.Frame
public import proofs.«01_k».proof.Proof.ConvOutValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.ConvOutKernel.Gen.facts Cert.ConvOutKernelIdeal.Gen.facts Cert.OutReferenceIdeal.Gen.facts

/-- The printed kernel runs, keeps its arguments and ends with every counter at zero. -/
theorem frame_ConvOutKernel : Cert.quiescent_ConvOutKernel := fun m g _ => Cert.ConvOutKernel.Gen.frame m g

/-- The idealized kernel runs, keeps its arguments and ends with every counter at zero. -/
theorem frame_ConvOutKernelIdeal : Cert.quiescent_ConvOutKernelIdeal := fun m g _ => Cert.ConvOutKernelIdeal.Gen.frame m g

set_option maxHeartbeats 2000000 in
/-- Over the reals the kernel and the reference end with the same result. -/
theorem algebraic_ConvOut : Cert.algebraic_ConvOutKernelIdeal_OutReferenceIdeal := by
  pair_intro
  · run_from Cert.ConvOutKernelIdeal.Gen.run_main m g
    exact Cert.ConvOutKernelIdeal.Gen.V_main_arg1 m c
    exact Cert.ConvOutKernelIdeal.Gen.V_main_arg2 m c
    exact Cert.ConvOutKernelIdeal.Gen.V_main_arg3 m c
    exact Cert.ConvOutKernelIdeal.Gen.V_main_arg4 m c
    exact Cert.ConvOutKernelIdeal.Gen.V_main_arg5 m c
  · refine (θ_run Cert.OutReferenceIdeal.defs _ _).mono (fun r h c => ?_) (Cert.OutReferenceIdeal.Value.run m' g')
    obtain ⟨h0, h1, h2, h3, h4, h5⟩ := hagree c
    obtain ⟨a0, b⟩ := h c
    refine ⟨a0.trans ((Cert.OutReferenceIdeal.Read.val_main_v22_eq _ _ _ _ _ _).trans ?_), b⟩
    rw [h0, h1, h2, h3, h4, h5]; exact (Cert.ConvOutKernelIdeal.ConvOutValue.final m c).symm

end Cert.Proof

end
-- ==== Proof.ConvValue.lean ====
module

public import proofs.«01_k».proof.Proof.Gen.ConvKernelIdeal.Frame
public import proofs.«01_k».proof.Proof.Gen.ConvReferenceIdeal.Read
public import Idealize.ShloMosaic.Lib.Pipeline.ValueKit
public import Idealize.ShloMosaic.Lib.Pointwise

@[expose] public section

set_option maxRecDepth 16384

noncomputable section

namespace Cert.ConvKernelIdeal.ConvValue

open Idealize.ShloMosaic Idealize.ShloMosaic.TcCoe Idealize.SL.Sem
open Idealize.ShloMosaic.Pipeline (Dat)
open Cert.ConvKernelIdeal Cert.ConvKernelIdeal.Gen Cert.ConvReferenceIdeal.Read

/-- The row `k` rows before row `r` of the block: in the block, or in the eight rows before it, which count as zero in front of the first block. -/
def ext (i : grid0.Coords) (x1 x2 : FVec Ideal S512x768 .f32) (x3 x4 : FVec Ideal S8x768 .f32) (k : ℕ) (r : Fin 512) (c : Fin 768) : EReal :=
  if h : (8 + r.val + 520 - k) % 520 < 8 then
    Scalar.select (Scalar.cmpi CmpIPredicate.sgt (BitVec.ofNat 32 (i 0).val) 0#32) (x3 (ix2 ⟨(8 + r.val + 520 - k) % 520, h⟩ c) * x4 (ix2 ⟨(8 + r.val + 520 - k) % 520, h⟩ c)) 0
  else x1 (ix2 ⟨(8 + r.val + 520 - k) % 520 - 8, by omega⟩ c) * x2 (ix2 ⟨(8 + r.val + 520 - k) % 520 - 8, by omega⟩ c)

/-- What the body computes. -/
theorem pay1_at (i : grid0.Coords) (v0 v1 : FVec Ideal S512x768 .f32) (v4 v5 v14 : FVec Ideal S8x768 .f32) (v27 : FVec Ideal S512x768 .f32) (r : Fin 512) (c : Fin 768) :
    k0_pay1 (F := Ideal) i v0 v1 v4 v5 v14 v27 (ix2 r c) = v27 (ix2 r c) * ((v14 (ix2 0 c) * ext i v0 v1 v4 v5 2 r c + v14 (ix2 1 c) * ext i v0 v1 v4 v5 1 r c)
      + v14 (ix2 2 c) * (v0 (ix2 r c) * v1 (ix2 r c))) := by
  pointwise [k0_pay1, ext]

/-- The block the body leaves. -/
theorem out6_at (i : grid0.Coords) (x0 x1 x2 : FVec Ideal S512x768 .f32) (x3 x4 x5 : FVec Ideal S8x768 .f32) (r : Fin 512) (c : Fin 768) :
    out0_6 (F := Ideal) i x0 x1 x2 x3 x4 x5 (ix2 r c) = x0 (ix2 r c) * ((x5 (ix2 0 c) * ext i x1 x2 x3 x4 2 r c + x5 (ix2 1 c) * ext i x1 x2 x3 x4 1 r c)
      + x5 (ix2 2 c) * (x1 (ix2 r c) * x2 (ix2 r c))) := by
  generalize hy : (ix2 r c : S512x768.Idx) = y
  unfold out0_6
  canon_tiles y h
  all_goals
    subst hy
    have e : y = ix2 r c := by
      funext a
      match a with
      | ⟨0, _⟩ => exact Fin.ext h0.symm
      | ⟨1, _⟩ => exact Fin.ext h1.symm
    rw [e, pay1_at]
    pointwise [ext]

/-- The integer zero the host pads with. -/
theorem pad_zero : (FloatOps.sitofp FTy.f32 (0#32) : Ideal .f32) = (0 : EReal) := by
  show (((0#32 : BitVec 32).toInt : ℝ) : EReal) = 0
  simp

/-- The row `k` rows before row `s` of the sequence, zero in front of it. -/
def back (x1 x2 : FVec Ideal S16384x768 .f32) (k : ℕ) (s : Fin 16384) (c : Fin 768) : EReal :=
  if h : k ≤ s.val then x1 (ix2 ⟨s.val - k, by omega⟩ c) * x2 (ix2 ⟨s.val - k, by omega⟩ c) else 0

/-- The reference's result. -/
theorem v25_at (x0 x1 x2 : FVec Ideal S16384x768 .f32) (x3 : FVec Ideal S3x768 .f32) (s : Fin 16384) (c : Fin 768) :
    val_main_v25 (F := Ideal) x0 x1 x2 x3 (ix2 s c) = x0 (ix2 s c) * ((x3 (ix2 0 c) * back x1 x2 2 s c + x3 (ix2 1 c) * back x1 x2 1 s c)
      + x3 (ix2 2 c) * (x1 (ix2 s c) * x2 (ix2 s c))) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_v7, val_main_v6, val_main_v5, val_main_v4, val_main_v3, val_main_v2, val_main_v1, val_main_call0_v0, val_main_c, val_main_v0]
  rw [pad_zero]
  have h2 : (if h : 2 ≤ s.val ∧ s.val - 2 < 16384 then x1 (ix2 ⟨s.val - 2, h.2⟩ c) * x2 (ix2 ⟨s.val - 2, h.2⟩ c) else (0 : EReal)) = back x1 x2 2 s c := by
    unfold back
    by_cases h : 2 ≤ s.val
    · rw [dif_pos h, dif_pos ⟨h, by omega⟩]
    · rw [dif_neg h, dif_neg fun h' => h h'.1]
  have h1 : (if h : 2 ≤ 1 + s.val ∧ 1 + s.val - 2 < 16384 then x1 (ix2 ⟨1 + s.val - 2, h.2⟩ c) * x2 (ix2 ⟨1 + s.val - 2, h.2⟩ c) else (0 : EReal)) = back x1 x2 1 s c := by
    unfold back
    by_cases h : 1 ≤ s.val
    · have e : (⟨1 + s.val - 2, by omega⟩ : Fin 16384) = ⟨s.val - 1, by omega⟩ := Fin.ext (by show 1 + s.val - 2 = s.val - 1; omega)
      rw [dif_pos h, dif_pos ⟨by omega, by omega⟩]
      exact congrArg (fun j => x1 (ix2 j c) * x2 (ix2 j c)) e
    · rw [dif_neg h, dif_neg fun h' => h (by omega)]
  exact congrArg (x0 (ix2 s c) * ·) (congrArg (· + _) (congr (congrArg HAdd.hAdd (congrArg (_ * ·) h2)) (congrArg (_ * ·) h1)))

variable (m : (ℓ : Loc nD τ sig) → Buf (Elt Ideal) ℓ)

/-- The taps as the host lays them out: three rows of eight, the rest zero. -/
def taps (w : FVec Ideal S3x768 .f32) : FVec Ideal S8x768 .f32 :=
  pad S8x768 ![0, 0] ![5, 0] ![0, 0] w (sitofp .f32 (constantI S_ 32 0#32)) pads_S3x768_S8x768_050_000 h_S_

/-- The call finds the taps in its last operand. -/
theorem V_main_v0 (c : Dev nD) : V m c main_v0 = taps (m ((c : Thread nD τ).loc main_arg3)) := by
  simp only [V, hostOps0, hostOps0_1, List.flatten_cons, List.flatten_nil, List.append_nil, List.cons_append, List.nil_append]
  entry_read
  rfl

/-- Which block each window stages at grid point `t`. -/
theorem idx : ∀ t : Fin cfg0.N, win0_0.index t = ![t.val, 0] ∧ win0_1.index t = ![t.val, 0] ∧ win0_2.index t = ![t.val, 0] ∧ win0_3.index t = ![t.val * 64 - 1, 0] ∧ win0_4.index t = ![t.val * 64 - 1, 0] ∧ win0_5.index t = ![0, 0] ∧ win0_6.index t = ![t.val, 0] :=
  (by decide +kernel : ∀ t : Fin grid0.N, _)

/-- The body tells the first block from the others. -/
theorem first : ∀ t : Fin cfg0.N, Scalar.cmpi CmpIPredicate.sgt (BitVec.ofNat 32 (grid0.coords t 0).val) 0#32 = if t.val = 0 then 0#1 else 1#1 :=
  (by decide +kernel : ∀ t : Fin grid0.N, _)

/-- The output gate's block, -/
theorem blk0 (c : Dev nD) (t : Fin cfg0.N) (r : Fin 512) (k : Fin 768) : iblk m c 0 t (ix2 r k) = (m ((c : Thread nD τ).loc main_arg0) : FVec Ideal S16384x768 .f32) (ix2 ⟨t.val * 512 + r.val, by have : t.val < 32 := t.isLt; omega⟩ k) := by
  blk_point [iblk, V, idx t]

/-- the input gate's, -/
theorem blk1 (c : Dev nD) (t : Fin cfg0.N) (r : Fin 512) (k : Fin 768) : iblk m c 1 t (ix2 r k) = (m ((c : Thread nD τ).loc main_arg1) : FVec Ideal S16384x768 .f32) (ix2 ⟨t.val * 512 + r.val, by have : t.val < 32 := t.isLt; omega⟩ k) := by
  blk_point [iblk, V, idx t]

/-- the values', -/
theorem blk2 (c : Dev nD) (t : Fin cfg0.N) (r : Fin 512) (k : Fin 768) : iblk m c 2 t (ix2 r k) = (m ((c : Thread nD τ).loc main_arg2) : FVec Ideal S16384x768 .f32) (ix2 ⟨t.val * 512 + r.val, by have : t.val < 32 := t.isLt; omega⟩ k) := by
  blk_point [iblk, V, idx t]

/-- the eight rows before the input gate's -/
theorem blk3 (c : Dev nD) (t : Fin cfg0.N) (r : Fin 8) (k : Fin 768) : iblk m c 3 t (ix2 r k) = (m ((c : Thread nD τ).loc main_arg1) : FVec Ideal S16384x768 .f32) (ix2 ⟨(t.val * 64 - 1) * 8 + r.val, by have : t.val < 32 := t.isLt; omega⟩ k) := by
  blk_point [iblk, V, idx t]

/-- and before the values'. -/
theorem blk4 (c : Dev nD) (t : Fin cfg0.N) (r : Fin 8) (k : Fin 768) : iblk m c 4 t (ix2 r k) = (m ((c : Thread nD τ).loc main_arg2) : FVec Ideal S16384x768 .f32) (ix2 ⟨(t.val * 64 - 1) * 8 + r.val, by have : t.val < 32 := t.isLt; omega⟩ k) := by
  blk_point [iblk, V, idx t]

/-- The taps are staged whole. -/
theorem blk5 (c : Dev nD) (t : Fin cfg0.N) : iblk m c 5 t = taps (m ((c : Thread nD τ).loc main_arg3)) := by
  rw [← V_main_v0]
  blk_ext! [iblk, idx t]

/-- A tap. -/
theorem taps_at (w : FVec Ideal S3x768 .f32) (k : Fin 768) : taps w (ix2 0 k) = w (ix2 0 k) ∧ taps w (ix2 1 k) = w (ix2 1 k) ∧ taps w (ix2 2 k) = w (ix2 2 k) := by
  refine ⟨?_, ?_, ?_⟩ <;> pointwise [taps]

/-- The product at a row depends only on the row's number. -/
theorem row_congr (x1 x2 : FVec Ideal S16384x768 .f32) {i i' : Fin 16384} (h : i.val = i'.val) (j : Fin 768) :
    x1 (ix2 i j) * x2 (ix2 i j) = x1 (ix2 i' j) * x2 (ix2 i' j) := by
  rw [Fin.ext h]

/-- One or two rows before a row of a block is one or two rows before the sequence's row. -/
theorem ext_at (c : Dev nD) (t : Fin cfg0.N) (k : ℕ) (hk : 1 ≤ k ∧ k ≤ 2) (r : Fin 512) (j : Fin 768) :
    ext (grid0.coords t) (iblk m c 1 t) (iblk m c 2 t) (iblk m c 3 t) (iblk m c 4 t) k r j = back (m ((c : Thread nD τ).loc main_arg1)) (m ((c : Thread nD τ).loc main_arg2)) k ⟨t.val * 512 + r.val, by have : t.val < 32 := t.isLt; omega⟩ j := by
  have ht : t.val < 32 := t.isLt
  unfold ext back
  by_cases hr : k ≤ r.val
  · have h : ¬(8 + r.val + 520 - k) % 520 < 8 := by omega
    have hs : k ≤ t.val * 512 + r.val := by omega
    rw [dif_neg h, dif_pos hs, blk1, blk2]
    exact row_congr _ _ (show t.val * 512 + ((8 + r.val + 520 - k) % 520 - 8) = t.val * 512 + r.val - k by omega) j
  · have h : (8 + r.val + 520 - k) % 520 < 8 := by omega
    rw [dif_pos h, first, blk3, blk4]
    by_cases h0 : t.val = 0
    · have hs : ¬k ≤ t.val * 512 + r.val := by omega
      rw [dif_neg hs, if_pos h0]
      rfl
    · have hs : k ≤ t.val * 512 + r.val := by omega
      rw [dif_pos hs, if_neg h0]
      exact row_congr _ _ (show (t.val * 64 - 1) * 8 + (8 + r.val + 520 - k) % 520 = t.val * 512 + r.val - k by omega) j

/-- What the body leaves at a row and a column of block `t` is the reference's element. -/
theorem point (c : Dev nD) (t : Fin cfg0.N) (r : Fin 512) (k : Fin 768) :
    out0_6 (grid0.coords t) (iblk m c 0 t) (iblk m c 1 t) (iblk m c 2 t) (iblk m c 3 t) (iblk m c 4 t) (iblk m c 5 t) (ix2 r k)
    = val_main_v25 (F := Ideal) (m ((c : Thread nD τ).loc main_arg0)) (m ((c : Thread nD τ).loc main_arg1)) (m ((c : Thread nD τ).loc main_arg2)) (m ((c : Thread nD τ).loc main_arg3)) (ix2 ⟨t.val * 512 + r.val, by have : t.val < 32 := t.isLt; omega⟩ k) := by
  rw [out6_at, v25_at, blk5, (taps_at _ k).1, (taps_at _ k).2.1, (taps_at _ k).2.2, ext_at m c t 2 (by decide), ext_at m c t 1 (by decide), blk0, blk1, blk2]

/-- The array after the run is the reference's. -/
theorem final (c : Dev nD) : (dats m 0 c).arrAt 6 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  have hr : (y 0).val < 512 := (y 0).isLt
  have hy : (y 1).val < 768 := (y 1).isLt
  have ht : t.val < 32 := t.isLt
  have e : (((cfg0.win 6).blk t).view.emb y : S16384x768.Idx) = ix2 ⟨t.val * 512 + (y 0).val, by omega⟩ ⟨(y 1).val, hy⟩ := by
    blk_ext [idx t]
  have ey : (y : S512x768.Idx) = ix2 ⟨(y 0).val, hr⟩ ⟨(y 1).val, hy⟩ := by
    blk_ext []
  refine (congrArg _ ey).trans ((point m c t ⟨(y 0).val, hr⟩ ⟨(y 1).val, hy⟩).trans (congrArg (val_main_v25 (F := Ideal) (m ((c : Thread nD τ).loc main_arg0)) (m ((c : Thread nD τ).loc main_arg1)) (m ((c : Thread nD τ).loc main_arg2)) (m ((c : Thread nD τ).loc main_arg3))) e).symm)

end Cert.ConvKernelIdeal.ConvValue

end
-- ==== Proof.ConvClaims.lean ====
module

public import proofs.«01_k».proof.Defs
public import proofs.«01_k».proof.Proof.Gen.ConvKernel
public import proofs.«01_k».proof.Proof.Gen.ConvKernel.Frame
public import proofs.«01_k».proof.Proof.ConvValue
public import Idealize.ShloMosaic.Lib.Claim
public import Idealize.ShloMosaic.Lib.Quiescent

@[expose] public section

set_option maxRecDepth 16384

noncomputable section

namespace Cert.Proof

open Idealize.ShloMosaic Idealize.SL.Sem

attribute [local instance] Cert.ConvKernel.Gen.facts Cert.ConvKernelIdeal.Gen.facts Cert.ConvReferenceIdeal.Gen.facts

/-- The printed kernel runs, keeps its arguments and ends with every counter at zero. -/
theorem frame_ConvKernel : Cert.quiescent_ConvKernel := fun m g _ => Cert.ConvKernel.Gen.frame m g

/-- The idealized kernel runs, keeps its arguments and ends with every counter at zero. -/
theorem frame_ConvKernelIdeal : Cert.quiescent_ConvKernelIdeal := fun m g _ => Cert.ConvKernelIdeal.Gen.frame m g

/-- The reference runs, keeps its arguments and ends with every counter at zero. -/
theorem frame_ConvReferenceIdeal : Cert.quiescent_ConvReferenceIdeal := fun m g _ =>
  (θ_run Cert.ConvReferenceIdeal.defs _ _).mono (fun r h => ⟨fun c => (h c).2, sem_eq_zero_of_no_sems (by decide) r.2⟩)
    (Cert.ConvReferenceIdeal.Value.run (F := Ideal) m g)

set_option maxHeartbeats 2000000 in
/-- Over the reals the kernel and the reference end with the same result. -/
theorem algebraic_Conv : Cert.algebraic_ConvKernelIdeal_ConvReferenceIdeal := by
  pair_intro
  · run_from Cert.ConvKernelIdeal.Gen.run_main m g
    exact Cert.ConvKernelIdeal.Gen.V_main_arg3 m c
  · refine (θ_run Cert.ConvReferenceIdeal.defs _ _).mono (fun r h c => ?_) (Cert.ConvReferenceIdeal.Value.run m' g')
    obtain ⟨h0, h1, h2, h3⟩ := hagree c
    obtain ⟨a0, b⟩ := h c
    refine ⟨a0.trans ((Cert.ConvReferenceIdeal.Read.val_main_v25_eq _ _ _ _).trans ?_), b⟩
    rw [h0, h1, h2, h3]; exact (Cert.ConvKernelIdeal.ConvValue.final m c).symm

end Cert.Proof

end
-- ==== Proof.lean ====
module

public import proofs.«01_k».proof.Defs
public import proofs.«01_k».proof.Proof.FoxClaims
public import proofs.«01_k».proof.Proof.FfnClaims
public import proofs.«01_k».proof.Proof.LastClaims
public import proofs.«01_k».proof.Proof.FoxProjClaims
public import proofs.«01_k».proof.Proof.ConvProjClaims
public import proofs.«01_k».proof.Proof.MemProjClaims
public import proofs.«01_k».proof.Proof.OutClaims
public import proofs.«01_k».proof.Proof.ConvOutClaims
public import proofs.«01_k».proof.Proof.ConvClaims

@[expose] public section

noncomputable section

namespace Cert.Proof

/-- Every claim of the certificate: the frames, the preservations and the value claims of each call. -/
theorem claim : Cert.Claim :=
  ⟨Cert.FoxKernel.Gen.facts, Cert.FoxKernelIdeal.Gen.facts, Cert.FoxReferenceIdeal.Gen.facts, Cert.FfnKernel.Gen.facts, Cert.FfnKernelIdeal.Gen.facts, Cert.FfnReferenceIdeal.Gen.facts, Cert.LastKernel.Gen.facts, Cert.LastKernelIdeal.Gen.facts, Cert.LastReferenceIdeal.Gen.facts, Cert.FoxProjKernel.Gen.facts, Cert.FoxProjKernelIdeal.Gen.facts, Cert.FoxProjReferenceIdeal.Gen.facts, Cert.ConvProjKernel.Gen.facts, Cert.ConvProjKernelIdeal.Gen.facts, Cert.ConvProjReferenceIdeal.Gen.facts, Cert.MemProjKernel.Gen.facts, Cert.MemProjKernelIdeal.Gen.facts, Cert.MemProjReferenceIdeal.Gen.facts, Cert.OutKernel.Gen.facts, Cert.OutKernelIdeal.Gen.facts, Cert.OutReferenceIdeal.Gen.facts, Cert.ConvOutKernel.Gen.facts, Cert.ConvOutKernelIdeal.Gen.facts, Cert.ConvKernel.Gen.facts, Cert.ConvKernelIdeal.Gen.facts, Cert.ConvReferenceIdeal.Gen.facts, Cert.Pre_fox_finite.Gen.facts,
    frame_FoxKernel,
    frame_FoxKernelIdeal,
    frame_FoxKernelIdeal_pre,
    frame_FoxReferenceIdeal,
    frame_FoxReferenceIdeal_pre,
    frame_FfnKernel,
    frame_FfnKernelIdeal,
    frame_FfnReferenceIdeal,
    frame_LastKernel,
    frame_LastKernelIdeal,
    frame_LastReferenceIdeal,
    frame_FoxProjKernel,
    frame_FoxProjKernelIdeal,
    frame_FoxProjReferenceIdeal,
    frame_ConvProjKernel,
    frame_ConvProjKernelIdeal,
    frame_ConvProjReferenceIdeal,
    frame_MemProjKernel,
    frame_MemProjKernelIdeal,
    frame_MemProjReferenceIdeal,
    frame_OutKernel,
    frame_OutKernelIdeal,
    frame_OutReferenceIdeal,
    frame_ConvOutKernel,
    frame_ConvOutKernelIdeal,
    frame_ConvKernel,
    frame_ConvKernelIdeal,
    frame_ConvReferenceIdeal,
    preserves_Fox,
    algebraic_Fox,
    trivial,
    algebraic_Ffn,
    trivial,
    algebraic_Last,
    trivial,
    algebraic_FoxProj,
    trivial,
    algebraic_ConvProj,
    trivial,
    algebraic_MemProj,
    trivial,
    algebraic_Out,
    trivial,
    algebraic_ConvOut,
    trivial,
    algebraic_Conv⟩

end Cert.Proof

end
